-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128x2048 : Shape := ⟨3, ![32, 128, 2048]⟩
abbrev S32x2048 : Shape := ⟨2, ![32, 2048]⟩
abbrev S8x128 : Shape := ⟨2, ![8, 128]⟩
abbrev S32x1 : Shape := ⟨2, ![32, 1]⟩
abbrev S32x1024 : Shape := ⟨2, ![32, 1024]⟩
abbrev S32x1536 : Shape := ⟨2, ![32, 1536]⟩
abbrev S32x512 : Shape := ⟨2, ![32, 512]⟩
abbrev S32x1792 : Shape := ⟨2, ![32, 1792]⟩
abbrev S32x256 : Shape := ⟨2, ![32, 256]⟩
abbrev S32x1920 : Shape := ⟨2, ![32, 1920]⟩
abbrev S32x128 : Shape := ⟨2, ![32, 128]⟩
abbrev S32x1984 : Shape := ⟨2, ![32, 1984]⟩
abbrev S32x64 : Shape := ⟨2, ![32, 64]⟩
abbrev S32x2016 : Shape := ⟨2, ![32, 2016]⟩
abbrev S32x32 : Shape := ⟨2, ![32, 32]⟩
abbrev S32x2032 : Shape := ⟨2, ![32, 2032]⟩
abbrev S32x16 : Shape := ⟨2, ![32, 16]⟩
abbrev S32x2040 : Shape := ⟨2, ![32, 2040]⟩
abbrev S32x8 : Shape := ⟨2, ![32, 8]⟩
abbrev S32x2044 : Shape := ⟨2, ![32, 2044]⟩
abbrev S32x4 : Shape := ⟨2, ![32, 4]⟩
abbrev S32x2046 : Shape := ⟨2, ![32, 2046]⟩
abbrev S32x2 : Shape := ⟨2, ![32, 2]⟩
abbrev S32x2047 : Shape := ⟨2, ![32, 2047]⟩
abbrev S32 : Shape := ⟨1, ![32]⟩
abbrev S32x1025 : Shape := ⟨2, ![32, 1025]⟩
abbrev S32x1023 : Shape := ⟨2, ![32, 1023]⟩
abbrev S32x1538 : Shape := ⟨2, ![32, 1538]⟩
abbrev S32x510 : Shape := ⟨2, ![32, 510]⟩
abbrev S32x1796 : Shape := ⟨2, ![32, 1796]⟩
abbrev S32x252 : Shape := ⟨2, ![32, 252]⟩
abbrev S32x1928 : Shape := ⟨2, ![32, 1928]⟩
abbrev S32x120 : Shape := ⟨2, ![32, 120]⟩
abbrev S32x2000 : Shape := ⟨2, ![32, 2000]⟩
abbrev S32x48 : Shape := ⟨2, ![32, 48]⟩

abbrev nBuf : Space → Nat
  | .hbm => 2
  | .vmem => 2
  | .smem => 0
  | _ => 0

abbrev bufTy : (tb : Table) → Fin (tcTables nBuf tb) → BufTy
  | .hbm, ⟨0, _⟩ => ⟨S32x128x2048, .f32⟩
  | .hbm, ⟨1, _⟩ => ⟨S32x2048, .f32⟩
  | .local _ .vmem, ⟨0, _⟩ => ⟨S32x2048, .f32⟩
  | .local _ .vmem, ⟨1, _⟩ => ⟨S8x128, .i32⟩
  | _, _ => ⟨S32x128x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32x128x2048 : Shape := ⟨3, ![32, 128, 2048]⟩
abbrev S_ : Shape := ⟨0, ![]⟩
abbrev S1 : Shape := ⟨1, ![1]⟩
abbrev S2 : Shape := ⟨1, ![2]⟩
abbrev S32 : Shape := ⟨1, ![32]⟩
abbrev S32x1 : Shape := ⟨2, ![32, 1]⟩
abbrev S32x2 : Shape := ⟨2, ![32, 2]⟩
abbrev S2048 : Shape := ⟨1, ![2048]⟩
abbrev S1x2 : Shape := ⟨2, ![1, 2]⟩
abbrev S32x2x1 : Shape := ⟨3, ![32, 2, 1]⟩
abbrev S32x2x2 : Shape := ⟨3, ![32, 2, 2]⟩
abbrev S32x1x2 : Shape := ⟨3, ![32, 1, 2]⟩
abbrev S1x2048 : Shape := ⟨2, ![1, 2048]⟩
abbrev S32x2048 : Shape := ⟨2, ![32, 2048]⟩
abbrev S32x307 : Shape := ⟨2, ![32, 307]⟩
abbrev S32x307x1 : Shape := ⟨3, ![32, 307, 1]⟩
abbrev S32x307x2 : Shape := ⟨3, ![32, 307, 2]⟩

abbrev nBuf : Space → Nat
  | .hbm => 1265
  | .vmem => 0
  | .smem => 0
  | _ => 0

abbrev hbmTy0_0 (i : Nat) : BufTy := match i % 128 with
  | 0 => ⟨S32x128x2048, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S32, .i64⟩
  | 16 => ⟨S_, .i64⟩
  | 17 => ⟨S32, .i64⟩
  | 18 => ⟨S32, .i64⟩
  | 19 => ⟨S_, .i64⟩
  | 20 => ⟨S32, .i64⟩
  | 21 => ⟨S32, .i64⟩
  | 22 => ⟨S32, .i32⟩
  | 23 => ⟨S32, .i32⟩
  | 24 => ⟨S_, .i32⟩
  | 25 => ⟨S_, .i32⟩
  | 26 => ⟨S_, .i32⟩
  | 27 => ⟨S32, .i32⟩
  | 28 => ⟨S32, .i32⟩
  | 29 => ⟨S32, .i32⟩
  | 30 => ⟨S32, .i32⟩
  | 31 => ⟨S32, .i32⟩
  | 32 => ⟨S_, .i32⟩
  | 33 => ⟨S32, .i32⟩
  | 34 => ⟨S32, .i32⟩
  | 35 => ⟨S_, .i32⟩
  | 36 => ⟨S32, .i32⟩
  | 37 => ⟨S32, .i32⟩
  | 38 => ⟨S32, .i32⟩
  | 39 => ⟨S32, .i32⟩
  | 40 => ⟨S32, .i32⟩
  | 41 => ⟨S_, .i32⟩
  | 42 => ⟨S32, .i32⟩
  | 43 => ⟨S32, .i32⟩
  | 44 => ⟨S_, .i32⟩
  | 45 => ⟨S32, .i32⟩
  | 46 => ⟨S32, .i32⟩
  | 47 => ⟨S32, .i32⟩
  | 48 => ⟨S32, .i32⟩
  | 49 => ⟨S32, .i32⟩
  | 50 => ⟨S_, .i32⟩
  | 51 => ⟨S32, .i32⟩
  | 52 => ⟨S32, .i32⟩
  | 53 => ⟨S_, .i32⟩
  | 54 => ⟨S32, .i32⟩
  | 55 => ⟨S32, .i32⟩
  | 56 => ⟨S32, .i32⟩
  | 57 => ⟨S32, .i32⟩
  | 58 => ⟨S32, .i32⟩
  | 59 => ⟨S_, .i32⟩
  | 60 => ⟨S32, .i32⟩
  | 61 => ⟨S32, .i32⟩
  | 62 => ⟨S_, .i32⟩
  | 63 => ⟨S32, .i32⟩
  | 64 => ⟨S32, .i32⟩
  | 65 => ⟨S32, .i32⟩
  | 66 => ⟨S32, .i32⟩
  | 67 => ⟨S32, .i32⟩
  | 68 => ⟨S32, .i32⟩
  | 69 => ⟨S32, .i32⟩
  | 70 => ⟨S32, .i32⟩
  | 71 => ⟨S_, .i32⟩
  | 72 => ⟨S32, .i32⟩
  | 73 => ⟨S32, .i32⟩
  | 74 => ⟨S32, .i32⟩
  | 75 => ⟨S_, .i32⟩
  | 76 => ⟨S32, .i32⟩
  | 77 => ⟨S32, .i32⟩
  | 78 => ⟨S_, .i32⟩
  | 79 => ⟨S32, .i32⟩
  | 80 => ⟨S32, .i32⟩
  | 81 => ⟨S32, .i32⟩
  | 82 => ⟨S32, .i32⟩
  | 83 => ⟨S32, .i32⟩
  | 84 => ⟨S_, .i32⟩
  | 85 => ⟨S32, .i32⟩
  | 86 => ⟨S32, .i32⟩
  | 87 => ⟨S_, .i32⟩
  | 88 => ⟨S32, .i32⟩
  | 89 => ⟨S32, .i32⟩
  | 90 => ⟨S32, .i32⟩
  | 91 => ⟨S32, .i32⟩
  | 92 => ⟨S32, .i32⟩
  | 93 => ⟨S_, .i32⟩
  | 94 => ⟨S32, .i32⟩
  | 95 => ⟨S32, .i32⟩
  | 96 => ⟨S_, .i32⟩
  | 97 => ⟨S32, .i32⟩
  | 98 => ⟨S32, .i32⟩
  | 99 => ⟨S32, .i32⟩
  | 100 => ⟨S32, .i32⟩
  | 101 => ⟨S32, .i32⟩
  | 102 => ⟨S_, .i32⟩
  | 103 => ⟨S32, .i32⟩
  | 104 => ⟨S32, .i32⟩
  | 105 => ⟨S_, .i32⟩
  | 106 => ⟨S32, .i32⟩
  | 107 => ⟨S32, .i32⟩
  | 108 => ⟨S32, .i32⟩
  | 109 => ⟨S32, .i32⟩
  | 110 => ⟨S32, .i32⟩
  | 111 => ⟨S32, .i32⟩
  | 112 => ⟨S32, .i32⟩
  | 113 => ⟨S32, .i32⟩
  | 114 => ⟨S_, .i32⟩
  | 115 => ⟨S32, .i32⟩
  | 116 => ⟨S32, .i32⟩
  | 117 => ⟨S32, .i32⟩
  | 118 => ⟨S_, .i32⟩
  | 119 => ⟨S32, .i32⟩
  | 120 => ⟨S32, .i32⟩
  | 121 => ⟨S_, .i32⟩
  | 122 => ⟨S32, .i32⟩
  | 123 => ⟨S32, .i32⟩
  | 124 => ⟨S32, .i32⟩
  | 125 => ⟨S32, .i32⟩
  | 126 => ⟨S32, .i32⟩
  | 127 => ⟨S_, .i32⟩
  | _ => ⟨S32x128x2048, .f32⟩

abbrev hbmTy0_1 (i : Nat) : BufTy := match i % 128 with
  | 0 => ⟨S32, .i32⟩
  | 1 => ⟨S32, .i32⟩
  | 2 => ⟨S_, .i32⟩
  | 3 => ⟨S32, .i32⟩
  | 4 => ⟨S32, .i32⟩
  | 5 => ⟨S32, .i32⟩
  | 6 => ⟨S32, .i32⟩
  | 7 => ⟨S32, .i32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S32, .i32⟩
  | 15 => ⟨S32, .i32⟩
  | 16 => ⟨S32, .i32⟩
  | 17 => ⟨S_, .i32⟩
  | 18 => ⟨S32, .i32⟩
  | 19 => ⟨S32, .i32⟩
  | 20 => ⟨S_, .i32⟩
  | 21 => ⟨S32, .i32⟩
  | 22 => ⟨S32, .i32⟩
  | 23 => ⟨S32, .i32⟩
  | 24 => ⟨S32, .i32⟩
  | 25 => ⟨S32, .i32⟩
  | 26 => ⟨S32, .i32⟩
  | 27 => ⟨S32, .i32⟩
  | 28 => ⟨S32, .i32⟩
  | 29 => ⟨S_, .i32⟩
  | 30 => ⟨S32, .i32⟩
  | 31 => ⟨S32, .i32⟩
  | 32 => ⟨S32, .i32⟩
  | 33 => ⟨S_, .i32⟩
  | 34 => ⟨S32, .i32⟩
  | 35 => ⟨S32, .i32⟩
  | 36 => ⟨S_, .i32⟩
  | 37 => ⟨S32, .i32⟩
  | 38 => ⟨S32, .i32⟩
  | 39 => ⟨S32, .i32⟩
  | 40 => ⟨S32, .i32⟩
  | 41 => ⟨S32, .i32⟩
  | 42 => ⟨S_, .i32⟩
  | 43 => ⟨S32, .i32⟩
  | 44 => ⟨S32, .i32⟩
  | 45 => ⟨S_, .i32⟩
  | 46 => ⟨S32, .i32⟩
  | 47 => ⟨S32, .i32⟩
  | 48 => ⟨S32, .i32⟩
  | 49 => ⟨S32, .i32⟩
  | 50 => ⟨S32, .i32⟩
  | 51 => ⟨S_, .i32⟩
  | 52 => ⟨S32, .i32⟩
  | 53 => ⟨S32, .i32⟩
  | 54 => ⟨S_, .i32⟩
  | 55 => ⟨S32, .i32⟩
  | 56 => ⟨S32, .i32⟩
  | 57 => ⟨S32, .i32⟩
  | 58 => ⟨S32, .i32⟩
  | 59 => ⟨S32, .i32⟩
  | 60 => ⟨S_, .i32⟩
  | 61 => ⟨S32, .i32⟩
  | 62 => ⟨S32, .i32⟩
  | 63 => ⟨S_, .i32⟩
  | 64 => ⟨S32, .i32⟩
  | 65 => ⟨S32, .i32⟩
  | 66 => ⟨S32, .i32⟩
  | 67 => ⟨S32, .i32⟩
  | 68 => ⟨S32, .i32⟩
  | 69 => ⟨S32, .i32⟩
  | 70 => ⟨S32, .i32⟩
  | 71 => ⟨S32, .i32⟩
  | 72 => ⟨S_, .i32⟩
  | 73 => ⟨S32, .i32⟩
  | 74 => ⟨S32, .i32⟩
  | 75 => ⟨S32, .i32⟩
  | 76 => ⟨S_, .i32⟩
  | 77 => ⟨S32, .i32⟩
  | 78 => ⟨S32, .i32⟩
  | 79 => ⟨S_, .i32⟩
  | 80 => ⟨S32, .i32⟩
  | 81 => ⟨S32, .i32⟩
  | 82 => ⟨S32, .i32⟩
  | 83 => ⟨S32, .i32⟩
  | 84 => ⟨S32, .i32⟩
  | 85 => ⟨S_, .i32⟩
  | 86 => ⟨S32, .i32⟩
  | 87 => ⟨S32, .i32⟩
  | 88 => ⟨S_, .i32⟩
  | 89 => ⟨S32, .i32⟩
  | 90 => ⟨S32, .i32⟩
  | 91 => ⟨S32, .i32⟩
  | 92 => ⟨S32, .i32⟩
  | 93 => ⟨S32, .i32⟩
  | 94 => ⟨S_, .i32⟩
  | 95 => ⟨S32, .i32⟩
  | 96 => ⟨S32, .i32⟩
  | 97 => ⟨S_, .i32⟩
  | 98 => ⟨S32, .i32⟩
  | 99 => ⟨S32, .i32⟩
  | 100 => ⟨S32, .i32⟩
  | 101 => ⟨S32, .i32⟩
  | 102 => ⟨S32, .i32⟩
  | 103 => ⟨S_, .i32⟩
  | 104 => ⟨S32, .i32⟩
  | 105 => ⟨S32, .i32⟩
  | 106 => ⟨S_, .i32⟩
  | 107 => ⟨S32, .i32⟩
  | 108 => ⟨S32, .i32⟩
  | 109 => ⟨S32, .i32⟩
  | 110 => ⟨S32, .i32⟩
  | 111 => ⟨S32, .i32⟩
  | 112 => ⟨S32, .i32⟩
  | 113 => ⟨S32, .i32⟩
  | 114 => ⟨S32, .i32⟩
  | 115 => ⟨S_, .i32⟩
  | 116 => ⟨S32, .i32⟩
  | 117 => ⟨S32, .i32⟩
  | 118 => ⟨S32x1, .i32⟩
  | 119 => ⟨S32x1, .i32⟩
  | 120 => ⟨S32x2, .i32⟩
  | 121 => ⟨S2048, .i32⟩
  | 122 => ⟨S32x1, .i32⟩
  | 123 => ⟨S32, .i32⟩
  | 124 => ⟨S32x1, .i32⟩
  | 125 => ⟨S32, .i32⟩
  | 126 => ⟨S2, .i64⟩
  | 127 => ⟨S_, .i64⟩
  | _ => ⟨S32x128x2048, .f32⟩

abbrev hbmTy0_2 (i : Nat) : BufTy := match i % 128 with
  | 0 => ⟨S2, .i64⟩
  | 1 => ⟨S2, .i64⟩
  | 2 => ⟨S_, .i64⟩
  | 3 => ⟨S2, .i64⟩
  | 4 => ⟨S2, .i64⟩
  | 5 => ⟨S2, .i32⟩
  | 6 => ⟨S2, .i32⟩
  | 7 => ⟨S1x2, .i32⟩
  | 8 => ⟨S1x2, .i32⟩
  | 9 => ⟨S32x1, .i32⟩
  | 10 => ⟨S32x1, .i32⟩
  | 11 => ⟨S32x1, .i32⟩
  | 12 => ⟨S_, .i32⟩
  | 13 => ⟨S32x1, .i32⟩
  | 14 => ⟨S32x1, .i32⟩
  | 15 => ⟨S32x2, .i32⟩
  | 16 => ⟨S32x2, .i32⟩
  | 17 => ⟨S32x2, .i32⟩
  | 18 => ⟨S32x2, .i32⟩
  | 19 => ⟨S32x2, .i32⟩
  | 20 => ⟨S32x2, .i32⟩
  | 21 => ⟨S32x2, .i32⟩
  | 22 => ⟨S_, .i32⟩
  | 23 => ⟨S32x2, .i32⟩
  | 24 => ⟨S32x2, .i32⟩
  | 25 => ⟨S_, .i32⟩
  | 26 => ⟨S32x2, .i32⟩
  | 27 => ⟨S32x2, .i32⟩
  | 28 => ⟨S32x2, .i32⟩
  | 29 => ⟨S32x2, .i32⟩
  | 30 => ⟨S32x2, .i32⟩
  | 31 => ⟨S_, .i32⟩
  | 32 => ⟨S32x2, .i32⟩
  | 33 => ⟨S32x2, .i32⟩
  | 34 => ⟨S_, .i32⟩
  | 35 => ⟨S32x2, .i32⟩
  | 36 => ⟨S32x2, .i32⟩
  | 37 => ⟨S32x2, .i32⟩
  | 38 => ⟨S32x2, .i32⟩
  | 39 => ⟨S32x2, .i32⟩
  | 40 => ⟨S_, .i32⟩
  | 41 => ⟨S32x2, .i32⟩
  | 42 => ⟨S32x2, .i32⟩
  | 43 => ⟨S_, .i32⟩
  | 44 => ⟨S32x2, .i32⟩
  | 45 => ⟨S32x2, .i32⟩
  | 46 => ⟨S32x2, .i32⟩
  | 47 => ⟨S32x2, .i32⟩
  | 48 => ⟨S32x2, .i32⟩
  | 49 => ⟨S_, .i32⟩
  | 50 => ⟨S32x2, .i32⟩
  | 51 => ⟨S32x2, .i32⟩
  | 52 => ⟨S_, .i32⟩
  | 53 => ⟨S32x2, .i32⟩
  | 54 => ⟨S32x2, .i32⟩
  | 55 => ⟨S32x2, .i32⟩
  | 56 => ⟨S32x2, .i32⟩
  | 57 => ⟨S32x2, .i32⟩
  | 58 => ⟨S32x2, .i32⟩
  | 59 => ⟨S32x2, .i32⟩
  | 60 => ⟨S32x2, .i32⟩
  | 61 => ⟨S_, .i32⟩
  | 62 => ⟨S32x2, .i32⟩
  | 63 => ⟨S32x2, .i32⟩
  | 64 => ⟨S32x2, .i32⟩
  | 65 => ⟨S_, .i32⟩
  | 66 => ⟨S32x2, .i32⟩
  | 67 => ⟨S32x2, .i32⟩
  | 68 => ⟨S_, .i32⟩
  | 69 => ⟨S32x2, .i32⟩
  | 70 => ⟨S32x2, .i32⟩
  | 71 => ⟨S32x2, .i32⟩
  | 72 => ⟨S32x2, .i32⟩
  | 73 => ⟨S32x2, .i32⟩
  | 74 => ⟨S_, .i32⟩
  | 75 => ⟨S32x2, .i32⟩
  | 76 => ⟨S32x2, .i32⟩
  | 77 => ⟨S_, .i32⟩
  | 78 => ⟨S32x2, .i32⟩
  | 79 => ⟨S32x2, .i32⟩
  | 80 => ⟨S32x2, .i32⟩
  | 81 => ⟨S32x2, .i32⟩
  | 82 => ⟨S32x2, .i32⟩
  | 83 => ⟨S_, .i32⟩
  | 84 => ⟨S32x2, .i32⟩
  | 85 => ⟨S32x2, .i32⟩
  | 86 => ⟨S_, .i32⟩
  | 87 => ⟨S32x2, .i32⟩
  | 88 => ⟨S32x2, .i32⟩
  | 89 => ⟨S32x2, .i32⟩
  | 90 => ⟨S32x2, .i32⟩
  | 91 => ⟨S32x2, .i32⟩
  | 92 => ⟨S_, .i32⟩
  | 93 => ⟨S32x2, .i32⟩
  | 94 => ⟨S32x2, .i32⟩
  | 95 => ⟨S_, .i32⟩
  | 96 => ⟨S32x2, .i32⟩
  | 97 => ⟨S32x2, .i32⟩
  | 98 => ⟨S32x2, .i32⟩
  | 99 => ⟨S32x2, .i32⟩
  | 100 => ⟨S32x2, .i32⟩
  | 101 => ⟨S32x2, .i32⟩
  | 102 => ⟨S32x2, .i32⟩
  | 103 => ⟨S32x2, .i32⟩
  | 104 => ⟨S_, .i32⟩
  | 105 => ⟨S32x2, .i32⟩
  | 106 => ⟨S32x2, .i32⟩
  | 107 => ⟨S32x2, .i32⟩
  | 108 => ⟨S_, .i32⟩
  | 109 => ⟨S32x2, .i32⟩
  | 110 => ⟨S32x2, .i32⟩
  | 111 => ⟨S_, .i32⟩
  | 112 => ⟨S32x2, .i32⟩
  | 113 => ⟨S32x2, .i32⟩
  | 114 => ⟨S32x2, .i32⟩
  | 115 => ⟨S32x2, .i32⟩
  | 116 => ⟨S32x2, .i32⟩
  | 117 => ⟨S_, .i32⟩
  | 118 => ⟨S32x2, .i32⟩
  | 119 => ⟨S32x2, .i32⟩
  | 120 => ⟨S_, .i32⟩
  | 121 => ⟨S32x2, .i32⟩
  | 122 => ⟨S32x2, .i32⟩
  | 123 => ⟨S32x2, .i32⟩
  | 124 => ⟨S32x2, .i32⟩
  | 125 => ⟨S32x2, .i32⟩
  | 126 => ⟨S_, .i32⟩
  | 127 => ⟨S32x2, .i32⟩
  | _ => ⟨S32x128x2048, .f32⟩

abbrev hbmTy0_3 (i : Nat) : BufTy := match i % 128 with
  | 0 => ⟨S32x2, .i32⟩
  | 1 => ⟨S_, .i32⟩
  | 2 => ⟨S32x2, .i32⟩
  | 3 => ⟨S32x2, .i32⟩
  | 4 => ⟨S32x2, .i32⟩
  | 5 => ⟨S32x2, .i32⟩
  | 6 => ⟨S32x2, .i32⟩
  | 7 => ⟨S_, .i32⟩
  | 8 => ⟨S32x2, .i32⟩
  | 9 => ⟨S32x2, .i32⟩
  | 10 => ⟨S_, .i32⟩
  | 11 => ⟨S32x2, .i32⟩
  | 12 => ⟨S32x2, .i32⟩
  | 13 => ⟨S32x2, .i32⟩
  | 14 => ⟨S32x2, .i32⟩
  | 15 => ⟨S32x2, .i32⟩
  | 16 => ⟨S32x2, .i32⟩
  | 17 => ⟨S32x2, .i32⟩
  | 18 => ⟨S32x2, .i32⟩
  | 19 => ⟨S_, .i32⟩
  | 20 => ⟨S32x2, .i32⟩
  | 21 => ⟨S32x2, .i32⟩
  | 22 => ⟨S32x2, .i32⟩
  | 23 => ⟨S_, .i32⟩
  | 24 => ⟨S32x2, .i32⟩
  | 25 => ⟨S32x2, .i32⟩
  | 26 => ⟨S_, .i32⟩
  | 27 => ⟨S32x2, .i32⟩
  | 28 => ⟨S32x2, .i32⟩
  | 29 => ⟨S32x2, .i32⟩
  | 30 => ⟨S32x2, .i32⟩
  | 31 => ⟨S32x2, .i32⟩
  | 32 => ⟨S_, .i32⟩
  | 33 => ⟨S32x2, .i32⟩
  | 34 => ⟨S32x2, .i32⟩
  | 35 => ⟨S_, .i32⟩
  | 36 => ⟨S32x2, .i32⟩
  | 37 => ⟨S32x2, .i32⟩
  | 38 => ⟨S32x2, .i32⟩
  | 39 => ⟨S32x2, .i32⟩
  | 40 => ⟨S32x2, .i32⟩
  | 41 => ⟨S_, .i32⟩
  | 42 => ⟨S32x2, .i32⟩
  | 43 => ⟨S32x2, .i32⟩
  | 44 => ⟨S_, .i32⟩
  | 45 => ⟨S32x2, .i32⟩
  | 46 => ⟨S32x2, .i32⟩
  | 47 => ⟨S32x2, .i32⟩
  | 48 => ⟨S32x2, .i32⟩
  | 49 => ⟨S32x2, .i32⟩
  | 50 => ⟨S_, .i32⟩
  | 51 => ⟨S32x2, .i32⟩
  | 52 => ⟨S32x2, .i32⟩
  | 53 => ⟨S_, .i32⟩
  | 54 => ⟨S32x2, .i32⟩
  | 55 => ⟨S32x2, .i32⟩
  | 56 => ⟨S32x2, .i32⟩
  | 57 => ⟨S32x2, .i32⟩
  | 58 => ⟨S32x2, .i32⟩
  | 59 => ⟨S32x2, .i32⟩
  | 60 => ⟨S32x2, .i32⟩
  | 61 => ⟨S32x2, .i32⟩
  | 62 => ⟨S_, .i32⟩
  | 63 => ⟨S32x2, .i32⟩
  | 64 => ⟨S32x2, .i32⟩
  | 65 => ⟨S32x2, .i32⟩
  | 66 => ⟨S_, .i32⟩
  | 67 => ⟨S32x2, .i32⟩
  | 68 => ⟨S32x2, .i32⟩
  | 69 => ⟨S_, .i32⟩
  | 70 => ⟨S32x2, .i32⟩
  | 71 => ⟨S32x2, .i32⟩
  | 72 => ⟨S32x2, .i32⟩
  | 73 => ⟨S32x2, .i32⟩
  | 74 => ⟨S32x2, .i32⟩
  | 75 => ⟨S_, .i32⟩
  | 76 => ⟨S32x2, .i32⟩
  | 77 => ⟨S32x2, .i32⟩
  | 78 => ⟨S_, .i32⟩
  | 79 => ⟨S32x2, .i32⟩
  | 80 => ⟨S32x2, .i32⟩
  | 81 => ⟨S32x2, .i32⟩
  | 82 => ⟨S32x2, .i32⟩
  | 83 => ⟨S32x2, .i32⟩
  | 84 => ⟨S_, .i32⟩
  | 85 => ⟨S32x2, .i32⟩
  | 86 => ⟨S32x2, .i32⟩
  | 87 => ⟨S_, .i32⟩
  | 88 => ⟨S32x2, .i32⟩
  | 89 => ⟨S32x2, .i32⟩
  | 90 => ⟨S32x2, .i32⟩
  | 91 => ⟨S32x2, .i32⟩
  | 92 => ⟨S32x2, .i32⟩
  | 93 => ⟨S_, .i32⟩
  | 94 => ⟨S32x2, .i32⟩
  | 95 => ⟨S32x2, .i32⟩
  | 96 => ⟨S_, .i32⟩
  | 97 => ⟨S32x2, .i32⟩
  | 98 => ⟨S32x2, .i32⟩
  | 99 => ⟨S32x2, .i32⟩
  | 100 => ⟨S32x2, .i32⟩
  | 101 => ⟨S32x2, .i32⟩
  | 102 => ⟨S32x2, .i32⟩
  | 103 => ⟨S32x2, .i32⟩
  | 104 => ⟨S32x2, .i32⟩
  | 105 => ⟨S_, .i32⟩
  | 106 => ⟨S32x2, .i32⟩
  | 107 => ⟨S32x2, .i32⟩
  | 108 => ⟨S32x2x1, .i32⟩
  | 109 => ⟨S32x2x1, .i32⟩
  | 110 => ⟨S32x2x2, .i32⟩
  | 111 => ⟨S32x1x2, .i32⟩
  | 112 => ⟨S32x2, .i32⟩
  | 113 => ⟨S32x1x2, .i32⟩
  | 114 => ⟨S32x2, .i32⟩
  | 115 => ⟨S32x1, .i32⟩
  | 116 => ⟨S32, .i32⟩
  | 117 => ⟨S32x1, .i32⟩
  | 118 => ⟨S32, .i32⟩
  | 119 => ⟨S2048, .i64⟩
  | 120 => ⟨S_, .i64⟩
  | 121 => ⟨S2048, .i64⟩
  | 122 => ⟨S2048, .i64⟩
  | 123 => ⟨S_, .i64⟩
  | 124 => ⟨S2048, .i64⟩
  | 125 => ⟨S2048, .i64⟩
  | 126 => ⟨S2048, .i32⟩
  | 127 => ⟨S2048, .i32⟩
  | _ => ⟨S32x128x2048, .f32⟩

abbrev hbmTy0_4 (i : Nat) : BufTy := match i % 128 with
  | 0 => ⟨S1x2048, .i32⟩
  | 1 => ⟨S1x2048, .i32⟩
  | 2 => ⟨S32x1, .i32⟩
  | 3 => ⟨S32x1, .i32⟩
  | 4 => ⟨S32x1, .i32⟩
  | 5 => ⟨S_, .i32⟩
  | 6 => ⟨S32x1, .i32⟩
  | 7 => ⟨S32x1, .i32⟩
  | 8 => ⟨S32x2048, .i32⟩
  | 9 => ⟨S32x2048, .i32⟩
  | 10 => ⟨S32x2048, .i32⟩
  | 11 => ⟨S32x2048, .i32⟩
  | 12 => ⟨S32x2048, .i32⟩
  | 13 => ⟨S32x2048, .i32⟩
  | 14 => ⟨S32x2048, .i32⟩
  | 15 => ⟨S_, .i32⟩
  | 16 => ⟨S32x2048, .i32⟩
  | 17 => ⟨S32x2048, .i32⟩
  | 18 => ⟨S_, .i32⟩
  | 19 => ⟨S32x2048, .i32⟩
  | 20 => ⟨S32x2048, .i32⟩
  | 21 => ⟨S32x2048, .i32⟩
  | 22 => ⟨S32x2048, .i32⟩
  | 23 => ⟨S32x2048, .i32⟩
  | 24 => ⟨S_, .i32⟩
  | 25 => ⟨S32x2048, .i32⟩
  | 26 => ⟨S32x2048, .i32⟩
  | 27 => ⟨S_, .i32⟩
  | 28 => ⟨S32x2048, .i32⟩
  | 29 => ⟨S32x2048, .i32⟩
  | 30 => ⟨S32x2048, .i32⟩
  | 31 => ⟨S32x2048, .i32⟩
  | 32 => ⟨S32x2048, .i32⟩
  | 33 => ⟨S_, .i32⟩
  | 34 => ⟨S32x2048, .i32⟩
  | 35 => ⟨S32x2048, .i32⟩
  | 36 => ⟨S_, .i32⟩
  | 37 => ⟨S32x2048, .i32⟩
  | 38 => ⟨S32x2048, .i32⟩
  | 39 => ⟨S32x2048, .i32⟩
  | 40 => ⟨S32x2048, .i32⟩
  | 41 => ⟨S32x2048, .i32⟩
  | 42 => ⟨S_, .i32⟩
  | 43 => ⟨S32x2048, .i32⟩
  | 44 => ⟨S32x2048, .i32⟩
  | 45 => ⟨S_, .i32⟩
  | 46 => ⟨S32x2048, .i32⟩
  | 47 => ⟨S32x2048, .i32⟩
  | 48 => ⟨S32x2048, .i32⟩
  | 49 => ⟨S32x2048, .i32⟩
  | 50 => ⟨S32x2048, .i32⟩
  | 51 => ⟨S32x2048, .i32⟩
  | 52 => ⟨S32x2048, .i32⟩
  | 53 => ⟨S32x2048, .i32⟩
  | 54 => ⟨S_, .i32⟩
  | 55 => ⟨S32x2048, .i32⟩
  | 56 => ⟨S32x2048, .i32⟩
  | 57 => ⟨S32x2048, .i32⟩
  | 58 => ⟨S_, .i32⟩
  | 59 => ⟨S32x2048, .i32⟩
  | 60 => ⟨S32x2048, .i32⟩
  | 61 => ⟨S_, .i32⟩
  | 62 => ⟨S32x2048, .i32⟩
  | 63 => ⟨S32x2048, .i32⟩
  | 64 => ⟨S32x2048, .i32⟩
  | 65 => ⟨S32x2048, .i32⟩
  | 66 => ⟨S32x2048, .i32⟩
  | 67 => ⟨S_, .i32⟩
  | 68 => ⟨S32x2048, .i32⟩
  | 69 => ⟨S32x2048, .i32⟩
  | 70 => ⟨S_, .i32⟩
  | 71 => ⟨S32x2048, .i32⟩
  | 72 => ⟨S32x2048, .i32⟩
  | 73 => ⟨S32x2048, .i32⟩
  | 74 => ⟨S32x2048, .i32⟩
  | 75 => ⟨S32x2048, .i32⟩
  | 76 => ⟨S_, .i32⟩
  | 77 => ⟨S32x2048, .i32⟩
  | 78 => ⟨S32x2048, .i32⟩
  | 79 => ⟨S_, .i32⟩
  | 80 => ⟨S32x2048, .i32⟩
  | 81 => ⟨S32x2048, .i32⟩
  | 82 => ⟨S32x2048, .i32⟩
  | 83 => ⟨S32x2048, .i32⟩
  | 84 => ⟨S32x2048, .i32⟩
  | 85 => ⟨S_, .i32⟩
  | 86 => ⟨S32x2048, .i32⟩
  | 87 => ⟨S32x2048, .i32⟩
  | 88 => ⟨S_, .i32⟩
  | 89 => ⟨S32x2048, .i32⟩
  | 90 => ⟨S32x2048, .i32⟩
  | 91 => ⟨S32x2048, .i32⟩
  | 92 => ⟨S32x2048, .i32⟩
  | 93 => ⟨S32x2048, .i32⟩
  | 94 => ⟨S32x2048, .i32⟩
  | 95 => ⟨S32x2048, .i32⟩
  | 96 => ⟨S32x2048, .i32⟩
  | 97 => ⟨S_, .i32⟩
  | 98 => ⟨S32x2048, .i32⟩
  | 99 => ⟨S32x2048, .i32⟩
  | 100 => ⟨S32x2048, .i32⟩
  | 101 => ⟨S_, .i32⟩
  | 102 => ⟨S32x2048, .i32⟩
  | 103 => ⟨S32x2048, .i32⟩
  | 104 => ⟨S_, .i32⟩
  | 105 => ⟨S32x2048, .i32⟩
  | 106 => ⟨S32x2048, .i32⟩
  | 107 => ⟨S32x2048, .i32⟩
  | 108 => ⟨S32x2048, .i32⟩
  | 109 => ⟨S32x2048, .i32⟩
  | 110 => ⟨S_, .i32⟩
  | 111 => ⟨S32x2048, .i32⟩
  | 112 => ⟨S32x2048, .i32⟩
  | 113 => ⟨S_, .i32⟩
  | 114 => ⟨S32x2048, .i32⟩
  | 115 => ⟨S32x2048, .i32⟩
  | 116 => ⟨S32x2048, .i32⟩
  | 117 => ⟨S32x2048, .i32⟩
  | 118 => ⟨S32x2048, .i32⟩
  | 119 => ⟨S_, .i32⟩
  | 120 => ⟨S32x2048, .i32⟩
  | 121 => ⟨S32x2048, .i32⟩
  | 122 => ⟨S_, .i32⟩
  | 123 => ⟨S32x2048, .i32⟩
  | 124 => ⟨S32x2048, .i32⟩
  | 125 => ⟨S32x2048, .i32⟩
  | 126 => ⟨S32x2048, .i32⟩
  | 127 => ⟨S32x2048, .i32⟩
  | _ => ⟨S32x128x2048, .f32⟩

abbrev hbmTy0_5 (i : Nat) : BufTy := match i % 128 with
  | 0 => ⟨S_, .i32⟩
  | 1 => ⟨S32x2048, .i32⟩
  | 2 => ⟨S32x2048, .i32⟩
  | 3 => ⟨S_, .i32⟩
  | 4 => ⟨S32x2048, .i32⟩
  | 5 => ⟨S32x2048, .i32⟩
  | 6 => ⟨S32x2048, .i32⟩
  | 7 => ⟨S32x2048, .i32⟩
  | 8 => ⟨S32x2048, .i32⟩
  | 9 => ⟨S32x2048, .i32⟩
  | 10 => ⟨S32x2048, .i32⟩
  | 11 => ⟨S32x2048, .i32⟩
  | 12 => ⟨S_, .i32⟩
  | 13 => ⟨S32x2048, .i32⟩
  | 14 => ⟨S32x2048, .i32⟩
  | 15 => ⟨S32x2048, .i32⟩
  | 16 => ⟨S_, .i32⟩
  | 17 => ⟨S32x2048, .i32⟩
  | 18 => ⟨S32x2048, .i32⟩
  | 19 => ⟨S_, .i32⟩
  | 20 => ⟨S32x2048, .i32⟩
  | 21 => ⟨S32x2048, .i32⟩
  | 22 => ⟨S32x2048, .i32⟩
  | 23 => ⟨S32x2048, .i32⟩
  | 24 => ⟨S32x2048, .i32⟩
  | 25 => ⟨S_, .i32⟩
  | 26 => ⟨S32x2048, .i32⟩
  | 27 => ⟨S32x2048, .i32⟩
  | 28 => ⟨S_, .i32⟩
  | 29 => ⟨S32x2048, .i32⟩
  | 30 => ⟨S32x2048, .i32⟩
  | 31 => ⟨S32x2048, .i32⟩
  | 32 => ⟨S32x2048, .i32⟩
  | 33 => ⟨S32x2048, .i32⟩
  | 34 => ⟨S_, .i32⟩
  | 35 => ⟨S32x2048, .i32⟩
  | 36 => ⟨S32x2048, .i32⟩
  | 37 => ⟨S_, .i32⟩
  | 38 => ⟨S32x2048, .i32⟩
  | 39 => ⟨S32x2048, .i32⟩
  | 40 => ⟨S32x2048, .i32⟩
  | 41 => ⟨S32x2048, .i32⟩
  | 42 => ⟨S32x2048, .i32⟩
  | 43 => ⟨S_, .i32⟩
  | 44 => ⟨S32x2048, .i32⟩
  | 45 => ⟨S32x2048, .i32⟩
  | 46 => ⟨S_, .i32⟩
  | 47 => ⟨S32x2048, .i32⟩
  | 48 => ⟨S32x2048, .i32⟩
  | 49 => ⟨S32x2048, .i32⟩
  | 50 => ⟨S32x2048, .i32⟩
  | 51 => ⟨S32x2048, .i32⟩
  | 52 => ⟨S32x2048, .i32⟩
  | 53 => ⟨S32x2048, .i32⟩
  | 54 => ⟨S32x2048, .i32⟩
  | 55 => ⟨S_, .i32⟩
  | 56 => ⟨S32x2048, .i32⟩
  | 57 => ⟨S32x2048, .i32⟩
  | 58 => ⟨S32x2048, .i32⟩
  | 59 => ⟨S_, .i32⟩
  | 60 => ⟨S32x2048, .i32⟩
  | 61 => ⟨S32x2048, .i32⟩
  | 62 => ⟨S_, .i32⟩
  | 63 => ⟨S32x2048, .i32⟩
  | 64 => ⟨S32x2048, .i32⟩
  | 65 => ⟨S32x2048, .i32⟩
  | 66 => ⟨S32x2048, .i32⟩
  | 67 => ⟨S32x2048, .i32⟩
  | 68 => ⟨S_, .i32⟩
  | 69 => ⟨S32x2048, .i32⟩
  | 70 => ⟨S32x2048, .i32⟩
  | 71 => ⟨S_, .i32⟩
  | 72 => ⟨S32x2048, .i32⟩
  | 73 => ⟨S32x2048, .i32⟩
  | 74 => ⟨S32x2048, .i32⟩
  | 75 => ⟨S32x2048, .i32⟩
  | 76 => ⟨S32x2048, .i32⟩
  | 77 => ⟨S_, .i32⟩
  | 78 => ⟨S32x2048, .i32⟩
  | 79 => ⟨S32x2048, .i32⟩
  | 80 => ⟨S_, .i32⟩
  | 81 => ⟨S32x2048, .i32⟩
  | 82 => ⟨S32x2048, .i32⟩
  | 83 => ⟨S32x2048, .i32⟩
  | 84 => ⟨S32x2048, .i32⟩
  | 85 => ⟨S32x2048, .i32⟩
  | 86 => ⟨S_, .i32⟩
  | 87 => ⟨S32x2048, .i32⟩
  | 88 => ⟨S32x2048, .i32⟩
  | 89 => ⟨S_, .i32⟩
  | 90 => ⟨S32x2048, .i32⟩
  | 91 => ⟨S32x2048, .i32⟩
  | 92 => ⟨S32x2048, .i32⟩
  | 93 => ⟨S32x2048, .i32⟩
  | 94 => ⟨S32x2048, .i32⟩
  | 95 => ⟨S32x2048, .i32⟩
  | 96 => ⟨S32x2048, .i32⟩
  | 97 => ⟨S32x2048, .i32⟩
  | 98 => ⟨S_, .i32⟩
  | 99 => ⟨S32x2048, .i32⟩
  | 100 => ⟨S32x2048, .i32⟩
  | 101 => ⟨S32x2048, .i32⟩
  | 102 => ⟨S32x2048, .i32⟩
  | 103 => ⟨S32x2048, .i32⟩
  | 104 => ⟨S32x2048, .i32⟩
  | 105 => ⟨S32x1, .i32⟩
  | 106 => ⟨S32, .i32⟩
  | 107 => ⟨S32x1, .i32⟩
  | 108 => ⟨S32, .i32⟩
  | 109 => ⟨S2, .i64⟩
  | 110 => ⟨S_, .i64⟩
  | 111 => ⟨S2, .i64⟩
  | 112 => ⟨S2, .i64⟩
  | 113 => ⟨S_, .i64⟩
  | 114 => ⟨S2, .i64⟩
  | 115 => ⟨S2, .i64⟩
  | 116 => ⟨S2, .i32⟩
  | 117 => ⟨S2, .i32⟩
  | 118 => ⟨S1x2, .i32⟩
  | 119 => ⟨S1x2, .i32⟩
  | 120 => ⟨S32x1, .i32⟩
  | 121 => ⟨S32x1, .i32⟩
  | 122 => ⟨S32x1, .i32⟩
  | 123 => ⟨S_, .i32⟩
  | 124 => ⟨S32x1, .i32⟩
  | 125 => ⟨S32x1, .i32⟩
  | 126 => ⟨S32x2, .i32⟩
  | 127 => ⟨S32x2, .i32⟩
  | _ => ⟨S32x128x2048, .f32⟩

abbrev hbmTy0_6 (i : Nat) : BufTy := match i % 128 with
  | 0 => ⟨S32x2, .i32⟩
  | 1 => ⟨S32x2, .i32⟩
  | 2 => ⟨S32x2, .i32⟩
  | 3 => ⟨S32x2, .i32⟩
  | 4 => ⟨S32x2, .i32⟩
  | 5 => ⟨S_, .i32⟩
  | 6 => ⟨S32x2, .i32⟩
  | 7 => ⟨S32x2, .i32⟩
  | 8 => ⟨S_, .i32⟩
  | 9 => ⟨S32x2, .i32⟩
  | 10 => ⟨S32x2, .i32⟩
  | 11 => ⟨S32x2, .i32⟩
  | 12 => ⟨S32x2, .i32⟩
  | 13 => ⟨S32x2, .i32⟩
  | 14 => ⟨S_, .i32⟩
  | 15 => ⟨S32x2, .i32⟩
  | 16 => ⟨S32x2, .i32⟩
  | 17 => ⟨S_, .i32⟩
  | 18 => ⟨S32x2, .i32⟩
  | 19 => ⟨S32x2, .i32⟩
  | 20 => ⟨S32x2, .i32⟩
  | 21 => ⟨S32x2, .i32⟩
  | 22 => ⟨S32x2, .i32⟩
  | 23 => ⟨S_, .i32⟩
  | 24 => ⟨S32x2, .i32⟩
  | 25 => ⟨S32x2, .i32⟩
  | 26 => ⟨S_, .i32⟩
  | 27 => ⟨S32x2, .i32⟩
  | 28 => ⟨S32x2, .i32⟩
  | 29 => ⟨S32x2, .i32⟩
  | 30 => ⟨S32x2, .i32⟩
  | 31 => ⟨S32x2, .i32⟩
  | 32 => ⟨S_, .i32⟩
  | 33 => ⟨S32x2, .i32⟩
  | 34 => ⟨S32x2, .i32⟩
  | 35 => ⟨S_, .i32⟩
  | 36 => ⟨S32x2, .i32⟩
  | 37 => ⟨S32x2, .i32⟩
  | 38 => ⟨S32x2, .i32⟩
  | 39 => ⟨S32x2, .i32⟩
  | 40 => ⟨S32x2, .i32⟩
  | 41 => ⟨S32x2, .i32⟩
  | 42 => ⟨S32x2, .i32⟩
  | 43 => ⟨S32x2, .i32⟩
  | 44 => ⟨S_, .i32⟩
  | 45 => ⟨S32x2, .i32⟩
  | 46 => ⟨S32x2, .i32⟩
  | 47 => ⟨S32x2, .i32⟩
  | 48 => ⟨S_, .i32⟩
  | 49 => ⟨S32x2, .i32⟩
  | 50 => ⟨S32x2, .i32⟩
  | 51 => ⟨S_, .i32⟩
  | 52 => ⟨S32x2, .i32⟩
  | 53 => ⟨S32x2, .i32⟩
  | 54 => ⟨S32x2, .i32⟩
  | 55 => ⟨S32x2, .i32⟩
  | 56 => ⟨S32x2, .i32⟩
  | 57 => ⟨S_, .i32⟩
  | 58 => ⟨S32x2, .i32⟩
  | 59 => ⟨S32x2, .i32⟩
  | 60 => ⟨S_, .i32⟩
  | 61 => ⟨S32x2, .i32⟩
  | 62 => ⟨S32x2, .i32⟩
  | 63 => ⟨S32x2, .i32⟩
  | 64 => ⟨S32x2, .i32⟩
  | 65 => ⟨S32x2, .i32⟩
  | 66 => ⟨S_, .i32⟩
  | 67 => ⟨S32x2, .i32⟩
  | 68 => ⟨S32x2, .i32⟩
  | 69 => ⟨S_, .i32⟩
  | 70 => ⟨S32x2, .i32⟩
  | 71 => ⟨S32x2, .i32⟩
  | 72 => ⟨S32x2, .i32⟩
  | 73 => ⟨S32x2, .i32⟩
  | 74 => ⟨S32x2, .i32⟩
  | 75 => ⟨S_, .i32⟩
  | 76 => ⟨S32x2, .i32⟩
  | 77 => ⟨S32x2, .i32⟩
  | 78 => ⟨S_, .i32⟩
  | 79 => ⟨S32x2, .i32⟩
  | 80 => ⟨S32x2, .i32⟩
  | 81 => ⟨S32x2, .i32⟩
  | 82 => ⟨S32x2, .i32⟩
  | 83 => ⟨S32x2, .i32⟩
  | 84 => ⟨S32x2, .i32⟩
  | 85 => ⟨S32x2, .i32⟩
  | 86 => ⟨S32x2, .i32⟩
  | 87 => ⟨S_, .i32⟩
  | 88 => ⟨S32x2, .i32⟩
  | 89 => ⟨S32x2, .i32⟩
  | 90 => ⟨S32x2, .i32⟩
  | 91 => ⟨S_, .i32⟩
  | 92 => ⟨S32x2, .i32⟩
  | 93 => ⟨S32x2, .i32⟩
  | 94 => ⟨S_, .i32⟩
  | 95 => ⟨S32x2, .i32⟩
  | 96 => ⟨S32x2, .i32⟩
  | 97 => ⟨S32x2, .i32⟩
  | 98 => ⟨S32x2, .i32⟩
  | 99 => ⟨S32x2, .i32⟩
  | 100 => ⟨S_, .i32⟩
  | 101 => ⟨S32x2, .i32⟩
  | 102 => ⟨S32x2, .i32⟩
  | 103 => ⟨S_, .i32⟩
  | 104 => ⟨S32x2, .i32⟩
  | 105 => ⟨S32x2, .i32⟩
  | 106 => ⟨S32x2, .i32⟩
  | 107 => ⟨S32x2, .i32⟩
  | 108 => ⟨S32x2, .i32⟩
  | 109 => ⟨S_, .i32⟩
  | 110 => ⟨S32x2, .i32⟩
  | 111 => ⟨S32x2, .i32⟩
  | 112 => ⟨S_, .i32⟩
  | 113 => ⟨S32x2, .i32⟩
  | 114 => ⟨S32x2, .i32⟩
  | 115 => ⟨S32x2, .i32⟩
  | 116 => ⟨S32x2, .i32⟩
  | 117 => ⟨S32x2, .i32⟩
  | 118 => ⟨S_, .i32⟩
  | 119 => ⟨S32x2, .i32⟩
  | 120 => ⟨S32x2, .i32⟩
  | 121 => ⟨S_, .i32⟩
  | 122 => ⟨S32x2, .i32⟩
  | 123 => ⟨S32x2, .i32⟩
  | 124 => ⟨S32x2, .i32⟩
  | 125 => ⟨S32x2, .i32⟩
  | 126 => ⟨S32x2, .i32⟩
  | 127 => ⟨S32x2, .i32⟩
  | _ => ⟨S32x128x2048, .f32⟩

abbrev hbmTy0_7 (i : Nat) : BufTy := match i % 128 with
  | 0 => ⟨S32x2, .i32⟩
  | 1 => ⟨S32x2, .i32⟩
  | 2 => ⟨S_, .i32⟩
  | 3 => ⟨S32x2, .i32⟩
  | 4 => ⟨S32x2, .i32⟩
  | 5 => ⟨S32x2, .i32⟩
  | 6 => ⟨S_, .i32⟩
  | 7 => ⟨S32x2, .i32⟩
  | 8 => ⟨S32x2, .i32⟩
  | 9 => ⟨S_, .i32⟩
  | 10 => ⟨S32x2, .i32⟩
  | 11 => ⟨S32x2, .i32⟩
  | 12 => ⟨S32x2, .i32⟩
  | 13 => ⟨S32x2, .i32⟩
  | 14 => ⟨S32x2, .i32⟩
  | 15 => ⟨S_, .i32⟩
  | 16 => ⟨S32x2, .i32⟩
  | 17 => ⟨S32x2, .i32⟩
  | 18 => ⟨S_, .i32⟩
  | 19 => ⟨S32x2, .i32⟩
  | 20 => ⟨S32x2, .i32⟩
  | 21 => ⟨S32x2, .i32⟩
  | 22 => ⟨S32x2, .i32⟩
  | 23 => ⟨S32x2, .i32⟩
  | 24 => ⟨S_, .i32⟩
  | 25 => ⟨S32x2, .i32⟩
  | 26 => ⟨S32x2, .i32⟩
  | 27 => ⟨S_, .i32⟩
  | 28 => ⟨S32x2, .i32⟩
  | 29 => ⟨S32x2, .i32⟩
  | 30 => ⟨S32x2, .i32⟩
  | 31 => ⟨S32x2, .i32⟩
  | 32 => ⟨S32x2, .i32⟩
  | 33 => ⟨S_, .i32⟩
  | 34 => ⟨S32x2, .i32⟩
  | 35 => ⟨S32x2, .i32⟩
  | 36 => ⟨S_, .i32⟩
  | 37 => ⟨S32x2, .i32⟩
  | 38 => ⟨S32x2, .i32⟩
  | 39 => ⟨S32x2, .i32⟩
  | 40 => ⟨S32x2, .i32⟩
  | 41 => ⟨S32x2, .i32⟩
  | 42 => ⟨S32x2, .i32⟩
  | 43 => ⟨S32x2, .i32⟩
  | 44 => ⟨S32x2, .i32⟩
  | 45 => ⟨S_, .i32⟩
  | 46 => ⟨S32x2, .i32⟩
  | 47 => ⟨S32x2, .i32⟩
  | 48 => ⟨S32x2, .i32⟩
  | 49 => ⟨S_, .i32⟩
  | 50 => ⟨S32x2, .i32⟩
  | 51 => ⟨S32x2, .i32⟩
  | 52 => ⟨S_, .i32⟩
  | 53 => ⟨S32x2, .i32⟩
  | 54 => ⟨S32x2, .i32⟩
  | 55 => ⟨S32x2, .i32⟩
  | 56 => ⟨S32x2, .i32⟩
  | 57 => ⟨S32x2, .i32⟩
  | 58 => ⟨S_, .i32⟩
  | 59 => ⟨S32x2, .i32⟩
  | 60 => ⟨S32x2, .i32⟩
  | 61 => ⟨S_, .i32⟩
  | 62 => ⟨S32x2, .i32⟩
  | 63 => ⟨S32x2, .i32⟩
  | 64 => ⟨S32x2, .i32⟩
  | 65 => ⟨S32x2, .i32⟩
  | 66 => ⟨S32x2, .i32⟩
  | 67 => ⟨S_, .i32⟩
  | 68 => ⟨S32x2, .i32⟩
  | 69 => ⟨S32x2, .i32⟩
  | 70 => ⟨S_, .i32⟩
  | 71 => ⟨S32x2, .i32⟩
  | 72 => ⟨S32x2, .i32⟩
  | 73 => ⟨S32x2, .i32⟩
  | 74 => ⟨S32x2, .i32⟩
  | 75 => ⟨S32x2, .i32⟩
  | 76 => ⟨S_, .i32⟩
  | 77 => ⟨S32x2, .i32⟩
  | 78 => ⟨S32x2, .i32⟩
  | 79 => ⟨S_, .i32⟩
  | 80 => ⟨S32x2, .i32⟩
  | 81 => ⟨S32x2, .i32⟩
  | 82 => ⟨S32x2, .i32⟩
  | 83 => ⟨S32x2, .i32⟩
  | 84 => ⟨S32x2, .i32⟩
  | 85 => ⟨S32x2, .i32⟩
  | 86 => ⟨S32x2, .i32⟩
  | 87 => ⟨S32x2, .i32⟩
  | 88 => ⟨S_, .i32⟩
  | 89 => ⟨S32x2, .i32⟩
  | 90 => ⟨S32x2, .i32⟩
  | 91 => ⟨S32x2x1, .i32⟩
  | 92 => ⟨S32x2x1, .i32⟩
  | 93 => ⟨S32x2x2, .i32⟩
  | 94 => ⟨S32x1x2, .i32⟩
  | 95 => ⟨S32x2, .i32⟩
  | 96 => ⟨S32x1x2, .i32⟩
  | 97 => ⟨S32x2, .i32⟩
  | 98 => ⟨S32x1, .i32⟩
  | 99 => ⟨S32, .i32⟩
  | 100 => ⟨S32x1, .i32⟩
  | 101 => ⟨S32, .i32⟩
  | 102 => ⟨S2048, .i64⟩
  | 103 => ⟨S_, .i64⟩
  | 104 => ⟨S2048, .i64⟩
  | 105 => ⟨S2048, .i64⟩
  | 106 => ⟨S_, .i64⟩
  | 107 => ⟨S2048, .i64⟩
  | 108 => ⟨S2048, .i64⟩
  | 109 => ⟨S2048, .i32⟩
  | 110 => ⟨S2048, .i32⟩
  | 111 => ⟨S1x2048, .i32⟩
  | 112 => ⟨S1x2048, .i32⟩
  | 113 => ⟨S32x1, .i32⟩
  | 114 => ⟨S32x1, .i32⟩
  | 115 => ⟨S32x1, .i32⟩
  | 116 => ⟨S_, .i32⟩
  | 117 => ⟨S32x1, .i32⟩
  | 118 => ⟨S32x1, .i32⟩
  | 119 => ⟨S32x2048, .i32⟩
  | 120 => ⟨S32x2048, .i32⟩
  | 121 => ⟨S32x2048, .i32⟩
  | 122 => ⟨S32x2048, .i32⟩
  | 123 => ⟨S32x2048, .i32⟩
  | 124 => ⟨S32x2048, .i32⟩
  | 125 => ⟨S32x2048, .i32⟩
  | 126 => ⟨S_, .i32⟩
  | 127 => ⟨S32x2048, .i32⟩
  | _ => ⟨S32x128x2048, .f32⟩

abbrev hbmTy0_8 (i : Nat) : BufTy := match i % 128 with
  | 0 => ⟨S32x2048, .i32⟩
  | 1 => ⟨S_, .i32⟩
  | 2 => ⟨S32x2048, .i32⟩
  | 3 => ⟨S32x2048, .i32⟩
  | 4 => ⟨S32x2048, .i32⟩
  | 5 => ⟨S32x2048, .i32⟩
  | 6 => ⟨S32x2048, .i32⟩
  | 7 => ⟨S_, .i32⟩
  | 8 => ⟨S32x2048, .i32⟩
  | 9 => ⟨S32x2048, .i32⟩
  | 10 => ⟨S_, .i32⟩
  | 11 => ⟨S32x2048, .i32⟩
  | 12 => ⟨S32x2048, .i32⟩
  | 13 => ⟨S32x2048, .i32⟩
  | 14 => ⟨S32x2048, .i32⟩
  | 15 => ⟨S32x2048, .i32⟩
  | 16 => ⟨S_, .i32⟩
  | 17 => ⟨S32x2048, .i32⟩
  | 18 => ⟨S32x2048, .i32⟩
  | 19 => ⟨S_, .i32⟩
  | 20 => ⟨S32x2048, .i32⟩
  | 21 => ⟨S32x2048, .i32⟩
  | 22 => ⟨S32x2048, .i32⟩
  | 23 => ⟨S32x2048, .i32⟩
  | 24 => ⟨S32x2048, .i32⟩
  | 25 => ⟨S_, .i32⟩
  | 26 => ⟨S32x2048, .i32⟩
  | 27 => ⟨S32x2048, .i32⟩
  | 28 => ⟨S_, .i32⟩
  | 29 => ⟨S32x2048, .i32⟩
  | 30 => ⟨S32x2048, .i32⟩
  | 31 => ⟨S32x2048, .i32⟩
  | 32 => ⟨S32x2048, .i32⟩
  | 33 => ⟨S32x2048, .i32⟩
  | 34 => ⟨S32x2048, .i32⟩
  | 35 => ⟨S32x2048, .i32⟩
  | 36 => ⟨S32x2048, .i32⟩
  | 37 => ⟨S_, .i32⟩
  | 38 => ⟨S32x2048, .i32⟩
  | 39 => ⟨S32x2048, .i32⟩
  | 40 => ⟨S32x2048, .i32⟩
  | 41 => ⟨S_, .i32⟩
  | 42 => ⟨S32x2048, .i32⟩
  | 43 => ⟨S32x2048, .i32⟩
  | 44 => ⟨S_, .i32⟩
  | 45 => ⟨S32x2048, .i32⟩
  | 46 => ⟨S32x2048, .i32⟩
  | 47 => ⟨S32x2048, .i32⟩
  | 48 => ⟨S32x2048, .i32⟩
  | 49 => ⟨S32x2048, .i32⟩
  | 50 => ⟨S_, .i32⟩
  | 51 => ⟨S32x2048, .i32⟩
  | 52 => ⟨S32x2048, .i32⟩
  | 53 => ⟨S_, .i32⟩
  | 54 => ⟨S32x2048, .i32⟩
  | 55 => ⟨S32x2048, .i32⟩
  | 56 => ⟨S32x2048, .i32⟩
  | 57 => ⟨S32x2048, .i32⟩
  | 58 => ⟨S32x2048, .i32⟩
  | 59 => ⟨S_, .i32⟩
  | 60 => ⟨S32x2048, .i32⟩
  | 61 => ⟨S32x2048, .i32⟩
  | 62 => ⟨S_, .i32⟩
  | 63 => ⟨S32x2048, .i32⟩
  | 64 => ⟨S32x2048, .i32⟩
  | 65 => ⟨S32x2048, .i32⟩
  | 66 => ⟨S32x2048, .i32⟩
  | 67 => ⟨S32x2048, .i32⟩
  | 68 => ⟨S_, .i32⟩
  | 69 => ⟨S32x2048, .i32⟩
  | 70 => ⟨S32x2048, .i32⟩
  | 71 => ⟨S_, .i32⟩
  | 72 => ⟨S32x2048, .i32⟩
  | 73 => ⟨S32x2048, .i32⟩
  | 74 => ⟨S32x2048, .i32⟩
  | 75 => ⟨S32x2048, .i32⟩
  | 76 => ⟨S32x2048, .i32⟩
  | 77 => ⟨S32x2048, .i32⟩
  | 78 => ⟨S32x2048, .i32⟩
  | 79 => ⟨S32x2048, .i32⟩
  | 80 => ⟨S_, .i32⟩
  | 81 => ⟨S32x2048, .i32⟩
  | 82 => ⟨S32x2048, .i32⟩
  | 83 => ⟨S32x2048, .i32⟩
  | 84 => ⟨S_, .i32⟩
  | 85 => ⟨S32x2048, .i32⟩
  | 86 => ⟨S32x2048, .i32⟩
  | 87 => ⟨S_, .i32⟩
  | 88 => ⟨S32x2048, .i32⟩
  | 89 => ⟨S32x2048, .i32⟩
  | 90 => ⟨S32x2048, .i32⟩
  | 91 => ⟨S32x2048, .i32⟩
  | 92 => ⟨S32x2048, .i32⟩
  | 93 => ⟨S_, .i32⟩
  | 94 => ⟨S32x2048, .i32⟩
  | 95 => ⟨S32x2048, .i32⟩
  | 96 => ⟨S_, .i32⟩
  | 97 => ⟨S32x2048, .i32⟩
  | 98 => ⟨S32x2048, .i32⟩
  | 99 => ⟨S32x2048, .i32⟩
  | 100 => ⟨S32x2048, .i32⟩
  | 101 => ⟨S32x2048, .i32⟩
  | 102 => ⟨S_, .i32⟩
  | 103 => ⟨S32x2048, .i32⟩
  | 104 => ⟨S32x2048, .i32⟩
  | 105 => ⟨S_, .i32⟩
  | 106 => ⟨S32x2048, .i32⟩
  | 107 => ⟨S32x2048, .i32⟩
  | 108 => ⟨S32x2048, .i32⟩
  | 109 => ⟨S32x2048, .i32⟩
  | 110 => ⟨S32x2048, .i32⟩
  | 111 => ⟨S_, .i32⟩
  | 112 => ⟨S32x2048, .i32⟩
  | 113 => ⟨S32x2048, .i32⟩
  | 114 => ⟨S_, .i32⟩
  | 115 => ⟨S32x2048, .i32⟩
  | 116 => ⟨S32x2048, .i32⟩
  | 117 => ⟨S32x2048, .i32⟩
  | 118 => ⟨S32x2048, .i32⟩
  | 119 => ⟨S32x2048, .i32⟩
  | 120 => ⟨S32x2048, .i32⟩
  | 121 => ⟨S32x2048, .i32⟩
  | 122 => ⟨S32x2048, .i32⟩
  | 123 => ⟨S_, .i32⟩
  | 124 => ⟨S32x2048, .i32⟩
  | 125 => ⟨S32x2048, .i32⟩
  | 126 => ⟨S32x2048, .i32⟩
  | 127 => ⟨S_, .i32⟩
  | _ => ⟨S32x128x2048, .f32⟩

abbrev hbmTy0_9 (i : Nat) : BufTy := match i % 128 with
  | 0 => ⟨S32x2048, .i32⟩
  | 1 => ⟨S32x2048, .i32⟩
  | 2 => ⟨S_, .i32⟩
  | 3 => ⟨S32x2048, .i32⟩
  | 4 => ⟨S32x2048, .i32⟩
  | 5 => ⟨S32x2048, .i32⟩
  | 6 => ⟨S32x2048, .i32⟩
  | 7 => ⟨S32x2048, .i32⟩
  | 8 => ⟨S_, .i32⟩
  | 9 => ⟨S32x2048, .i32⟩
  | 10 => ⟨S32x2048, .i32⟩
  | 11 => ⟨S_, .i32⟩
  | 12 => ⟨S32x2048, .i32⟩
  | 13 => ⟨S32x2048, .i32⟩
  | 14 => ⟨S32x2048, .i32⟩
  | 15 => ⟨S32x2048, .i32⟩
  | 16 => ⟨S32x2048, .i32⟩
  | 17 => ⟨S_, .i32⟩
  | 18 => ⟨S32x2048, .i32⟩
  | 19 => ⟨S32x2048, .i32⟩
  | 20 => ⟨S_, .i32⟩
  | 21 => ⟨S32x2048, .i32⟩
  | 22 => ⟨S32x2048, .i32⟩
  | 23 => ⟨S32x2048, .i32⟩
  | 24 => ⟨S32x2048, .i32⟩
  | 25 => ⟨S32x2048, .i32⟩
  | 26 => ⟨S_, .i32⟩
  | 27 => ⟨S32x2048, .i32⟩
  | 28 => ⟨S32x2048, .i32⟩
  | 29 => ⟨S_, .i32⟩
  | 30 => ⟨S32x2048, .i32⟩
  | 31 => ⟨S32x2048, .i32⟩
  | 32 => ⟨S32x2048, .i32⟩
  | 33 => ⟨S32x2048, .i32⟩
  | 34 => ⟨S32x2048, .i32⟩
  | 35 => ⟨S32x2048, .i32⟩
  | 36 => ⟨S32x2048, .i32⟩
  | 37 => ⟨S32x2048, .i32⟩
  | 38 => ⟨S_, .i32⟩
  | 39 => ⟨S32x2048, .i32⟩
  | 40 => ⟨S32x2048, .i32⟩
  | 41 => ⟨S32x2048, .i32⟩
  | 42 => ⟨S_, .i32⟩
  | 43 => ⟨S32x2048, .i32⟩
  | 44 => ⟨S32x2048, .i32⟩
  | 45 => ⟨S_, .i32⟩
  | 46 => ⟨S32x2048, .i32⟩
  | 47 => ⟨S32x2048, .i32⟩
  | 48 => ⟨S32x2048, .i32⟩
  | 49 => ⟨S32x2048, .i32⟩
  | 50 => ⟨S32x2048, .i32⟩
  | 51 => ⟨S_, .i32⟩
  | 52 => ⟨S32x2048, .i32⟩
  | 53 => ⟨S32x2048, .i32⟩
  | 54 => ⟨S_, .i32⟩
  | 55 => ⟨S32x2048, .i32⟩
  | 56 => ⟨S32x2048, .i32⟩
  | 57 => ⟨S32x2048, .i32⟩
  | 58 => ⟨S32x2048, .i32⟩
  | 59 => ⟨S32x2048, .i32⟩
  | 60 => ⟨S_, .i32⟩
  | 61 => ⟨S32x2048, .i32⟩
  | 62 => ⟨S32x2048, .i32⟩
  | 63 => ⟨S_, .i32⟩
  | 64 => ⟨S32x2048, .i32⟩
  | 65 => ⟨S32x2048, .i32⟩
  | 66 => ⟨S32x2048, .i32⟩
  | 67 => ⟨S32x2048, .i32⟩
  | 68 => ⟨S32x2048, .i32⟩
  | 69 => ⟨S_, .i32⟩
  | 70 => ⟨S32x2048, .i32⟩
  | 71 => ⟨S32x2048, .i32⟩
  | 72 => ⟨S_, .i32⟩
  | 73 => ⟨S32x2048, .i32⟩
  | 74 => ⟨S32x2048, .i32⟩
  | 75 => ⟨S32x2048, .i32⟩
  | 76 => ⟨S32x2048, .i32⟩
  | 77 => ⟨S32x2048, .i32⟩
  | 78 => ⟨S32x2048, .i32⟩
  | 79 => ⟨S32x2048, .i32⟩
  | 80 => ⟨S32x2048, .i32⟩
  | 81 => ⟨S_, .i32⟩
  | 82 => ⟨S32x2048, .i32⟩
  | 83 => ⟨S32x2048, .i32⟩
  | 84 => ⟨S32x2048, .i32⟩
  | 85 => ⟨S32x2048, .i32⟩
  | 86 => ⟨S32x2048, .i32⟩
  | 87 => ⟨S32x307, .i32⟩
  | 88 => ⟨S_, .f32⟩
  | 89 => ⟨S32x2048, .f32⟩
  | 90 => ⟨S32, .i32⟩
  | 91 => ⟨S32x1, .i32⟩
  | 92 => ⟨S_, .i32⟩
  | 93 => ⟨S32x1, .i32⟩
  | 94 => ⟨S32x1, .i1⟩
  | 95 => ⟨S_, .i32⟩
  | 96 => ⟨S32x1, .i32⟩
  | 97 => ⟨S32x1, .i32⟩
  | 98 => ⟨S32x1, .i32⟩
  | 99 => ⟨S_, .i32⟩
  | 100 => ⟨S32x307, .i32⟩
  | 101 => ⟨S32x307, .i1⟩
  | 102 => ⟨S_, .i32⟩
  | 103 => ⟨S32x307, .i32⟩
  | 104 => ⟨S32x307, .i32⟩
  | 105 => ⟨S32x307, .i32⟩
  | 106 => ⟨S32x307, .i32⟩
  | 107 => ⟨S32x307x1, .i32⟩
  | 108 => ⟨S32x307x1, .i32⟩
  | 109 => ⟨S32x307x2, .i32⟩
  | 110 => ⟨S_, .f32⟩
  | 111 => ⟨S32x307, .f32⟩
  | 112 => ⟨S32x2048, .f32⟩
  | _ => ⟨S32x128x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S32x128x2048, .f32⟩

abbrev bufTy : (tb : Table) → Fin (tcTables nBuf tb) → BufTy
  | .hbm, ⟨i, _⟩ => hbmTy i
  | _, _ => ⟨S32x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_call1_call0_v0 : Ref sig .tc := ⟨.hbm, 250, rfl⟩
abbrev main_call1_call0_v1 : Ref sig .tc := ⟨.hbm, 251, rfl⟩
abbrev main_call1_call0_v2 : Ref sig .tc := ⟨.hbm, 252, rfl⟩
abbrev main_call1_call0_v3 : Ref sig .tc := ⟨.hbm, 253, rfl⟩
abbrev main_call1_call0_v4 : Ref sig .tc := ⟨.hbm, 254, rfl⟩
abbrev main_call1_call0_c : Ref sig .tc := ⟨.hbm, 255, rfl⟩
abbrev main_call1_call0_v5 : Ref sig .tc := ⟨.hbm, 256, rfl⟩
abbrev main_call1_call0_v6 : Ref sig .tc := ⟨.hbm, 257, rfl⟩
abbrev main_call1_call0_c_0 : Ref sig .tc := ⟨.hbm, 258, rfl⟩
abbrev main_call1_call0_v7 : Ref sig .tc := ⟨.hbm, 259, rfl⟩
abbrev main_call1_call0_v8 : Ref sig .tc := ⟨.hbm, 260, rfl⟩
abbrev main_call1_call0_v9 : Ref sig .tc := ⟨.hbm, 261, rfl⟩
abbrev main_call1_call0_v10 : Ref sig .tc := ⟨.hbm, 262, rfl⟩
abbrev main_call1_call0_v11 : Ref sig .tc := ⟨.hbm, 263, rfl⟩
abbrev main_call1_call0_v12 : Ref sig .tc := ⟨.hbm, 264, rfl⟩
abbrev main_call1_call0_v13 : Ref sig .tc := ⟨.hbm, 265, rfl⟩
abbrev main_call1_call0_v14 : Ref sig .tc := ⟨.hbm, 266, rfl⟩
abbrev main_call1_call0_call0_v0 : Ref sig .tc := ⟨.hbm, 267, rfl⟩
abbrev main_call1_call0_call0_c : Ref sig .tc := ⟨.hbm, 268, rfl⟩
abbrev main_call1_call0_call0_v1 : Ref sig .tc := ⟨.hbm, 269, rfl⟩
abbrev main_call1_call0_call0_v2 : Ref sig .tc := ⟨.hbm, 270, rfl⟩
abbrev main_call1_call0_call0_v3 : Ref sig .tc := ⟨.hbm, 271, rfl⟩
abbrev main_call1_call0_call0_v4 : Ref sig .tc := ⟨.hbm, 272, rfl⟩
abbrev main_call1_call0_call0_v5 : Ref sig .tc := ⟨.hbm, 273, rfl⟩
abbrev main_call1_call0_call0_v6 : Ref sig .tc := ⟨.hbm, 274, rfl⟩
abbrev main_call1_call0_call0_v7 : Ref sig .tc := ⟨.hbm, 275, rfl⟩
abbrev main_call1_call0_call0_v8 : Ref sig .tc := ⟨.hbm, 276, rfl⟩
abbrev main_call1_call0_call0_v9 : Ref sig .tc := ⟨.hbm, 277, rfl⟩
abbrev main_call1_call0_call0_c_0 : Ref sig .tc := ⟨.hbm, 278, rfl⟩
abbrev main_call1_call0_call0_v10 : Ref sig .tc := ⟨.hbm, 279, rfl⟩
abbrev main_call1_call0_call0_v11 : Ref sig .tc := ⟨.hbm, 280, rfl⟩
abbrev main_call1_call0_call0_c_1 : Ref sig .tc := ⟨.hbm, 281, rfl⟩
abbrev main_call1_call0_call0_v12 : Ref sig .tc := ⟨.hbm, 282, rfl⟩
abbrev main_call1_call0_call0_v13 : Ref sig .tc := ⟨.hbm, 283, rfl⟩
abbrev main_call1_call0_call0_v14 : Ref sig .tc := ⟨.hbm, 284, rfl⟩
abbrev main_call1_call0_call0_v15 : Ref sig .tc := ⟨.hbm, 285, rfl⟩
abbrev main_call1_call0_call0_v16 : Ref sig .tc := ⟨.hbm, 286, rfl⟩
abbrev main_call1_call0_call0_c_2 : Ref sig .tc := ⟨.hbm, 287, rfl⟩
abbrev main_call1_call0_call0_v17 : Ref sig .tc := ⟨.hbm, 288, rfl⟩
abbrev main_call1_call0_call0_v18 : Ref sig .tc := ⟨.hbm, 289, rfl⟩
abbrev main_call1_call0_call0_c_3 : Ref sig .tc := ⟨.hbm, 290, rfl⟩
abbrev main_call1_call0_call0_v19 : Ref sig .tc := ⟨.hbm, 291, rfl⟩
abbrev main_call1_call0_call0_v20 : Ref sig .tc := ⟨.hbm, 292, rfl⟩
abbrev main_call1_call0_call0_v21 : Ref sig .tc := ⟨.hbm, 293, rfl⟩
abbrev main_call1_call0_call0_v22 : Ref sig .tc := ⟨.hbm, 294, rfl⟩
abbrev main_call1_call0_call0_v23 : Ref sig .tc := ⟨.hbm, 295, rfl⟩
abbrev main_call1_call0_call0_c_4 : Ref sig .tc := ⟨.hbm, 296, rfl⟩
abbrev main_call1_call0_call0_v24 : Ref sig .tc := ⟨.hbm, 297, rfl⟩
abbrev main_call1_call0_call0_v25 : Ref sig .tc := ⟨.hbm, 298, rfl⟩
abbrev main_call1_call0_call0_c_5 : Ref sig .tc := ⟨.hbm, 299, rfl⟩
abbrev main_call1_call0_call0_v26 : Ref sig .tc := ⟨.hbm, 300, rfl⟩
abbrev main_call1_call0_call0_v27 : Ref sig .tc := ⟨.hbm, 301, rfl⟩
abbrev main_call1_call0_call0_v28 : Ref sig .tc := ⟨.hbm, 302, rfl⟩
abbrev main_call1_call0_call0_v29 : Ref sig .tc := ⟨.hbm, 303, rfl⟩
abbrev main_call1_call0_call0_v30 : Ref sig .tc := ⟨.hbm, 304, rfl⟩
abbrev main_call1_call0_call0_c_6 : Ref sig .tc := ⟨.hbm, 305, rfl⟩
abbrev main_call1_call0_call0_v31 : Ref sig .tc := ⟨.hbm, 306, rfl⟩
abbrev main_call1_call0_call0_v32 : Ref sig .tc := ⟨.hbm, 307, rfl⟩
abbrev main_call1_call0_call0_c_7 : Ref sig .tc := ⟨.hbm, 308, rfl⟩
abbrev main_call1_call0_call0_v33 : Ref sig .tc := ⟨.hbm, 309, rfl⟩
abbrev main_call1_call0_call0_v34 : Ref sig .tc := ⟨.hbm, 310, rfl⟩
abbrev main_call1_call0_call0_v35 : Ref sig .tc := ⟨.hbm, 311, rfl⟩
abbrev main_call1_call0_call0_v36 : Ref sig .tc := ⟨.hbm, 312, rfl⟩
abbrev main_call1_call0_call0_v37 : Ref sig .tc := ⟨.hbm, 313, rfl⟩
abbrev main_call1_call0_call0_v38 : Ref sig .tc := ⟨.hbm, 314, rfl⟩
abbrev main_call1_call0_call0_v39 : Ref sig .tc := ⟨.hbm, 315, rfl⟩
abbrev main_call1_call0_call0_v40 : Ref sig .tc := ⟨.hbm, 316, rfl⟩
abbrev main_call1_call0_call0_c_8 : Ref sig .tc := ⟨.hbm, 317, rfl⟩
abbrev main_call1_call0_call0_v41 : Ref sig .tc := ⟨.hbm, 318, rfl⟩
abbrev main_call1_call0_call0_v42 : Ref sig .tc := ⟨.hbm, 319, rfl⟩
abbrev main_call1_call0_call0_v43 : Ref sig .tc := ⟨.hbm, 320, rfl⟩
abbrev main_call1_call0_call0_c_9 : Ref sig .tc := ⟨.hbm, 321, rfl⟩
abbrev main_call1_call0_call0_v44 : Ref sig .tc := ⟨.hbm, 322, rfl⟩
abbrev main_call1_call0_call0_v45 : Ref sig .tc := ⟨.hbm, 323, rfl⟩
abbrev main_call1_call0_call0_c_10 : Ref sig .tc := ⟨.hbm, 324, rfl⟩
abbrev main_call1_call0_call0_v46 : Ref sig .tc := ⟨.hbm, 325, rfl⟩
abbrev main_call1_call0_call0_v47 : Ref sig .tc := ⟨.hbm, 326, rfl⟩
abbrev main_call1_call0_call0_v48 : Ref sig .tc := ⟨.hbm, 327, rfl⟩
abbrev main_call1_call0_call0_v49 : Ref sig .tc := ⟨.hbm, 328, rfl⟩
abbrev main_call1_call0_call0_v50 : Ref sig .tc := ⟨.hbm, 329, rfl⟩
abbrev main_call1_call0_call0_c_11 : Ref sig .tc := ⟨.hbm, 330, rfl⟩
abbrev main_call1_call0_call0_v51 : Ref sig .tc := ⟨.hbm, 331, rfl⟩
abbrev main_call1_call0_call0_v52 : Ref sig .tc := ⟨.hbm, 332, rfl⟩
abbrev main_call1_call0_call0_c_12 : Ref sig .tc := ⟨.hbm, 333, rfl⟩
abbrev main_call1_call0_call0_v53 : Ref sig .tc := ⟨.hbm, 334, rfl⟩
abbrev main_call1_call0_call0_v54 : Ref sig .tc := ⟨.hbm, 335, rfl⟩
abbrev main_call1_call0_call0_v55 : Ref sig .tc := ⟨.hbm, 336, rfl⟩
abbrev main_call1_call0_call0_v56 : Ref sig .tc := ⟨.hbm, 337, rfl⟩
abbrev main_call1_call0_call0_v57 : Ref sig .tc := ⟨.hbm, 338, rfl⟩
abbrev main_call1_call0_call0_c_13 : Ref sig .tc := ⟨.hbm, 339, rfl⟩
abbrev main_call1_call0_call0_v58 : Ref sig .tc := ⟨.hbm, 340, rfl⟩
abbrev main_call1_call0_call0_v59 : Ref sig .tc := ⟨.hbm, 341, rfl⟩
abbrev main_call1_call0_call0_c_14 : Ref sig .tc := ⟨.hbm, 342, rfl⟩
abbrev main_call1_call0_call0_v60 : Ref sig .tc := ⟨.hbm, 343, rfl⟩
abbrev main_call1_call0_call0_v61 : Ref sig .tc := ⟨.hbm, 344, rfl⟩
abbrev main_call1_call0_call0_v62 : Ref sig .tc := ⟨.hbm, 345, rfl⟩
abbrev main_call1_call0_call0_v63 : Ref sig .tc := ⟨.hbm, 346, rfl⟩
abbrev main_call1_call0_call0_v64 : Ref sig .tc := ⟨.hbm, 347, rfl⟩
abbrev main_call1_call0_call0_c_15 : Ref sig .tc := ⟨.hbm, 348, rfl⟩
abbrev main_call1_call0_call0_v65 : Ref sig .tc := ⟨.hbm, 349, rfl⟩
abbrev main_call1_call0_call0_v66 : Ref sig .tc := ⟨.hbm, 350, rfl⟩
abbrev main_call1_call0_call0_c_16 : Ref sig .tc := ⟨.hbm, 351, rfl⟩
abbrev main_call1_call0_call0_v67 : Ref sig .tc := ⟨.hbm, 352, rfl⟩
abbrev main_call1_call0_call0_v68 : Ref sig .tc := ⟨.hbm, 353, rfl⟩
abbrev main_call1_call0_call0_v69 : Ref sig .tc := ⟨.hbm, 354, rfl⟩
abbrev main_call1_call0_call0_v70 : Ref sig .tc := ⟨.hbm, 355, rfl⟩
abbrev main_call1_call0_call0_v71 : Ref sig .tc := ⟨.hbm, 356, rfl⟩
abbrev main_call1_call0_call0_v72 : Ref sig .tc := ⟨.hbm, 357, rfl⟩
abbrev main_call1_call0_call0_v73 : Ref sig .tc := ⟨.hbm, 358, rfl⟩
abbrev main_call1_call0_call0_v74 : Ref sig .tc := ⟨.hbm, 359, rfl⟩
abbrev main_call1_call0_call0_c_17 : Ref sig .tc := ⟨.hbm, 360, rfl⟩
abbrev main_call1_call0_call0_v75 : Ref sig .tc := ⟨.hbm, 361, rfl⟩
abbrev main_call1_call0_call0_v76 : Ref sig .tc := ⟨.hbm, 362, rfl⟩
abbrev main_call1_call0_call0_v77 : Ref sig .tc := ⟨.hbm, 363, rfl⟩
abbrev main_call1_call0_call0_c_18 : Ref sig .tc := ⟨.hbm, 364, rfl⟩
abbrev main_call1_call0_call0_v78 : Ref sig .tc := ⟨.hbm, 365, rfl⟩
abbrev main_call1_call0_call0_v79 : Ref sig .tc := ⟨.hbm, 366, rfl⟩
abbrev main_call1_call0_call0_c_19 : Ref sig .tc := ⟨.hbm, 367, rfl⟩
abbrev main_call1_call0_call0_v80 : Ref sig .tc := ⟨.hbm, 368, rfl⟩
abbrev main_call1_call0_call0_v81 : Ref sig .tc := ⟨.hbm, 369, rfl⟩
abbrev main_call1_call0_call0_v82 : Ref sig .tc := ⟨.hbm, 370, rfl⟩
abbrev main_call1_call0_call0_v83 : Ref sig .tc := ⟨.hbm, 371, rfl⟩
abbrev main_call1_call0_call0_v84 : Ref sig .tc := ⟨.hbm, 372, rfl⟩
abbrev main_call1_call0_call0_c_20 : Ref sig .tc := ⟨.hbm, 373, rfl⟩
abbrev main_call1_call0_call0_v85 : Ref sig .tc := ⟨.hbm, 374, rfl⟩
abbrev main_call1_call0_call0_v86 : Ref sig .tc := ⟨.hbm, 375, rfl⟩
abbrev main_call1_call0_call0_c_21 : Ref sig .tc := ⟨.hbm, 376, rfl⟩
abbrev main_call1_call0_call0_v87 : Ref sig .tc := ⟨.hbm, 377, rfl⟩
abbrev main_call1_call0_call0_v88 : Ref sig .tc := ⟨.hbm, 378, rfl⟩
abbrev main_call1_call0_call0_v89 : Ref sig .tc := ⟨.hbm, 379, rfl⟩
abbrev main_call1_call0_call0_v90 : Ref sig .tc := ⟨.hbm, 380, rfl⟩
abbrev main_call1_call0_call0_v91 : Ref sig .tc := ⟨.hbm, 381, rfl⟩
abbrev main_call1_call0_call0_c_22 : Ref sig .tc := ⟨.hbm, 382, rfl⟩
abbrev main_call1_call0_call0_v92 : Ref sig .tc := ⟨.hbm, 383, rfl⟩
abbrev main_call1_call0_call0_v93 : Ref sig .tc := ⟨.hbm, 384, rfl⟩
abbrev main_call1_call0_call0_c_23 : Ref sig .tc := ⟨.hbm, 385, rfl⟩
abbrev main_call1_call0_call0_v94 : Ref sig .tc := ⟨.hbm, 386, rfl⟩
abbrev main_call1_call0_call0_v95 : Ref sig .tc := ⟨.hbm, 387, rfl⟩
abbrev main_call1_call0_call0_v96 : Ref sig .tc := ⟨.hbm, 388, rfl⟩
abbrev main_call1_call0_call0_v97 : Ref sig .tc := ⟨.hbm, 389, rfl⟩
abbrev main_call1_call0_call0_v98 : Ref sig .tc := ⟨.hbm, 390, rfl⟩
abbrev main_call1_call0_call0_c_24 : Ref sig .tc := ⟨.hbm, 391, rfl⟩
abbrev main_call1_call0_call0_v99 : Ref sig .tc := ⟨.hbm, 392, rfl⟩
abbrev main_call1_call0_call0_v100 : Ref sig .tc := ⟨.hbm, 393, rfl⟩
abbrev main_call1_call0_call0_c_25 : Ref sig .tc := ⟨.hbm, 394, rfl⟩
abbrev main_call1_call0_call0_v101 : Ref sig .tc := ⟨.hbm, 395, rfl⟩
abbrev main_call1_call0_call0_v102 : Ref sig .tc := ⟨.hbm, 396, rfl⟩
abbrev main_call1_call0_call0_v103 : Ref sig .tc := ⟨.hbm, 397, rfl⟩
abbrev main_call1_call0_call0_v104 : Ref sig .tc := ⟨.hbm, 398, rfl⟩
abbrev main_call1_call0_call0_v105 : Ref sig .tc := ⟨.hbm, 399, rfl⟩
abbrev main_call1_call0_call0_v106 : Ref sig .tc := ⟨.hbm, 400, rfl⟩
abbrev main_call1_call0_call0_v107 : Ref sig .tc := ⟨.hbm, 401, rfl⟩
abbrev main_call1_call0_call0_v108 : Ref sig .tc := ⟨.hbm, 402, rfl⟩
abbrev main_call1_call0_call0_c_26 : Ref sig .tc := ⟨.hbm, 403, rfl⟩
abbrev main_call1_call0_call0_v109 : Ref sig .tc := ⟨.hbm, 404, rfl⟩
abbrev main_call1_call0_call0_v110 : Ref sig .tc := ⟨.hbm, 405, rfl⟩
abbrev main_call1_call0_call0_v111 : Ref sig .tc := ⟨.hbm, 406, rfl⟩
abbrev main_call1_call0_call0_c_27 : Ref sig .tc := ⟨.hbm, 407, rfl⟩
abbrev main_call1_call0_call0_v112 : Ref sig .tc := ⟨.hbm, 408, rfl⟩
abbrev main_call1_call0_call0_v113 : Ref sig .tc := ⟨.hbm, 409, rfl⟩
abbrev main_call1_call0_call0_c_28 : Ref sig .tc := ⟨.hbm, 410, rfl⟩
abbrev main_call1_call0_call0_v114 : Ref sig .tc := ⟨.hbm, 411, rfl⟩
abbrev main_call1_call0_call0_v115 : Ref sig .tc := ⟨.hbm, 412, rfl⟩
abbrev main_call1_call0_call0_v116 : Ref sig .tc := ⟨.hbm, 413, rfl⟩
abbrev main_call1_call0_call0_v117 : Ref sig .tc := ⟨.hbm, 414, rfl⟩
abbrev main_call1_call0_call0_v118 : Ref sig .tc := ⟨.hbm, 415, rfl⟩
abbrev main_call1_call0_call0_c_29 : Ref sig .tc := ⟨.hbm, 416, rfl⟩
abbrev main_call1_call0_call0_v119 : Ref sig .tc := ⟨.hbm, 417, rfl⟩
abbrev main_call1_call0_call0_v120 : Ref sig .tc := ⟨.hbm, 418, rfl⟩
abbrev main_call1_call0_call0_c_30 : Ref sig .tc := ⟨.hbm, 419, rfl⟩
abbrev main_call1_call0_call0_v121 : Ref sig .tc := ⟨.hbm, 420, rfl⟩
abbrev main_call1_call0_call0_v122 : Ref sig .tc := ⟨.hbm, 421, rfl⟩
abbrev main_call1_call0_call0_v123 : Ref sig .tc := ⟨.hbm, 422, rfl⟩
abbrev main_call1_call0_call0_v124 : Ref sig .tc := ⟨.hbm, 423, rfl⟩
abbrev main_call1_call0_call0_v125 : Ref sig .tc := ⟨.hbm, 424, rfl⟩
abbrev main_call1_call0_call0_c_31 : Ref sig .tc := ⟨.hbm, 425, rfl⟩
abbrev main_call1_call0_call0_v126 : Ref sig .tc := ⟨.hbm, 426, rfl⟩
abbrev main_call1_call0_call0_v127 : Ref sig .tc := ⟨.hbm, 427, rfl⟩
abbrev main_call1_call0_call0_c_32 : Ref sig .tc := ⟨.hbm, 428, rfl⟩
abbrev main_call1_call0_call0_v128 : Ref sig .tc := ⟨.hbm, 429, rfl⟩
abbrev main_call1_call0_call0_v129 : Ref sig .tc := ⟨.hbm, 430, rfl⟩
abbrev main_call1_call0_call0_v130 : Ref sig .tc := ⟨.hbm, 431, rfl⟩
abbrev main_call1_call0_call0_v131 : Ref sig .tc := ⟨.hbm, 432, rfl⟩
abbrev main_call1_call0_call0_v132 : Ref sig .tc := ⟨.hbm, 433, rfl⟩
abbrev main_call1_call0_call0_c_33 : Ref sig .tc := ⟨.hbm, 434, rfl⟩
abbrev main_call1_call0_call0_v133 : Ref sig .tc := ⟨.hbm, 435, rfl⟩
abbrev main_call1_call0_call0_v134 : Ref sig .tc := ⟨.hbm, 436, rfl⟩
abbrev main_call1_call0_call0_c_34 : Ref sig .tc := ⟨.hbm, 437, rfl⟩
abbrev main_call1_call0_call0_v135 : Ref sig .tc := ⟨.hbm, 438, rfl⟩
abbrev main_call1_call0_call0_v136 : Ref sig .tc := ⟨.hbm, 439, rfl⟩
abbrev main_call1_call0_call0_v137 : Ref sig .tc := ⟨.hbm, 440, rfl⟩
abbrev main_call1_call0_call0_v138 : Ref sig .tc := ⟨.hbm, 441, rfl⟩
abbrev main_call1_call0_call0_v139 : Ref sig .tc := ⟨.hbm, 442, rfl⟩
abbrev main_call1_call0_call0_v140 : Ref sig .tc := ⟨.hbm, 443, rfl⟩
abbrev main_call1_call0_call0_v141 : Ref sig .tc := ⟨.hbm, 444, rfl⟩
abbrev main_call1_call0_call0_v142 : Ref sig .tc := ⟨.hbm, 445, rfl⟩
abbrev main_call1_call0_call0_c_35 : Ref sig .tc := ⟨.hbm, 446, rfl⟩
abbrev main_call1_call0_call0_v143 : Ref sig .tc := ⟨.hbm, 447, rfl⟩
abbrev main_call1_call0_call0_v144 : Ref sig .tc := ⟨.hbm, 448, rfl⟩
abbrev main_call1_call0_call0_v145 : Ref sig .tc := ⟨.hbm, 449, rfl⟩
abbrev main_call1_call0_call0_c_36 : Ref sig .tc := ⟨.hbm, 450, rfl⟩
abbrev main_call1_call0_call0_v146 : Ref sig .tc := ⟨.hbm, 451, rfl⟩
abbrev main_call1_call0_call0_v147 : Ref sig .tc := ⟨.hbm, 452, rfl⟩
abbrev main_call1_call0_call0_c_37 : Ref sig .tc := ⟨.hbm, 453, rfl⟩
abbrev main_call1_call0_call0_v148 : Ref sig .tc := ⟨.hbm, 454, rfl⟩
abbrev main_call1_call0_call0_v149 : Ref sig .tc := ⟨.hbm, 455, rfl⟩
abbrev main_call1_call0_call0_v150 : Ref sig .tc := ⟨.hbm, 456, rfl⟩
abbrev main_call1_call0_call0_v151 : Ref sig .tc := ⟨.hbm, 457, rfl⟩
abbrev main_call1_call0_call0_v152 : Ref sig .tc := ⟨.hbm, 458, rfl⟩
abbrev main_call1_call0_call0_c_38 : Ref sig .tc := ⟨.hbm, 459, rfl⟩
abbrev main_call1_call0_call0_v153 : Ref sig .tc := ⟨.hbm, 460, rfl⟩
abbrev main_call1_call0_call0_v154 : Ref sig .tc := ⟨.hbm, 461, rfl⟩
abbrev main_call1_call0_call0_c_39 : Ref sig .tc := ⟨.hbm, 462, rfl⟩
abbrev main_call1_call0_call0_v155 : Ref sig .tc := ⟨.hbm, 463, rfl⟩
abbrev main_call1_call0_call0_v156 : Ref sig .tc := ⟨.hbm, 464, rfl⟩
abbrev main_call1_call0_call0_v157 : Ref sig .tc := ⟨.hbm, 465, rfl⟩
abbrev main_call1_call0_call0_v158 : Ref sig .tc := ⟨.hbm, 466, rfl⟩
abbrev main_call1_call0_call0_v159 : Ref sig .tc := ⟨.hbm, 467, rfl⟩
abbrev main_call1_call0_call0_c_40 : Ref sig .tc := ⟨.hbm, 468, rfl⟩
abbrev main_call1_call0_call0_v160 : Ref sig .tc := ⟨.hbm, 469, rfl⟩
abbrev main_call1_call0_call0_v161 : Ref sig .tc := ⟨.hbm, 470, rfl⟩
abbrev main_call1_call0_call0_c_41 : Ref sig .tc := ⟨.hbm, 471, rfl⟩
abbrev main_call1_call0_call0_v162 : Ref sig .tc := ⟨.hbm, 472, rfl⟩
abbrev main_call1_call0_call0_v163 : Ref sig .tc := ⟨.hbm, 473, rfl⟩
abbrev main_call1_call0_call0_v164 : Ref sig .tc := ⟨.hbm, 474, rfl⟩
abbrev main_call1_call0_call0_v165 : Ref sig .tc := ⟨.hbm, 475, rfl⟩
abbrev main_call1_call0_call0_v166 : Ref sig .tc := ⟨.hbm, 476, rfl⟩
abbrev main_call1_call0_call0_c_42 : Ref sig .tc := ⟨.hbm, 477, rfl⟩
abbrev main_call1_call0_call0_v167 : Ref sig .tc := ⟨.hbm, 478, rfl⟩
abbrev main_call1_call0_call0_v168 : Ref sig .tc := ⟨.hbm, 479, rfl⟩
abbrev main_call1_call0_call0_c_43 : Ref sig .tc := ⟨.hbm, 480, rfl⟩
abbrev main_call1_call0_call0_v169 : Ref sig .tc := ⟨.hbm, 481, rfl⟩
abbrev main_call1_call0_call0_v170 : Ref sig .tc := ⟨.hbm, 482, rfl⟩
abbrev main_call1_call0_call0_v171 : Ref sig .tc := ⟨.hbm, 483, rfl⟩
abbrev main_call1_call0_call0_v172 : Ref sig .tc := ⟨.hbm, 484, rfl⟩
abbrev main_call1_call0_call0_v173 : Ref sig .tc := ⟨.hbm, 485, rfl⟩
abbrev main_call1_call0_v15_0 : Ref sig .tc := ⟨.hbm, 486, rfl⟩
abbrev main_call1_call0_call0_v175 : Ref sig .tc := ⟨.hbm, 487, rfl⟩
abbrev main_call1_call0_call0_v176 : Ref sig .tc := ⟨.hbm, 488, rfl⟩
abbrev main_call1_call0_call0_c_44 : Ref sig .tc := ⟨.hbm, 489, rfl⟩
abbrev main_call1_call0_call0_v177 : Ref sig .tc := ⟨.hbm, 490, rfl⟩
abbrev main_call1_call0_v15_1 : Ref sig .tc := ⟨.hbm, 491, rfl⟩
abbrev main_call1_call0_v16 : Ref sig .tc := ⟨.hbm, 492, rfl⟩
abbrev main_call1_call0_v17 : Ref sig .tc := ⟨.hbm, 493, rfl⟩
abbrev main_call1_v0 : Ref sig .tc := ⟨.hbm, 494, rfl⟩
abbrev main_call1_v1 : Ref sig .tc := ⟨.hbm, 495, rfl⟩
abbrev main_call1_v2 : Ref sig .tc := ⟨.hbm, 496, rfl⟩
abbrev main_call1_v3 : Ref sig .tc := ⟨.hbm, 497, rfl⟩
abbrev main_call1_v4 : Ref sig .tc := ⟨.hbm, 498, rfl⟩
abbrev main_call1_v5 : Ref sig .tc := ⟨.hbm, 499, rfl⟩
abbrev main_call1_v6 : Ref sig .tc := ⟨.hbm, 500, rfl⟩
abbrev main_call1_v7 : Ref sig .tc := ⟨.hbm, 501, rfl⟩
abbrev main_call1_v8 : Ref sig .tc := ⟨.hbm, 502, rfl⟩
abbrev main_call1_v9 : Ref sig .tc := ⟨.hbm, 503, rfl⟩
abbrev main_call1_c : Ref sig .tc := ⟨.hbm, 504, rfl⟩
abbrev main_call1_v10 : Ref sig .tc := ⟨.hbm, 505, rfl⟩
abbrev main_call1_v11 : Ref sig .tc := ⟨.hbm, 506, rfl⟩
abbrev main_call1_c_0 : Ref sig .tc := ⟨.hbm, 507, rfl⟩
abbrev main_call1_v12 : Ref sig .tc := ⟨.hbm, 508, rfl⟩
abbrev main_call1_v13 : Ref sig .tc := ⟨.hbm, 509, rfl⟩
abbrev main_call1_v14 : Ref sig .tc := ⟨.hbm, 510, rfl⟩
abbrev main_call1_v15 : Ref sig .tc := ⟨.hbm, 511, rfl⟩
abbrev main_call1_v16 : Ref sig .tc := ⟨.hbm, 512, rfl⟩
abbrev main_call1_v17 : Ref sig .tc := ⟨.hbm, 513, rfl⟩
abbrev main_call1_v18 : Ref sig .tc := ⟨.hbm, 514, rfl⟩
abbrev main_call1_v19 : Ref sig .tc := ⟨.hbm, 515, rfl⟩
abbrev main_call1_call1_v0 : Ref sig .tc := ⟨.hbm, 516, rfl⟩
abbrev main_call1_call1_c : Ref sig .tc := ⟨.hbm, 517, rfl⟩
abbrev main_call1_call1_v1 : Ref sig .tc := ⟨.hbm, 518, rfl⟩
abbrev main_call1_call1_v2 : Ref sig .tc := ⟨.hbm, 519, rfl⟩
abbrev main_call1_call1_v3 : Ref sig .tc := ⟨.hbm, 520, rfl⟩
abbrev main_call1_call1_v4 : Ref sig .tc := ⟨.hbm, 521, rfl⟩
abbrev main_call1_call1_v5 : Ref sig .tc := ⟨.hbm, 522, rfl⟩
abbrev main_call1_call1_v6 : Ref sig .tc := ⟨.hbm, 523, rfl⟩
abbrev main_call1_call1_v7 : Ref sig .tc := ⟨.hbm, 524, rfl⟩
abbrev main_call1_call1_v8 : Ref sig .tc := ⟨.hbm, 525, rfl⟩
abbrev main_call1_call1_v9 : Ref sig .tc := ⟨.hbm, 526, rfl⟩
abbrev main_call1_call1_c_0 : Ref sig .tc := ⟨.hbm, 527, rfl⟩
abbrev main_call1_call1_v10 : Ref sig .tc := ⟨.hbm, 528, rfl⟩
abbrev main_call1_call1_v11 : Ref sig .tc := ⟨.hbm, 529, rfl⟩
abbrev main_call1_call1_c_1 : Ref sig .tc := ⟨.hbm, 530, rfl⟩
abbrev main_call1_call1_v12 : Ref sig .tc := ⟨.hbm, 531, rfl⟩
abbrev main_call1_call1_v13 : Ref sig .tc := ⟨.hbm, 532, rfl⟩
abbrev main_call1_call1_v14 : Ref sig .tc := ⟨.hbm, 533, rfl⟩
abbrev main_call1_call1_v15 : Ref sig .tc := ⟨.hbm, 534, rfl⟩
abbrev main_call1_call1_v16 : Ref sig .tc := ⟨.hbm, 535, rfl⟩
abbrev main_call1_call1_c_2 : Ref sig .tc := ⟨.hbm, 536, rfl⟩
abbrev main_call1_call1_v17 : Ref sig .tc := ⟨.hbm, 537, rfl⟩
abbrev main_call1_call1_v18 : Ref sig .tc := ⟨.hbm, 538, rfl⟩
abbrev main_call1_call1_c_3 : Ref sig .tc := ⟨.hbm, 539, rfl⟩
abbrev main_call1_call1_v19 : Ref sig .tc := ⟨.hbm, 540, rfl⟩
abbrev main_call1_call1_v20 : Ref sig .tc := ⟨.hbm, 541, rfl⟩
abbrev main_call1_call1_v21 : Ref sig .tc := ⟨.hbm, 542, rfl⟩
abbrev main_call1_call1_v22 : Ref sig .tc := ⟨.hbm, 543, rfl⟩
abbrev main_call1_call1_v23 : Ref sig .tc := ⟨.hbm, 544, rfl⟩
abbrev main_call1_call1_c_4 : Ref sig .tc := ⟨.hbm, 545, rfl⟩
abbrev main_call1_call1_v24 : Ref sig .tc := ⟨.hbm, 546, rfl⟩
abbrev main_call1_call1_v25 : Ref sig .tc := ⟨.hbm, 547, rfl⟩
abbrev main_call1_call1_c_5 : Ref sig .tc := ⟨.hbm, 548, rfl⟩
abbrev main_call1_call1_v26 : Ref sig .tc := ⟨.hbm, 549, rfl⟩
abbrev main_call1_call1_v27 : Ref sig .tc := ⟨.hbm, 550, rfl⟩
abbrev main_call1_call1_v28 : Ref sig .tc := ⟨.hbm, 551, rfl⟩
abbrev main_call1_call1_v29 : Ref sig .tc := ⟨.hbm, 552, rfl⟩
abbrev main_call1_call1_v30 : Ref sig .tc := ⟨.hbm, 553, rfl⟩
abbrev main_call1_call1_c_6 : Ref sig .tc := ⟨.hbm, 554, rfl⟩
abbrev main_call1_call1_v31 : Ref sig .tc := ⟨.hbm, 555, rfl⟩
abbrev main_call1_call1_v32 : Ref sig .tc := ⟨.hbm, 556, rfl⟩
abbrev main_call1_call1_c_7 : Ref sig .tc := ⟨.hbm, 557, rfl⟩
abbrev main_call1_call1_v33 : Ref sig .tc := ⟨.hbm, 558, rfl⟩
abbrev main_call1_call1_v34 : Ref sig .tc := ⟨.hbm, 559, rfl⟩
abbrev main_call1_call1_v35 : Ref sig .tc := ⟨.hbm, 560, rfl⟩
abbrev main_call1_call1_v36 : Ref sig .tc := ⟨.hbm, 561, rfl⟩
abbrev main_call1_call1_v37 : Ref sig .tc := ⟨.hbm, 562, rfl⟩
abbrev main_call1_call1_v38 : Ref sig .tc := ⟨.hbm, 563, rfl⟩
abbrev main_call1_call1_v39 : Ref sig .tc := ⟨.hbm, 564, rfl⟩
abbrev main_call1_call1_v40 : Ref sig .tc := ⟨.hbm, 565, rfl⟩
abbrev main_call1_call1_c_8 : Ref sig .tc := ⟨.hbm, 566, rfl⟩
abbrev main_call1_call1_v41 : Ref sig .tc := ⟨.hbm, 567, rfl⟩
abbrev main_call1_call1_v42 : Ref sig .tc := ⟨.hbm, 568, rfl⟩
abbrev main_call1_call1_v43 : Ref sig .tc := ⟨.hbm, 569, rfl⟩
abbrev main_call1_call1_c_9 : Ref sig .tc := ⟨.hbm, 570, rfl⟩
abbrev main_call1_call1_v44 : Ref sig .tc := ⟨.hbm, 571, rfl⟩
abbrev main_call1_call1_v45 : Ref sig .tc := ⟨.hbm, 572, rfl⟩
abbrev main_call1_call1_c_10 : Ref sig .tc := ⟨.hbm, 573, rfl⟩
abbrev main_call1_call1_v46 : Ref sig .tc := ⟨.hbm, 574, rfl⟩
abbrev main_call1_call1_v47 : Ref sig .tc := ⟨.hbm, 575, rfl⟩
abbrev main_call1_call1_v48 : Ref sig .tc := ⟨.hbm, 576, rfl⟩
abbrev main_call1_call1_v49 : Ref sig .tc := ⟨.hbm, 577, rfl⟩
abbrev main_call1_call1_v50 : Ref sig .tc := ⟨.hbm, 578, rfl⟩
abbrev main_call1_call1_c_11 : Ref sig .tc := ⟨.hbm, 579, rfl⟩
abbrev main_call1_call1_v51 : Ref sig .tc := ⟨.hbm, 580, rfl⟩
abbrev main_call1_call1_v52 : Ref sig .tc := ⟨.hbm, 581, rfl⟩
abbrev main_call1_call1_c_12 : Ref sig .tc := ⟨.hbm, 582, rfl⟩
abbrev main_call1_call1_v53 : Ref sig .tc := ⟨.hbm, 583, rfl⟩
abbrev main_call1_call1_v54 : Ref sig .tc := ⟨.hbm, 584, rfl⟩
abbrev main_call1_call1_v55 : Ref sig .tc := ⟨.hbm, 585, rfl⟩
abbrev main_call1_call1_v56 : Ref sig .tc := ⟨.hbm, 586, rfl⟩
abbrev main_call1_call1_v57 : Ref sig .tc := ⟨.hbm, 587, rfl⟩
abbrev main_call1_call1_c_13 : Ref sig .tc := ⟨.hbm, 588, rfl⟩
abbrev main_call1_call1_v58 : Ref sig .tc := ⟨.hbm, 589, rfl⟩
abbrev main_call1_call1_v59 : Ref sig .tc := ⟨.hbm, 590, rfl⟩
abbrev main_call1_call1_c_14 : Ref sig .tc := ⟨.hbm, 591, rfl⟩
abbrev main_call1_call1_v60 : Ref sig .tc := ⟨.hbm, 592, rfl⟩
abbrev main_call1_call1_v61 : Ref sig .tc := ⟨.hbm, 593, rfl⟩
abbrev main_call1_call1_v62 : Ref sig .tc := ⟨.hbm, 594, rfl⟩
abbrev main_call1_call1_v63 : Ref sig .tc := ⟨.hbm, 595, rfl⟩
abbrev main_call1_call1_v64 : Ref sig .tc := ⟨.hbm, 596, rfl⟩
abbrev main_call1_call1_c_15 : Ref sig .tc := ⟨.hbm, 597, rfl⟩
abbrev main_call1_call1_v65 : Ref sig .tc := ⟨.hbm, 598, rfl⟩
abbrev main_call1_call1_v66 : Ref sig .tc := ⟨.hbm, 599, rfl⟩
abbrev main_call1_call1_c_16 : Ref sig .tc := ⟨.hbm, 600, rfl⟩
abbrev main_call1_call1_v67 : Ref sig .tc := ⟨.hbm, 601, rfl⟩
abbrev main_call1_call1_v68 : Ref sig .tc := ⟨.hbm, 602, rfl⟩
abbrev main_call1_call1_v69 : Ref sig .tc := ⟨.hbm, 603, rfl⟩
abbrev main_call1_call1_v70 : Ref sig .tc := ⟨.hbm, 604, rfl⟩
abbrev main_call1_call1_v71 : Ref sig .tc := ⟨.hbm, 605, rfl⟩
abbrev main_call1_call1_v72 : Ref sig .tc := ⟨.hbm, 606, rfl⟩
abbrev main_call1_call1_v73 : Ref sig .tc := ⟨.hbm, 607, rfl⟩
abbrev main_call1_call1_v74 : Ref sig .tc := ⟨.hbm, 608, rfl⟩
abbrev main_call1_call1_c_17 : Ref sig .tc := ⟨.hbm, 609, rfl⟩
abbrev main_call1_call1_v75 : Ref sig .tc := ⟨.hbm, 610, rfl⟩
abbrev main_call1_call1_v76 : Ref sig .tc := ⟨.hbm, 611, rfl⟩
abbrev main_call1_call1_v77 : Ref sig .tc := ⟨.hbm, 612, rfl⟩
abbrev main_call1_call1_c_18 : Ref sig .tc := ⟨.hbm, 613, rfl⟩
abbrev main_call1_call1_v78 : Ref sig .tc := ⟨.hbm, 614, rfl⟩
abbrev main_call1_call1_v79 : Ref sig .tc := ⟨.hbm, 615, rfl⟩
abbrev main_call1_call1_c_19 : Ref sig .tc := ⟨.hbm, 616, rfl⟩
abbrev main_call1_call1_v80 : Ref sig .tc := ⟨.hbm, 617, rfl⟩
abbrev main_call1_call1_v81 : Ref sig .tc := ⟨.hbm, 618, rfl⟩
abbrev main_call1_call1_v82 : Ref sig .tc := ⟨.hbm, 619, rfl⟩
abbrev main_call1_call1_v83 : Ref sig .tc := ⟨.hbm, 620, rfl⟩
abbrev main_call1_call1_v84 : Ref sig .tc := ⟨.hbm, 621, rfl⟩
abbrev main_call1_call1_c_20 : Ref sig .tc := ⟨.hbm, 622, rfl⟩
abbrev main_call1_call1_v85 : Ref sig .tc := ⟨.hbm, 623, rfl⟩
abbrev main_call1_call1_v86 : Ref sig .tc := ⟨.hbm, 624, rfl⟩
abbrev main_call1_call1_c_21 : Ref sig .tc := ⟨.hbm, 625, rfl⟩
abbrev main_call1_call1_v87 : Ref sig .tc := ⟨.hbm, 626, rfl⟩
abbrev main_call1_call1_v88 : Ref sig .tc := ⟨.hbm, 627, rfl⟩
abbrev main_call1_call1_v89 : Ref sig .tc := ⟨.hbm, 628, rfl⟩
abbrev main_call1_call1_v90 : Ref sig .tc := ⟨.hbm, 629, rfl⟩
abbrev main_call1_call1_v91 : Ref sig .tc := ⟨.hbm, 630, rfl⟩
abbrev main_call1_call1_c_22 : Ref sig .tc := ⟨.hbm, 631, rfl⟩
abbrev main_call1_call1_v92 : Ref sig .tc := ⟨.hbm, 632, rfl⟩
abbrev main_call1_call1_v93 : Ref sig .tc := ⟨.hbm, 633, rfl⟩
abbrev main_call1_call1_c_23 : Ref sig .tc := ⟨.hbm, 634, rfl⟩
abbrev main_call1_call1_v94 : Ref sig .tc := ⟨.hbm, 635, rfl⟩
abbrev main_call1_call1_v95 : Ref sig .tc := ⟨.hbm, 636, rfl⟩
abbrev main_call1_call1_v96 : Ref sig .tc := ⟨.hbm, 637, rfl⟩
abbrev main_call1_call1_v97 : Ref sig .tc := ⟨.hbm, 638, rfl⟩
abbrev main_call1_call1_v98 : Ref sig .tc := ⟨.hbm, 639, rfl⟩
abbrev main_call1_call1_c_24 : Ref sig .tc := ⟨.hbm, 640, rfl⟩
abbrev main_call1_call1_v99 : Ref sig .tc := ⟨.hbm, 641, rfl⟩
abbrev main_call1_call1_v100 : Ref sig .tc := ⟨.hbm, 642, rfl⟩
abbrev main_call1_call1_c_25 : Ref sig .tc := ⟨.hbm, 643, rfl⟩
abbrev main_call1_call1_v101 : Ref sig .tc := ⟨.hbm, 644, rfl⟩
abbrev main_call1_call1_v102 : Ref sig .tc := ⟨.hbm, 645, rfl⟩
abbrev main_call1_call1_v103 : Ref sig .tc := ⟨.hbm, 646, rfl⟩
abbrev main_call1_call1_v104 : Ref sig .tc := ⟨.hbm, 647, rfl⟩
abbrev main_call1_call1_v105 : Ref sig .tc := ⟨.hbm, 648, rfl⟩
abbrev main_call1_call1_v106 : Ref sig .tc := ⟨.hbm, 649, rfl⟩
abbrev main_call1_call1_v107 : Ref sig .tc := ⟨.hbm, 650, rfl⟩
abbrev main_call1_call1_v108 : Ref sig .tc := ⟨.hbm, 651, rfl⟩
abbrev main_call1_call1_c_26 : Ref sig .tc := ⟨.hbm, 652, rfl⟩
abbrev main_call1_call1_v109 : Ref sig .tc := ⟨.hbm, 653, rfl⟩
abbrev main_call1_call1_v110 : Ref sig .tc := ⟨.hbm, 654, rfl⟩
abbrev main_call1_call1_v111 : Ref sig .tc := ⟨.hbm, 655, rfl⟩
abbrev main_call1_call1_c_27 : Ref sig .tc := ⟨.hbm, 656, rfl⟩
abbrev main_call1_call1_v112 : Ref sig .tc := ⟨.hbm, 657, rfl⟩
abbrev main_call1_call1_v113 : Ref sig .tc := ⟨.hbm, 658, rfl⟩
abbrev main_call1_call1_c_28 : Ref sig .tc := ⟨.hbm, 659, rfl⟩
abbrev main_call1_call1_v114 : Ref sig .tc := ⟨.hbm, 660, rfl⟩
abbrev main_call1_call1_v115 : Ref sig .tc := ⟨.hbm, 661, rfl⟩
abbrev main_call1_call1_v116 : Ref sig .tc := ⟨.hbm, 662, rfl⟩
abbrev main_call1_call1_v117 : Ref sig .tc := ⟨.hbm, 663, rfl⟩
abbrev main_call1_call1_v118 : Ref sig .tc := ⟨.hbm, 664, rfl⟩
abbrev main_call1_call1_c_29 : Ref sig .tc := ⟨.hbm, 665, rfl⟩
abbrev main_call1_call1_v119 : Ref sig .tc := ⟨.hbm, 666, rfl⟩
abbrev main_call1_call1_v120 : Ref sig .tc := ⟨.hbm, 667, rfl⟩
abbrev main_call1_call1_c_30 : Ref sig .tc := ⟨.hbm, 668, rfl⟩
abbrev main_call1_call1_v121 : Ref sig .tc := ⟨.hbm, 669, rfl⟩
abbrev main_call1_call1_v122 : Ref sig .tc := ⟨.hbm, 670, rfl⟩
abbrev main_call1_call1_v123 : Ref sig .tc := ⟨.hbm, 671, rfl⟩
abbrev main_call1_call1_v124 : Ref sig .tc := ⟨.hbm, 672, rfl⟩
abbrev main_call1_call1_v125 : Ref sig .tc := ⟨.hbm, 673, rfl⟩
abbrev main_call1_call1_c_31 : Ref sig .tc := ⟨.hbm, 674, rfl⟩
abbrev main_call1_call1_v126 : Ref sig .tc := ⟨.hbm, 675, rfl⟩
abbrev main_call1_call1_v127 : Ref sig .tc := ⟨.hbm, 676, rfl⟩
abbrev main_call1_call1_c_32 : Ref sig .tc := ⟨.hbm, 677, rfl⟩
abbrev main_call1_call1_v128 : Ref sig .tc := ⟨.hbm, 678, rfl⟩
abbrev main_call1_call1_v129 : Ref sig .tc := ⟨.hbm, 679, rfl⟩
abbrev main_call1_call1_v130 : Ref sig .tc := ⟨.hbm, 680, rfl⟩
abbrev main_call1_call1_v131 : Ref sig .tc := ⟨.hbm, 681, rfl⟩
abbrev main_call1_call1_v132 : Ref sig .tc := ⟨.hbm, 682, rfl⟩
abbrev main_call1_call1_c_33 : Ref sig .tc := ⟨.hbm, 683, rfl⟩
abbrev main_call1_call1_v133 : Ref sig .tc := ⟨.hbm, 684, rfl⟩
abbrev main_call1_call1_v134 : Ref sig .tc := ⟨.hbm, 685, rfl⟩
abbrev main_call1_call1_c_34 : Ref sig .tc := ⟨.hbm, 686, rfl⟩
abbrev main_call1_call1_v135 : Ref sig .tc := ⟨.hbm, 687, rfl⟩
abbrev main_call1_call1_v136 : Ref sig .tc := ⟨.hbm, 688, rfl⟩
abbrev main_call1_call1_v137 : Ref sig .tc := ⟨.hbm, 689, rfl⟩
abbrev main_call1_call1_v138 : Ref sig .tc := ⟨.hbm, 690, rfl⟩
abbrev main_call1_call1_v139 : Ref sig .tc := ⟨.hbm, 691, rfl⟩
abbrev main_call1_call1_v140 : Ref sig .tc := ⟨.hbm, 692, rfl⟩
abbrev main_call1_call1_v141 : Ref sig .tc := ⟨.hbm, 693, rfl⟩
abbrev main_call1_call1_v142 : Ref sig .tc := ⟨.hbm, 694, rfl⟩
abbrev main_call1_call1_c_35 : Ref sig .tc := ⟨.hbm, 695, rfl⟩
abbrev main_call1_call1_v143 : Ref sig .tc := ⟨.hbm, 696, rfl⟩
abbrev main_call1_call1_v144 : Ref sig .tc := ⟨.hbm, 697, rfl⟩
abbrev main_call1_call1_v145 : Ref sig .tc := ⟨.hbm, 698, rfl⟩
abbrev main_call1_call1_c_36 : Ref sig .tc := ⟨.hbm, 699, rfl⟩
abbrev main_call1_call1_v146 : Ref sig .tc := ⟨.hbm, 700, rfl⟩
abbrev main_call1_call1_v147 : Ref sig .tc := ⟨.hbm, 701, rfl⟩
abbrev main_call1_call1_c_37 : Ref sig .tc := ⟨.hbm, 702, rfl⟩
abbrev main_call1_call1_v148 : Ref sig .tc := ⟨.hbm, 703, rfl⟩
abbrev main_call1_call1_v149 : Ref sig .tc := ⟨.hbm, 704, rfl⟩
abbrev main_call1_call1_v150 : Ref sig .tc := ⟨.hbm, 705, rfl⟩
abbrev main_call1_call1_v151 : Ref sig .tc := ⟨.hbm, 706, rfl⟩
abbrev main_call1_call1_v152 : Ref sig .tc := ⟨.hbm, 707, rfl⟩
abbrev main_call1_call1_c_38 : Ref sig .tc := ⟨.hbm, 708, rfl⟩
abbrev main_call1_call1_v153 : Ref sig .tc := ⟨.hbm, 709, rfl⟩
abbrev main_call1_call1_v154 : Ref sig .tc := ⟨.hbm, 710, rfl⟩
abbrev main_call1_call1_c_39 : Ref sig .tc := ⟨.hbm, 711, rfl⟩
abbrev main_call1_call1_v155 : Ref sig .tc := ⟨.hbm, 712, rfl⟩
abbrev main_call1_call1_v156 : Ref sig .tc := ⟨.hbm, 713, rfl⟩
abbrev main_call1_call1_v157 : Ref sig .tc := ⟨.hbm, 714, rfl⟩
abbrev main_call1_call1_v158 : Ref sig .tc := ⟨.hbm, 715, rfl⟩
abbrev main_call1_call1_v159 : Ref sig .tc := ⟨.hbm, 716, rfl⟩
abbrev main_call1_call1_c_40 : Ref sig .tc := ⟨.hbm, 717, rfl⟩
abbrev main_call1_call1_v160 : Ref sig .tc := ⟨.hbm, 718, rfl⟩
abbrev main_call1_call1_v161 : Ref sig .tc := ⟨.hbm, 719, rfl⟩
abbrev main_call1_call1_c_41 : Ref sig .tc := ⟨.hbm, 720, rfl⟩
abbrev main_call1_call1_v162 : Ref sig .tc := ⟨.hbm, 721, rfl⟩
abbrev main_call1_call1_v163 : Ref sig .tc := ⟨.hbm, 722, rfl⟩
abbrev main_call1_call1_v164 : Ref sig .tc := ⟨.hbm, 723, rfl⟩
abbrev main_call1_call1_v165 : Ref sig .tc := ⟨.hbm, 724, rfl⟩
abbrev main_call1_call1_v166 : Ref sig .tc := ⟨.hbm, 725, rfl⟩
abbrev main_call1_call1_c_42 : Ref sig .tc := ⟨.hbm, 726, rfl⟩
abbrev main_call1_call1_v167 : Ref sig .tc := ⟨.hbm, 727, rfl⟩
abbrev main_call1_call1_v168 : Ref sig .tc := ⟨.hbm, 728, rfl⟩
abbrev main_call1_call1_c_43 : Ref sig .tc := ⟨.hbm, 729, rfl⟩
abbrev main_call1_call1_v169 : Ref sig .tc := ⟨.hbm, 730, rfl⟩
abbrev main_call1_call1_v170 : Ref sig .tc := ⟨.hbm, 731, rfl⟩
abbrev main_call1_call1_v171 : Ref sig .tc := ⟨.hbm, 732, rfl⟩
abbrev main_call1_call1_v172 : Ref sig .tc := ⟨.hbm, 733, rfl⟩
abbrev main_call1_call1_v173 : Ref sig .tc := ⟨.hbm, 734, rfl⟩
abbrev main_call1_v20_0 : Ref sig .tc := ⟨.hbm, 735, rfl⟩
abbrev main_call1_call1_v175 : Ref sig .tc := ⟨.hbm, 736, rfl⟩
abbrev main_call1_call1_v176 : Ref sig .tc := ⟨.hbm, 737, rfl⟩
abbrev main_call1_call1_c_44 : Ref sig .tc := ⟨.hbm, 738, rfl⟩
abbrev main_call1_call1_v177 : Ref sig .tc := ⟨.hbm, 739, rfl⟩
abbrev main_call1_v20_1 : Ref sig .tc := ⟨.hbm, 740, rfl⟩
abbrev main_call1_v21 : Ref sig .tc := ⟨.hbm, 741, rfl⟩
abbrev main_call1_v22 : Ref sig .tc := ⟨.hbm, 742, rfl⟩
abbrev main_call1_v23_0 : Ref sig .tc := ⟨.hbm, 743, rfl⟩
abbrev main_call1_v23_1 : Ref sig .tc := ⟨.hbm, 744, rfl⟩
abbrev main_call1_call2_v0 : Ref sig .tc := ⟨.hbm, 745, rfl⟩
abbrev main_call1_call2_v1 : Ref sig .tc := ⟨.hbm, 746, rfl⟩
abbrev main_call1_call2_v2 : Ref sig .tc := ⟨.hbm, 747, rfl⟩
abbrev main_call1_call2_v3 : Ref sig .tc := ⟨.hbm, 748, rfl⟩
abbrev main_call1_call2_v4 : Ref sig .tc := ⟨.hbm, 749, rfl⟩
abbrev main_call1_call2_c : Ref sig .tc := ⟨.hbm, 750, rfl⟩
abbrev main_call1_call2_v5 : Ref sig .tc := ⟨.hbm, 751, rfl⟩
abbrev main_call1_call2_v6 : Ref sig .tc := ⟨.hbm, 752, rfl⟩
abbrev main_call1_call2_c_0 : Ref sig .tc := ⟨.hbm, 753, rfl⟩
abbrev main_call1_call2_v7 : Ref sig .tc := ⟨.hbm, 754, rfl⟩
abbrev main_call1_call2_v8 : Ref sig .tc := ⟨.hbm, 755, rfl⟩
abbrev main_call1_call2_v9 : Ref sig .tc := ⟨.hbm, 756, rfl⟩
abbrev main_call1_call2_v10 : Ref sig .tc := ⟨.hbm, 757, rfl⟩
abbrev main_call1_call2_v11 : Ref sig .tc := ⟨.hbm, 758, rfl⟩
abbrev main_call1_call2_v12 : Ref sig .tc := ⟨.hbm, 759, rfl⟩
abbrev main_call1_call2_v13 : Ref sig .tc := ⟨.hbm, 760, rfl⟩
abbrev main_call1_call2_v14 : Ref sig .tc := ⟨.hbm, 761, rfl⟩
abbrev main_call1_call2_call0_v0 : Ref sig .tc := ⟨.hbm, 762, rfl⟩
abbrev main_call1_call2_call0_c : Ref sig .tc := ⟨.hbm, 763, rfl⟩
abbrev main_call1_call2_call0_v1 : Ref sig .tc := ⟨.hbm, 764, rfl⟩
abbrev main_call1_call2_call0_v2 : Ref sig .tc := ⟨.hbm, 765, rfl⟩
abbrev main_call1_call2_call0_v3 : Ref sig .tc := ⟨.hbm, 766, rfl⟩
abbrev main_call1_call2_call0_v4 : Ref sig .tc := ⟨.hbm, 767, rfl⟩
abbrev main_call1_call2_call0_v5 : Ref sig .tc := ⟨.hbm, 768, rfl⟩
abbrev main_call1_call2_call0_v6 : Ref sig .tc := ⟨.hbm, 769, rfl⟩
abbrev main_call1_call2_call0_v7 : Ref sig .tc := ⟨.hbm, 770, rfl⟩
abbrev main_call1_call2_call0_v8 : Ref sig .tc := ⟨.hbm, 771, rfl⟩
abbrev main_call1_call2_call0_v9 : Ref sig .tc := ⟨.hbm, 772, rfl⟩
abbrev main_call1_call2_call0_c_0 : Ref sig .tc := ⟨.hbm, 773, rfl⟩
abbrev main_call1_call2_call0_v10 : Ref sig .tc := ⟨.hbm, 774, rfl⟩
abbrev main_call1_call2_call0_v11 : Ref sig .tc := ⟨.hbm, 775, rfl⟩
abbrev main_call1_call2_call0_c_1 : Ref sig .tc := ⟨.hbm, 776, rfl⟩
abbrev main_call1_call2_call0_v12 : Ref sig .tc := ⟨.hbm, 777, rfl⟩
abbrev main_call1_call2_call0_v13 : Ref sig .tc := ⟨.hbm, 778, rfl⟩
abbrev main_call1_call2_call0_v14 : Ref sig .tc := ⟨.hbm, 779, rfl⟩
abbrev main_call1_call2_call0_v15 : Ref sig .tc := ⟨.hbm, 780, rfl⟩
abbrev main_call1_call2_call0_v16 : Ref sig .tc := ⟨.hbm, 781, rfl⟩
abbrev main_call1_call2_call0_c_2 : Ref sig .tc := ⟨.hbm, 782, rfl⟩
abbrev main_call1_call2_call0_v17 : Ref sig .tc := ⟨.hbm, 783, rfl⟩
abbrev main_call1_call2_call0_v18 : Ref sig .tc := ⟨.hbm, 784, rfl⟩
abbrev main_call1_call2_call0_c_3 : Ref sig .tc := ⟨.hbm, 785, rfl⟩
abbrev main_call1_call2_call0_v19 : Ref sig .tc := ⟨.hbm, 786, rfl⟩
abbrev main_call1_call2_call0_v20 : Ref sig .tc := ⟨.hbm, 787, rfl⟩
abbrev main_call1_call2_call0_v21 : Ref sig .tc := ⟨.hbm, 788, rfl⟩
abbrev main_call1_call2_call0_v22 : Ref sig .tc := ⟨.hbm, 789, rfl⟩
abbrev main_call1_call2_call0_v23 : Ref sig .tc := ⟨.hbm, 790, rfl⟩
abbrev main_call1_call2_call0_c_4 : Ref sig .tc := ⟨.hbm, 791, rfl⟩
abbrev main_call1_call2_call0_v24 : Ref sig .tc := ⟨.hbm, 792, rfl⟩
abbrev main_call1_call2_call0_v25 : Ref sig .tc := ⟨.hbm, 793, rfl⟩
abbrev main_call1_call2_call0_c_5 : Ref sig .tc := ⟨.hbm, 794, rfl⟩
abbrev main_call1_call2_call0_v26 : Ref sig .tc := ⟨.hbm, 795, rfl⟩
abbrev main_call1_call2_call0_v27 : Ref sig .tc := ⟨.hbm, 796, rfl⟩
abbrev main_call1_call2_call0_v28 : Ref sig .tc := ⟨.hbm, 797, rfl⟩
abbrev main_call1_call2_call0_v29 : Ref sig .tc := ⟨.hbm, 798, rfl⟩
abbrev main_call1_call2_call0_v30 : Ref sig .tc := ⟨.hbm, 799, rfl⟩
abbrev main_call1_call2_call0_c_6 : Ref sig .tc := ⟨.hbm, 800, rfl⟩
abbrev main_call1_call2_call0_v31 : Ref sig .tc := ⟨.hbm, 801, rfl⟩
abbrev main_call1_call2_call0_v32 : Ref sig .tc := ⟨.hbm, 802, rfl⟩
abbrev main_call1_call2_call0_c_7 : Ref sig .tc := ⟨.hbm, 803, rfl⟩
abbrev main_call1_call2_call0_v33 : Ref sig .tc := ⟨.hbm, 804, rfl⟩
abbrev main_call1_call2_call0_v34 : Ref sig .tc := ⟨.hbm, 805, rfl⟩
abbrev main_call1_call2_call0_v35 : Ref sig .tc := ⟨.hbm, 806, rfl⟩
abbrev main_call1_call2_call0_v36 : Ref sig .tc := ⟨.hbm, 807, rfl⟩
abbrev main_call1_call2_call0_v37 : Ref sig .tc := ⟨.hbm, 808, rfl⟩
abbrev main_call1_call2_call0_v38 : Ref sig .tc := ⟨.hbm, 809, rfl⟩
abbrev main_call1_call2_call0_v39 : Ref sig .tc := ⟨.hbm, 810, rfl⟩
abbrev main_call1_call2_call0_v40 : Ref sig .tc := ⟨.hbm, 811, rfl⟩
abbrev main_call1_call2_call0_c_8 : Ref sig .tc := ⟨.hbm, 812, rfl⟩
abbrev main_call1_call2_call0_v41 : Ref sig .tc := ⟨.hbm, 813, rfl⟩
abbrev main_call1_call2_call0_v42 : Ref sig .tc := ⟨.hbm, 814, rfl⟩
abbrev main_call1_call2_call0_v43 : Ref sig .tc := ⟨.hbm, 815, rfl⟩
abbrev main_call1_call2_call0_c_9 : Ref sig .tc := ⟨.hbm, 816, rfl⟩
abbrev main_call1_call2_call0_v44 : Ref sig .tc := ⟨.hbm, 817, rfl⟩
abbrev main_call1_call2_call0_v45 : Ref sig .tc := ⟨.hbm, 818, rfl⟩
abbrev main_call1_call2_call0_c_10 : Ref sig .tc := ⟨.hbm, 819, rfl⟩
abbrev main_call1_call2_call0_v46 : Ref sig .tc := ⟨.hbm, 820, rfl⟩
abbrev main_call1_call2_call0_v47 : Ref sig .tc := ⟨.hbm, 821, rfl⟩
abbrev main_call1_call2_call0_v48 : Ref sig .tc := ⟨.hbm, 822, rfl⟩
abbrev main_call1_call2_call0_v49 : Ref sig .tc := ⟨.hbm, 823, rfl⟩
abbrev main_call1_call2_call0_v50 : Ref sig .tc := ⟨.hbm, 824, rfl⟩
abbrev main_call1_call2_call0_c_11 : Ref sig .tc := ⟨.hbm, 825, rfl⟩
abbrev main_call1_call2_call0_v51 : Ref sig .tc := ⟨.hbm, 826, rfl⟩
abbrev main_call1_call2_call0_v52 : Ref sig .tc := ⟨.hbm, 827, rfl⟩
abbrev main_call1_call2_call0_c_12 : Ref sig .tc := ⟨.hbm, 828, rfl⟩
abbrev main_call1_call2_call0_v53 : Ref sig .tc := ⟨.hbm, 829, rfl⟩
abbrev main_call1_call2_call0_v54 : Ref sig .tc := ⟨.hbm, 830, rfl⟩
abbrev main_call1_call2_call0_v55 : Ref sig .tc := ⟨.hbm, 831, rfl⟩
abbrev main_call1_call2_call0_v56 : Ref sig .tc := ⟨.hbm, 832, rfl⟩
abbrev main_call1_call2_call0_v57 : Ref sig .tc := ⟨.hbm, 833, rfl⟩
abbrev main_call1_call2_call0_c_13 : Ref sig .tc := ⟨.hbm, 834, rfl⟩
abbrev main_call1_call2_call0_v58 : Ref sig .tc := ⟨.hbm, 835, rfl⟩
abbrev main_call1_call2_call0_v59 : Ref sig .tc := ⟨.hbm, 836, rfl⟩
abbrev main_call1_call2_call0_c_14 : Ref sig .tc := ⟨.hbm, 837, rfl⟩
abbrev main_call1_call2_call0_v60 : Ref sig .tc := ⟨.hbm, 838, rfl⟩
abbrev main_call1_call2_call0_v61 : Ref sig .tc := ⟨.hbm, 839, rfl⟩
abbrev main_call1_call2_call0_v62 : Ref sig .tc := ⟨.hbm, 840, rfl⟩
abbrev main_call1_call2_call0_v63 : Ref sig .tc := ⟨.hbm, 841, rfl⟩
abbrev main_call1_call2_call0_v64 : Ref sig .tc := ⟨.hbm, 842, rfl⟩
abbrev main_call1_call2_call0_c_15 : Ref sig .tc := ⟨.hbm, 843, rfl⟩
abbrev main_call1_call2_call0_v65 : Ref sig .tc := ⟨.hbm, 844, rfl⟩
abbrev main_call1_call2_call0_v66 : Ref sig .tc := ⟨.hbm, 845, rfl⟩
abbrev main_call1_call2_call0_c_16 : Ref sig .tc := ⟨.hbm, 846, rfl⟩
abbrev main_call1_call2_call0_v67 : Ref sig .tc := ⟨.hbm, 847, rfl⟩
abbrev main_call1_call2_call0_v68 : Ref sig .tc := ⟨.hbm, 848, rfl⟩
abbrev main_call1_call2_call0_v69 : Ref sig .tc := ⟨.hbm, 849, rfl⟩
abbrev main_call1_call2_call0_v70 : Ref sig .tc := ⟨.hbm, 850, rfl⟩
abbrev main_call1_call2_call0_v71 : Ref sig .tc := ⟨.hbm, 851, rfl⟩
abbrev main_call1_call2_call0_v72 : Ref sig .tc := ⟨.hbm, 852, rfl⟩
abbrev main_call1_call2_call0_v73 : Ref sig .tc := ⟨.hbm, 853, rfl⟩
abbrev main_call1_call2_call0_v74 : Ref sig .tc := ⟨.hbm, 854, rfl⟩
abbrev main_call1_call2_call0_c_17 : Ref sig .tc := ⟨.hbm, 855, rfl⟩
abbrev main_call1_call2_call0_v75 : Ref sig .tc := ⟨.hbm, 856, rfl⟩
abbrev main_call1_call2_call0_v76 : Ref sig .tc := ⟨.hbm, 857, rfl⟩
abbrev main_call1_call2_call0_v77 : Ref sig .tc := ⟨.hbm, 858, rfl⟩
abbrev main_call1_call2_call0_c_18 : Ref sig .tc := ⟨.hbm, 859, rfl⟩
abbrev main_call1_call2_call0_v78 : Ref sig .tc := ⟨.hbm, 860, rfl⟩
abbrev main_call1_call2_call0_v79 : Ref sig .tc := ⟨.hbm, 861, rfl⟩
abbrev main_call1_call2_call0_c_19 : Ref sig .tc := ⟨.hbm, 862, rfl⟩
abbrev main_call1_call2_call0_v80 : Ref sig .tc := ⟨.hbm, 863, rfl⟩
abbrev main_call1_call2_call0_v81 : Ref sig .tc := ⟨.hbm, 864, rfl⟩
abbrev main_call1_call2_call0_v82 : Ref sig .tc := ⟨.hbm, 865, rfl⟩
abbrev main_call1_call2_call0_v83 : Ref sig .tc := ⟨.hbm, 866, rfl⟩
abbrev main_call1_call2_call0_v84 : Ref sig .tc := ⟨.hbm, 867, rfl⟩
abbrev main_call1_call2_call0_c_20 : Ref sig .tc := ⟨.hbm, 868, rfl⟩
abbrev main_call1_call2_call0_v85 : Ref sig .tc := ⟨.hbm, 869, rfl⟩
abbrev main_call1_call2_call0_v86 : Ref sig .tc := ⟨.hbm, 870, rfl⟩
abbrev main_call1_call2_call0_c_21 : Ref sig .tc := ⟨.hbm, 871, rfl⟩
abbrev main_call1_call2_call0_v87 : Ref sig .tc := ⟨.hbm, 872, rfl⟩
abbrev main_call1_call2_call0_v88 : Ref sig .tc := ⟨.hbm, 873, rfl⟩
abbrev main_call1_call2_call0_v89 : Ref sig .tc := ⟨.hbm, 874, rfl⟩
abbrev main_call1_call2_call0_v90 : Ref sig .tc := ⟨.hbm, 875, rfl⟩
abbrev main_call1_call2_call0_v91 : Ref sig .tc := ⟨.hbm, 876, rfl⟩
abbrev main_call1_call2_call0_c_22 : Ref sig .tc := ⟨.hbm, 877, rfl⟩
abbrev main_call1_call2_call0_v92 : Ref sig .tc := ⟨.hbm, 878, rfl⟩
abbrev main_call1_call2_call0_v93 : Ref sig .tc := ⟨.hbm, 879, rfl⟩
abbrev main_call1_call2_call0_c_23 : Ref sig .tc := ⟨.hbm, 880, rfl⟩
abbrev main_call1_call2_call0_v94 : Ref sig .tc := ⟨.hbm, 881, rfl⟩
abbrev main_call1_call2_call0_v95 : Ref sig .tc := ⟨.hbm, 882, rfl⟩
abbrev main_call1_call2_call0_v96 : Ref sig .tc := ⟨.hbm, 883, rfl⟩
abbrev main_call1_call2_call0_v97 : Ref sig .tc := ⟨.hbm, 884, rfl⟩
abbrev main_call1_call2_call0_v98 : Ref sig .tc := ⟨.hbm, 885, rfl⟩
abbrev main_call1_call2_call0_c_24 : Ref sig .tc := ⟨.hbm, 886, rfl⟩
abbrev main_call1_call2_call0_v99 : Ref sig .tc := ⟨.hbm, 887, rfl⟩
abbrev main_call1_call2_call0_v100 : Ref sig .tc := ⟨.hbm, 888, rfl⟩
abbrev main_call1_call2_call0_c_25 : Ref sig .tc := ⟨.hbm, 889, rfl⟩
abbrev main_call1_call2_call0_v101 : Ref sig .tc := ⟨.hbm, 890, rfl⟩
abbrev main_call1_call2_call0_v102 : Ref sig .tc := ⟨.hbm, 891, rfl⟩
abbrev main_call1_call2_call0_v103 : Ref sig .tc := ⟨.hbm, 892, rfl⟩
abbrev main_call1_call2_call0_v104 : Ref sig .tc := ⟨.hbm, 893, rfl⟩
abbrev main_call1_call2_call0_v105 : Ref sig .tc := ⟨.hbm, 894, rfl⟩
abbrev main_call1_call2_call0_v106 : Ref sig .tc := ⟨.hbm, 895, rfl⟩
abbrev main_call1_call2_call0_v107 : Ref sig .tc := ⟨.hbm, 896, rfl⟩
abbrev main_call1_call2_call0_v108 : Ref sig .tc := ⟨.hbm, 897, rfl⟩
abbrev main_call1_call2_call0_c_26 : Ref sig .tc := ⟨.hbm, 898, rfl⟩
abbrev main_call1_call2_call0_v109 : Ref sig .tc := ⟨.hbm, 899, rfl⟩
abbrev main_call1_call2_call0_v110 : Ref sig .tc := ⟨.hbm, 900, rfl⟩
abbrev main_call1_call2_call0_v111 : Ref sig .tc := ⟨.hbm, 901, rfl⟩
abbrev main_call1_call2_call0_c_27 : Ref sig .tc := ⟨.hbm, 902, rfl⟩
abbrev main_call1_call2_call0_v112 : Ref sig .tc := ⟨.hbm, 903, rfl⟩
abbrev main_call1_call2_call0_v113 : Ref sig .tc := ⟨.hbm, 904, rfl⟩
abbrev main_call1_call2_call0_c_28 : Ref sig .tc := ⟨.hbm, 905, rfl⟩
abbrev main_call1_call2_call0_v114 : Ref sig .tc := ⟨.hbm, 906, rfl⟩
abbrev main_call1_call2_call0_v115 : Ref sig .tc := ⟨.hbm, 907, rfl⟩
abbrev main_call1_call2_call0_v116 : Ref sig .tc := ⟨.hbm, 908, rfl⟩
abbrev main_call1_call2_call0_v117 : Ref sig .tc := ⟨.hbm, 909, rfl⟩
abbrev main_call1_call2_call0_v118 : Ref sig .tc := ⟨.hbm, 910, rfl⟩
abbrev main_call1_call2_call0_c_29 : Ref sig .tc := ⟨.hbm, 911, rfl⟩
abbrev main_call1_call2_call0_v119 : Ref sig .tc := ⟨.hbm, 912, rfl⟩
abbrev main_call1_call2_call0_v120 : Ref sig .tc := ⟨.hbm, 913, rfl⟩
abbrev main_call1_call2_call0_c_30 : Ref sig .tc := ⟨.hbm, 914, rfl⟩
abbrev main_call1_call2_call0_v121 : Ref sig .tc := ⟨.hbm, 915, rfl⟩
abbrev main_call1_call2_call0_v122 : Ref sig .tc := ⟨.hbm, 916, rfl⟩
abbrev main_call1_call2_call0_v123 : Ref sig .tc := ⟨.hbm, 917, rfl⟩
abbrev main_call1_call2_call0_v124 : Ref sig .tc := ⟨.hbm, 918, rfl⟩
abbrev main_call1_call2_call0_v125 : Ref sig .tc := ⟨.hbm, 919, rfl⟩
abbrev main_call1_call2_call0_c_31 : Ref sig .tc := ⟨.hbm, 920, rfl⟩
abbrev main_call1_call2_call0_v126 : Ref sig .tc := ⟨.hbm, 921, rfl⟩
abbrev main_call1_call2_call0_v127 : Ref sig .tc := ⟨.hbm, 922, rfl⟩
abbrev main_call1_call2_call0_c_32 : Ref sig .tc := ⟨.hbm, 923, rfl⟩
abbrev main_call1_call2_call0_v128 : Ref sig .tc := ⟨.hbm, 924, rfl⟩
abbrev main_call1_call2_call0_v129 : Ref sig .tc := ⟨.hbm, 925, rfl⟩
abbrev main_call1_call2_call0_v130 : Ref sig .tc := ⟨.hbm, 926, rfl⟩
abbrev main_call1_call2_call0_v131 : Ref sig .tc := ⟨.hbm, 927, rfl⟩
abbrev main_call1_call2_call0_v132 : Ref sig .tc := ⟨.hbm, 928, rfl⟩
abbrev main_call1_call2_call0_c_33 : Ref sig .tc := ⟨.hbm, 929, rfl⟩
abbrev main_call1_call2_call0_v133 : Ref sig .tc := ⟨.hbm, 930, rfl⟩
abbrev main_call1_call2_call0_v134 : Ref sig .tc := ⟨.hbm, 931, rfl⟩
abbrev main_call1_call2_call0_c_34 : Ref sig .tc := ⟨.hbm, 932, rfl⟩
abbrev main_call1_call2_call0_v135 : Ref sig .tc := ⟨.hbm, 933, rfl⟩
abbrev main_call1_call2_call0_v136 : Ref sig .tc := ⟨.hbm, 934, rfl⟩
abbrev main_call1_call2_call0_v137 : Ref sig .tc := ⟨.hbm, 935, rfl⟩
abbrev main_call1_call2_call0_v138 : Ref sig .tc := ⟨.hbm, 936, rfl⟩
abbrev main_call1_call2_call0_v139 : Ref sig .tc := ⟨.hbm, 937, rfl⟩
abbrev main_call1_call2_call0_v140 : Ref sig .tc := ⟨.hbm, 938, rfl⟩
abbrev main_call1_call2_call0_v141 : Ref sig .tc := ⟨.hbm, 939, rfl⟩
abbrev main_call1_call2_call0_v142 : Ref sig .tc := ⟨.hbm, 940, rfl⟩
abbrev main_call1_call2_call0_c_35 : Ref sig .tc := ⟨.hbm, 941, rfl⟩
abbrev main_call1_call2_call0_v143 : Ref sig .tc := ⟨.hbm, 942, rfl⟩
abbrev main_call1_call2_call0_v144 : Ref sig .tc := ⟨.hbm, 943, rfl⟩
abbrev main_call1_call2_call0_v145 : Ref sig .tc := ⟨.hbm, 944, rfl⟩
abbrev main_call1_call2_call0_c_36 : Ref sig .tc := ⟨.hbm, 945, rfl⟩
abbrev main_call1_call2_call0_v146 : Ref sig .tc := ⟨.hbm, 946, rfl⟩
abbrev main_call1_call2_call0_v147 : Ref sig .tc := ⟨.hbm, 947, rfl⟩
abbrev main_call1_call2_call0_c_37 : Ref sig .tc := ⟨.hbm, 948, rfl⟩
abbrev main_call1_call2_call0_v148 : Ref sig .tc := ⟨.hbm, 949, rfl⟩
abbrev main_call1_call2_call0_v149 : Ref sig .tc := ⟨.hbm, 950, rfl⟩
abbrev main_call1_call2_call0_v150 : Ref sig .tc := ⟨.hbm, 951, rfl⟩
abbrev main_call1_call2_call0_v151 : Ref sig .tc := ⟨.hbm, 952, rfl⟩
abbrev main_call1_call2_call0_v152 : Ref sig .tc := ⟨.hbm, 953, rfl⟩
abbrev main_call1_call2_call0_c_38 : Ref sig .tc := ⟨.hbm, 954, rfl⟩
abbrev main_call1_call2_call0_v153 : Ref sig .tc := ⟨.hbm, 955, rfl⟩
abbrev main_call1_call2_call0_v154 : Ref sig .tc := ⟨.hbm, 956, rfl⟩
abbrev main_call1_call2_call0_c_39 : Ref sig .tc := ⟨.hbm, 957, rfl⟩
abbrev main_call1_call2_call0_v155 : Ref sig .tc := ⟨.hbm, 958, rfl⟩
abbrev main_call1_call2_call0_v156 : Ref sig .tc := ⟨.hbm, 959, rfl⟩
abbrev main_call1_call2_call0_v157 : Ref sig .tc := ⟨.hbm, 960, rfl⟩
abbrev main_call1_call2_call0_v158 : Ref sig .tc := ⟨.hbm, 961, rfl⟩
abbrev main_call1_call2_call0_v159 : Ref sig .tc := ⟨.hbm, 962, rfl⟩
abbrev main_call1_call2_call0_c_40 : Ref sig .tc := ⟨.hbm, 963, rfl⟩
abbrev main_call1_call2_call0_v160 : Ref sig .tc := ⟨.hbm, 964, rfl⟩
abbrev main_call1_call2_call0_v161 : Ref sig .tc := ⟨.hbm, 965, rfl⟩
abbrev main_call1_call2_call0_c_41 : Ref sig .tc := ⟨.hbm, 966, rfl⟩
abbrev main_call1_call2_call0_v162 : Ref sig .tc := ⟨.hbm, 967, rfl⟩
abbrev main_call1_call2_call0_v163 : Ref sig .tc := ⟨.hbm, 968, rfl⟩
abbrev main_call1_call2_call0_v164 : Ref sig .tc := ⟨.hbm, 969, rfl⟩
abbrev main_call1_call2_call0_v165 : Ref sig .tc := ⟨.hbm, 970, rfl⟩
abbrev main_call1_call2_call0_v166 : Ref sig .tc := ⟨.hbm, 971, rfl⟩
abbrev main_call1_call2_call0_c_42 : Ref sig .tc := ⟨.hbm, 972, rfl⟩
abbrev main_call1_call2_call0_v167 : Ref sig .tc := ⟨.hbm, 973, rfl⟩
abbrev main_call1_call2_call0_v168 : Ref sig .tc := ⟨.hbm, 974, rfl⟩
abbrev main_call1_call2_call0_c_43 : Ref sig .tc := ⟨.hbm, 975, rfl⟩
abbrev main_call1_call2_call0_v169 : Ref sig .tc := ⟨.hbm, 976, rfl⟩
abbrev main_call1_call2_call0_v170 : Ref sig .tc := ⟨.hbm, 977, rfl⟩
abbrev main_call1_call2_call0_v171 : Ref sig .tc := ⟨.hbm, 978, rfl⟩
abbrev main_call1_call2_call0_v172 : Ref sig .tc := ⟨.hbm, 979, rfl⟩
abbrev main_call1_call2_call0_v173 : Ref sig .tc := ⟨.hbm, 980, rfl⟩
abbrev main_call1_call2_v15_0 : Ref sig .tc := ⟨.hbm, 981, rfl⟩
abbrev main_call1_call2_call0_v175 : Ref sig .tc := ⟨.hbm, 982, rfl⟩
abbrev main_call1_call2_call0_v176 : Ref sig .tc := ⟨.hbm, 983, rfl⟩
abbrev main_call1_call2_call0_c_44 : Ref sig .tc := ⟨.hbm, 984, rfl⟩
abbrev main_call1_call2_call0_v177 : Ref sig .tc := ⟨.hbm, 985, rfl⟩
abbrev main_call1_call2_v15_1 : Ref sig .tc := ⟨.hbm, 986, rfl⟩
abbrev main_call1_call2_v16 : Ref sig .tc := ⟨.hbm, 987, rfl⟩
abbrev main_call1_call2_v17 : Ref sig .tc := ⟨.hbm, 988, rfl⟩
abbrev main_call1_v24 : Ref sig .tc := ⟨.hbm, 989, rfl⟩
abbrev main_call1_v25 : Ref sig .tc := ⟨.hbm, 990, rfl⟩
abbrev main_call1_v26 : Ref sig .tc := ⟨.hbm, 991, rfl⟩
abbrev main_call1_v27 : Ref sig .tc := ⟨.hbm, 992, rfl⟩
abbrev main_call1_v28 : Ref sig .tc := ⟨.hbm, 993, rfl⟩
abbrev main_call1_v29 : Ref sig .tc := ⟨.hbm, 994, rfl⟩
abbrev main_call1_v30 : Ref sig .tc := ⟨.hbm, 995, rfl⟩
abbrev main_call1_v31 : Ref sig .tc := ⟨.hbm, 996, rfl⟩
abbrev main_call1_v32 : Ref sig .tc := ⟨.hbm, 997, rfl⟩
abbrev main_call1_v33 : Ref sig .tc := ⟨.hbm, 998, rfl⟩
abbrev main_call1_c_1 : Ref sig .tc := ⟨.hbm, 999, rfl⟩
abbrev main_call1_v34 : Ref sig .tc := ⟨.hbm, 1000, rfl⟩
abbrev main_call1_v35 : Ref sig .tc := ⟨.hbm, 1001, rfl⟩
abbrev main_call1_c_2 : Ref sig .tc := ⟨.hbm, 1002, rfl⟩
abbrev main_call1_v36 : Ref sig .tc := ⟨.hbm, 1003, rfl⟩
abbrev main_call1_v37 : Ref sig .tc := ⟨.hbm, 1004, rfl⟩
abbrev main_call1_v38 : Ref sig .tc := ⟨.hbm, 1005, rfl⟩
abbrev main_call1_v39 : Ref sig .tc := ⟨.hbm, 1006, rfl⟩
abbrev main_call1_v40 : Ref sig .tc := ⟨.hbm, 1007, rfl⟩
abbrev main_call1_v41 : Ref sig .tc := ⟨.hbm, 1008, rfl⟩
abbrev main_call1_v42 : Ref sig .tc := ⟨.hbm, 1009, rfl⟩
abbrev main_call1_v43 : Ref sig .tc := ⟨.hbm, 1010, rfl⟩
abbrev main_call1_call3_v0 : Ref sig .tc := ⟨.hbm, 1011, rfl⟩
abbrev main_call1_call3_c : Ref sig .tc := ⟨.hbm, 1012, rfl⟩
abbrev main_call1_call3_v1 : Ref sig .tc := ⟨.hbm, 1013, rfl⟩
abbrev main_call1_call3_v2 : Ref sig .tc := ⟨.hbm, 1014, rfl⟩
abbrev main_call1_call3_v3 : Ref sig .tc := ⟨.hbm, 1015, rfl⟩
abbrev main_call1_call3_v4 : Ref sig .tc := ⟨.hbm, 1016, rfl⟩
abbrev main_call1_call3_v5 : Ref sig .tc := ⟨.hbm, 1017, rfl⟩
abbrev main_call1_call3_v6 : Ref sig .tc := ⟨.hbm, 1018, rfl⟩
abbrev main_call1_call3_v7 : Ref sig .tc := ⟨.hbm, 1019, rfl⟩
abbrev main_call1_call3_v8 : Ref sig .tc := ⟨.hbm, 1020, rfl⟩
abbrev main_call1_call3_v9 : Ref sig .tc := ⟨.hbm, 1021, rfl⟩
abbrev main_call1_call3_c_0 : Ref sig .tc := ⟨.hbm, 1022, rfl⟩
abbrev main_call1_call3_v10 : Ref sig .tc := ⟨.hbm, 1023, rfl⟩
abbrev main_call1_call3_v11 : Ref sig .tc := ⟨.hbm, 1024, rfl⟩
abbrev main_call1_call3_c_1 : Ref sig .tc := ⟨.hbm, 1025, rfl⟩
abbrev main_call1_call3_v12 : Ref sig .tc := ⟨.hbm, 1026, rfl⟩
abbrev main_call1_call3_v13 : Ref sig .tc := ⟨.hbm, 1027, rfl⟩
abbrev main_call1_call3_v14 : Ref sig .tc := ⟨.hbm, 1028, rfl⟩
abbrev main_call1_call3_v15 : Ref sig .tc := ⟨.hbm, 1029, rfl⟩
abbrev main_call1_call3_v16 : Ref sig .tc := ⟨.hbm, 1030, rfl⟩
abbrev main_call1_call3_c_2 : Ref sig .tc := ⟨.hbm, 1031, rfl⟩
abbrev main_call1_call3_v17 : Ref sig .tc := ⟨.hbm, 1032, rfl⟩
abbrev main_call1_call3_v18 : Ref sig .tc := ⟨.hbm, 1033, rfl⟩
abbrev main_call1_call3_c_3 : Ref sig .tc := ⟨.hbm, 1034, rfl⟩
abbrev main_call1_call3_v19 : Ref sig .tc := ⟨.hbm, 1035, rfl⟩
abbrev main_call1_call3_v20 : Ref sig .tc := ⟨.hbm, 1036, rfl⟩
abbrev main_call1_call3_v21 : Ref sig .tc := ⟨.hbm, 1037, rfl⟩
abbrev main_call1_call3_v22 : Ref sig .tc := ⟨.hbm, 1038, rfl⟩
abbrev main_call1_call3_v23 : Ref sig .tc := ⟨.hbm, 1039, rfl⟩
abbrev main_call1_call3_c_4 : Ref sig .tc := ⟨.hbm, 1040, rfl⟩
abbrev main_call1_call3_v24 : Ref sig .tc := ⟨.hbm, 1041, rfl⟩
abbrev main_call1_call3_v25 : Ref sig .tc := ⟨.hbm, 1042, rfl⟩
abbrev main_call1_call3_c_5 : Ref sig .tc := ⟨.hbm, 1043, rfl⟩
abbrev main_call1_call3_v26 : Ref sig .tc := ⟨.hbm, 1044, rfl⟩
abbrev main_call1_call3_v27 : Ref sig .tc := ⟨.hbm, 1045, rfl⟩
abbrev main_call1_call3_v28 : Ref sig .tc := ⟨.hbm, 1046, rfl⟩
abbrev main_call1_call3_v29 : Ref sig .tc := ⟨.hbm, 1047, rfl⟩
abbrev main_call1_call3_v30 : Ref sig .tc := ⟨.hbm, 1048, rfl⟩
abbrev main_call1_call3_c_6 : Ref sig .tc := ⟨.hbm, 1049, rfl⟩
abbrev main_call1_call3_v31 : Ref sig .tc := ⟨.hbm, 1050, rfl⟩
abbrev main_call1_call3_v32 : Ref sig .tc := ⟨.hbm, 1051, rfl⟩
abbrev main_call1_call3_c_7 : Ref sig .tc := ⟨.hbm, 1052, rfl⟩
abbrev main_call1_call3_v33 : Ref sig .tc := ⟨.hbm, 1053, rfl⟩
abbrev main_call1_call3_v34 : Ref sig .tc := ⟨.hbm, 1054, rfl⟩
abbrev main_call1_call3_v35 : Ref sig .tc := ⟨.hbm, 1055, rfl⟩
abbrev main_call1_call3_v36 : Ref sig .tc := ⟨.hbm, 1056, rfl⟩
abbrev main_call1_call3_v37 : Ref sig .tc := ⟨.hbm, 1057, rfl⟩
abbrev main_call1_call3_v38 : Ref sig .tc := ⟨.hbm, 1058, rfl⟩
abbrev main_call1_call3_v39 : Ref sig .tc := ⟨.hbm, 1059, rfl⟩
abbrev main_call1_call3_v40 : Ref sig .tc := ⟨.hbm, 1060, rfl⟩
abbrev main_call1_call3_c_8 : Ref sig .tc := ⟨.hbm, 1061, rfl⟩
abbrev main_call1_call3_v41 : Ref sig .tc := ⟨.hbm, 1062, rfl⟩
abbrev main_call1_call3_v42 : Ref sig .tc := ⟨.hbm, 1063, rfl⟩
abbrev main_call1_call3_v43 : Ref sig .tc := ⟨.hbm, 1064, rfl⟩
abbrev main_call1_call3_c_9 : Ref sig .tc := ⟨.hbm, 1065, rfl⟩
abbrev main_call1_call3_v44 : Ref sig .tc := ⟨.hbm, 1066, rfl⟩
abbrev main_call1_call3_v45 : Ref sig .tc := ⟨.hbm, 1067, rfl⟩
abbrev main_call1_call3_c_10 : Ref sig .tc := ⟨.hbm, 1068, rfl⟩
abbrev main_call1_call3_v46 : Ref sig .tc := ⟨.hbm, 1069, rfl⟩
abbrev main_call1_call3_v47 : Ref sig .tc := ⟨.hbm, 1070, rfl⟩
abbrev main_call1_call3_v48 : Ref sig .tc := ⟨.hbm, 1071, rfl⟩
abbrev main_call1_call3_v49 : Ref sig .tc := ⟨.hbm, 1072, rfl⟩
abbrev main_call1_call3_v50 : Ref sig .tc := ⟨.hbm, 1073, rfl⟩
abbrev main_call1_call3_c_11 : Ref sig .tc := ⟨.hbm, 1074, rfl⟩
abbrev main_call1_call3_v51 : Ref sig .tc := ⟨.hbm, 1075, rfl⟩
abbrev main_call1_call3_v52 : Ref sig .tc := ⟨.hbm, 1076, rfl⟩
abbrev main_call1_call3_c_12 : Ref sig .tc := ⟨.hbm, 1077, rfl⟩
abbrev main_call1_call3_v53 : Ref sig .tc := ⟨.hbm, 1078, rfl⟩
abbrev main_call1_call3_v54 : Ref sig .tc := ⟨.hbm, 1079, rfl⟩
abbrev main_call1_call3_v55 : Ref sig .tc := ⟨.hbm, 1080, rfl⟩
abbrev main_call1_call3_v56 : Ref sig .tc := ⟨.hbm, 1081, rfl⟩
abbrev main_call1_call3_v57 : Ref sig .tc := ⟨.hbm, 1082, rfl⟩
abbrev main_call1_call3_c_13 : Ref sig .tc := ⟨.hbm, 1083, rfl⟩
abbrev main_call1_call3_v58 : Ref sig .tc := ⟨.hbm, 1084, rfl⟩
abbrev main_call1_call3_v59 : Ref sig .tc := ⟨.hbm, 1085, rfl⟩
abbrev main_call1_call3_c_14 : Ref sig .tc := ⟨.hbm, 1086, rfl⟩
abbrev main_call1_call3_v60 : Ref sig .tc := ⟨.hbm, 1087, rfl⟩
abbrev main_call1_call3_v61 : Ref sig .tc := ⟨.hbm, 1088, rfl⟩
abbrev main_call1_call3_v62 : Ref sig .tc := ⟨.hbm, 1089, rfl⟩
abbrev main_call1_call3_v63 : Ref sig .tc := ⟨.hbm, 1090, rfl⟩
abbrev main_call1_call3_v64 : Ref sig .tc := ⟨.hbm, 1091, rfl⟩
abbrev main_call1_call3_c_15 : Ref sig .tc := ⟨.hbm, 1092, rfl⟩
abbrev main_call1_call3_v65 : Ref sig .tc := ⟨.hbm, 1093, rfl⟩
abbrev main_call1_call3_v66 : Ref sig .tc := ⟨.hbm, 1094, rfl⟩
abbrev main_call1_call3_c_16 : Ref sig .tc := ⟨.hbm, 1095, rfl⟩
abbrev main_call1_call3_v67 : Ref sig .tc := ⟨.hbm, 1096, rfl⟩
abbrev main_call1_call3_v68 : Ref sig .tc := ⟨.hbm, 1097, rfl⟩
abbrev main_call1_call3_v69 : Ref sig .tc := ⟨.hbm, 1098, rfl⟩
abbrev main_call1_call3_v70 : Ref sig .tc := ⟨.hbm, 1099, rfl⟩
abbrev main_call1_call3_v71 : Ref sig .tc := ⟨.hbm, 1100, rfl⟩
abbrev main_call1_call3_v72 : Ref sig .tc := ⟨.hbm, 1101, rfl⟩
abbrev main_call1_call3_v73 : Ref sig .tc := ⟨.hbm, 1102, rfl⟩
abbrev main_call1_call3_v74 : Ref sig .tc := ⟨.hbm, 1103, rfl⟩
abbrev main_call1_call3_c_17 : Ref sig .tc := ⟨.hbm, 1104, rfl⟩
abbrev main_call1_call3_v75 : Ref sig .tc := ⟨.hbm, 1105, rfl⟩
abbrev main_call1_call3_v76 : Ref sig .tc := ⟨.hbm, 1106, rfl⟩
abbrev main_call1_call3_v77 : Ref sig .tc := ⟨.hbm, 1107, rfl⟩
abbrev main_call1_call3_c_18 : Ref sig .tc := ⟨.hbm, 1108, rfl⟩
abbrev main_call1_call3_v78 : Ref sig .tc := ⟨.hbm, 1109, rfl⟩
abbrev main_call1_call3_v79 : Ref sig .tc := ⟨.hbm, 1110, rfl⟩
abbrev main_call1_call3_c_19 : Ref sig .tc := ⟨.hbm, 1111, rfl⟩
abbrev main_call1_call3_v80 : Ref sig .tc := ⟨.hbm, 1112, rfl⟩
abbrev main_call1_call3_v81 : Ref sig .tc := ⟨.hbm, 1113, rfl⟩
abbrev main_call1_call3_v82 : Ref sig .tc := ⟨.hbm, 1114, rfl⟩
abbrev main_call1_call3_v83 : Ref sig .tc := ⟨.hbm, 1115, rfl⟩
abbrev main_call1_call3_v84 : Ref sig .tc := ⟨.hbm, 1116, rfl⟩
abbrev main_call1_call3_c_20 : Ref sig .tc := ⟨.hbm, 1117, rfl⟩
abbrev main_call1_call3_v85 : Ref sig .tc := ⟨.hbm, 1118, rfl⟩
abbrev main_call1_call3_v86 : Ref sig .tc := ⟨.hbm, 1119, rfl⟩
abbrev main_call1_call3_c_21 : Ref sig .tc := ⟨.hbm, 1120, rfl⟩
abbrev main_call1_call3_v87 : Ref sig .tc := ⟨.hbm, 1121, rfl⟩
abbrev main_call1_call3_v88 : Ref sig .tc := ⟨.hbm, 1122, rfl⟩
abbrev main_call1_call3_v89 : Ref sig .tc := ⟨.hbm, 1123, rfl⟩
abbrev main_call1_call3_v90 : Ref sig .tc := ⟨.hbm, 1124, rfl⟩
abbrev main_call1_call3_v91 : Ref sig .tc := ⟨.hbm, 1125, rfl⟩
abbrev main_call1_call3_c_22 : Ref sig .tc := ⟨.hbm, 1126, rfl⟩
abbrev main_call1_call3_v92 : Ref sig .tc := ⟨.hbm, 1127, rfl⟩
abbrev main_call1_call3_v93 : Ref sig .tc := ⟨.hbm, 1128, rfl⟩
abbrev main_call1_call3_c_23 : Ref sig .tc := ⟨.hbm, 1129, rfl⟩
abbrev main_call1_call3_v94 : Ref sig .tc := ⟨.hbm, 1130, rfl⟩
abbrev main_call1_call3_v95 : Ref sig .tc := ⟨.hbm, 1131, rfl⟩
abbrev main_call1_call3_v96 : Ref sig .tc := ⟨.hbm, 1132, rfl⟩
abbrev main_call1_call3_v97 : Ref sig .tc := ⟨.hbm, 1133, rfl⟩
abbrev main_call1_call3_v98 : Ref sig .tc := ⟨.hbm, 1134, rfl⟩
abbrev main_call1_call3_c_24 : Ref sig .tc := ⟨.hbm, 1135, rfl⟩
abbrev main_call1_call3_v99 : Ref sig .tc := ⟨.hbm, 1136, rfl⟩
abbrev main_call1_call3_v100 : Ref sig .tc := ⟨.hbm, 1137, rfl⟩
abbrev main_call1_call3_c_25 : Ref sig .tc := ⟨.hbm, 1138, rfl⟩
abbrev main_call1_call3_v101 : Ref sig .tc := ⟨.hbm, 1139, rfl⟩
abbrev main_call1_call3_v102 : Ref sig .tc := ⟨.hbm, 1140, rfl⟩
abbrev main_call1_call3_v103 : Ref sig .tc := ⟨.hbm, 1141, rfl⟩
abbrev main_call1_call3_v104 : Ref sig .tc := ⟨.hbm, 1142, rfl⟩
abbrev main_call1_call3_v105 : Ref sig .tc := ⟨.hbm, 1143, rfl⟩
abbrev main_call1_call3_v106 : Ref sig .tc := ⟨.hbm, 1144, rfl⟩
abbrev main_call1_call3_v107 : Ref sig .tc := ⟨.hbm, 1145, rfl⟩
abbrev main_call1_call3_v108 : Ref sig .tc := ⟨.hbm, 1146, rfl⟩
abbrev main_call1_call3_c_26 : Ref sig .tc := ⟨.hbm, 1147, rfl⟩
abbrev main_call1_call3_v109 : Ref sig .tc := ⟨.hbm, 1148, rfl⟩
abbrev main_call1_call3_v110 : Ref sig .tc := ⟨.hbm, 1149, rfl⟩
abbrev main_call1_call3_v111 : Ref sig .tc := ⟨.hbm, 1150, rfl⟩
abbrev main_call1_call3_c_27 : Ref sig .tc := ⟨.hbm, 1151, rfl⟩
abbrev main_call1_call3_v112 : Ref sig .tc := ⟨.hbm, 1152, rfl⟩
abbrev main_call1_call3_v113 : Ref sig .tc := ⟨.hbm, 1153, rfl⟩
abbrev main_call1_call3_c_28 : Ref sig .tc := ⟨.hbm, 1154, rfl⟩
abbrev main_call1_call3_v114 : Ref sig .tc := ⟨.hbm, 1155, rfl⟩
abbrev main_call1_call3_v115 : Ref sig .tc := ⟨.hbm, 1156, rfl⟩
abbrev main_call1_call3_v116 : Ref sig .tc := ⟨.hbm, 1157, rfl⟩
abbrev main_call1_call3_v117 : Ref sig .tc := ⟨.hbm, 1158, rfl⟩
abbrev main_call1_call3_v118 : Ref sig .tc := ⟨.hbm, 1159, rfl⟩
abbrev main_call1_call3_c_29 : Ref sig .tc := ⟨.hbm, 1160, rfl⟩
abbrev main_call1_call3_v119 : Ref sig .tc := ⟨.hbm, 1161, rfl⟩
abbrev main_call1_call3_v120 : Ref sig .tc := ⟨.hbm, 1162, rfl⟩
abbrev main_call1_call3_c_30 : Ref sig .tc := ⟨.hbm, 1163, rfl⟩
abbrev main_call1_call3_v121 : Ref sig .tc := ⟨.hbm, 1164, rfl⟩
abbrev main_call1_call3_v122 : Ref sig .tc := ⟨.hbm, 1165, rfl⟩
abbrev main_call1_call3_v123 : Ref sig .tc := ⟨.hbm, 1166, rfl⟩
abbrev main_call1_call3_v124 : Ref sig .tc := ⟨.hbm, 1167, rfl⟩
abbrev main_call1_call3_v125 : Ref sig .tc := ⟨.hbm, 1168, rfl⟩
abbrev main_call1_call3_c_31 : Ref sig .tc := ⟨.hbm, 1169, rfl⟩
abbrev main_call1_call3_v126 : Ref sig .tc := ⟨.hbm, 1170, rfl⟩
abbrev main_call1_call3_v127 : Ref sig .tc := ⟨.hbm, 1171, rfl⟩
abbrev main_call1_call3_c_32 : Ref sig .tc := ⟨.hbm, 1172, rfl⟩
abbrev main_call1_call3_v128 : Ref sig .tc := ⟨.hbm, 1173, rfl⟩
abbrev main_call1_call3_v129 : Ref sig .tc := ⟨.hbm, 1174, rfl⟩
abbrev main_call1_call3_v130 : Ref sig .tc := ⟨.hbm, 1175, rfl⟩
abbrev main_call1_call3_v131 : Ref sig .tc := ⟨.hbm, 1176, rfl⟩
abbrev main_call1_call3_v132 : Ref sig .tc := ⟨.hbm, 1177, rfl⟩
abbrev main_call1_call3_c_33 : Ref sig .tc := ⟨.hbm, 1178, rfl⟩
abbrev main_call1_call3_v133 : Ref sig .tc := ⟨.hbm, 1179, rfl⟩
abbrev main_call1_call3_v134 : Ref sig .tc := ⟨.hbm, 1180, rfl⟩
abbrev main_call1_call3_c_34 : Ref sig .tc := ⟨.hbm, 1181, rfl⟩
abbrev main_call1_call3_v135 : Ref sig .tc := ⟨.hbm, 1182, rfl⟩
abbrev main_call1_call3_v136 : Ref sig .tc := ⟨.hbm, 1183, rfl⟩
abbrev main_call1_call3_v137 : Ref sig .tc := ⟨.hbm, 1184, rfl⟩
abbrev main_call1_call3_v138 : Ref sig .tc := ⟨.hbm, 1185, rfl⟩
abbrev main_call1_call3_v139 : Ref sig .tc := ⟨.hbm, 1186, rfl⟩
abbrev main_call1_call3_v140 : Ref sig .tc := ⟨.hbm, 1187, rfl⟩
abbrev main_call1_call3_v141 : Ref sig .tc := ⟨.hbm, 1188, rfl⟩
abbrev main_call1_call3_v142 : Ref sig .tc := ⟨.hbm, 1189, rfl⟩
abbrev main_call1_call3_c_35 : Ref sig .tc := ⟨.hbm, 1190, rfl⟩
abbrev main_call1_call3_v143 : Ref sig .tc := ⟨.hbm, 1191, rfl⟩
abbrev main_call1_call3_v144 : Ref sig .tc := ⟨.hbm, 1192, rfl⟩
abbrev main_call1_call3_v145 : Ref sig .tc := ⟨.hbm, 1193, rfl⟩
abbrev main_call1_call3_c_36 : Ref sig .tc := ⟨.hbm, 1194, rfl⟩
abbrev main_call1_call3_v146 : Ref sig .tc := ⟨.hbm, 1195, rfl⟩
abbrev main_call1_call3_v147 : Ref sig .tc := ⟨.hbm, 1196, rfl⟩
abbrev main_call1_call3_c_37 : Ref sig .tc := ⟨.hbm, 1197, rfl⟩
abbrev main_call1_call3_v148 : Ref sig .tc := ⟨.hbm, 1198, rfl⟩
abbrev main_call1_call3_v149 : Ref sig .tc := ⟨.hbm, 1199, rfl⟩
abbrev main_call1_call3_v150 : Ref sig .tc := ⟨.hbm, 1200, rfl⟩
abbrev main_call1_call3_v151 : Ref sig .tc := ⟨.hbm, 1201, rfl⟩
abbrev main_call1_call3_v152 : Ref sig .tc := ⟨.hbm, 1202, rfl⟩
abbrev main_call1_call3_c_38 : Ref sig .tc := ⟨.hbm, 1203, rfl⟩
abbrev main_call1_call3_v153 : Ref sig .tc := ⟨.hbm, 1204, rfl⟩
abbrev main_call1_call3_v154 : Ref sig .tc := ⟨.hbm, 1205, rfl⟩
abbrev main_call1_call3_c_39 : Ref sig .tc := ⟨.hbm, 1206, rfl⟩
abbrev main_call1_call3_v155 : Ref sig .tc := ⟨.hbm, 1207, rfl⟩
abbrev main_call1_call3_v156 : Ref sig .tc := ⟨.hbm, 1208, rfl⟩
abbrev main_call1_call3_v157 : Ref sig .tc := ⟨.hbm, 1209, rfl⟩
abbrev main_call1_call3_v158 : Ref sig .tc := ⟨.hbm, 1210, rfl⟩
abbrev main_call1_call3_v159 : Ref sig .tc := ⟨.hbm, 1211, rfl⟩
abbrev main_call1_call3_c_40 : Ref sig .tc := ⟨.hbm, 1212, rfl⟩
abbrev main_call1_call3_v160 : Ref sig .tc := ⟨.hbm, 1213, rfl⟩
abbrev main_call1_call3_v161 : Ref sig .tc := ⟨.hbm, 1214, rfl⟩
abbrev main_call1_call3_c_41 : Ref sig .tc := ⟨.hbm, 1215, rfl⟩
abbrev main_call1_call3_v162 : Ref sig .tc := ⟨.hbm, 1216, rfl⟩
abbrev main_call1_call3_v163 : Ref sig .tc := ⟨.hbm, 1217, rfl⟩
abbrev main_call1_call3_v164 : Ref sig .tc := ⟨.hbm, 1218, rfl⟩
abbrev main_call1_call3_v165 : Ref sig .tc := ⟨.hbm, 1219, rfl⟩
abbrev main_call1_call3_v166 : Ref sig .tc := ⟨.hbm, 1220, rfl⟩
abbrev main_call1_call3_c_42 : Ref sig .tc := ⟨.hbm, 1221, rfl⟩
abbrev main_call1_call3_v167 : Ref sig .tc := ⟨.hbm, 1222, rfl⟩
abbrev main_call1_call3_v168 : Ref sig .tc := ⟨.hbm, 1223, rfl⟩
abbrev main_call1_call3_c_43 : Ref sig .tc := ⟨.hbm, 1224, rfl⟩
abbrev main_call1_call3_v169 : Ref sig .tc := ⟨.hbm, 1225, rfl⟩
abbrev main_call1_call3_v170 : Ref sig .tc := ⟨.hbm, 1226, rfl⟩
abbrev main_call1_call3_v171 : Ref sig .tc := ⟨.hbm, 1227, rfl⟩
abbrev main_call1_call3_v172 : Ref sig .tc := ⟨.hbm, 1228, rfl⟩
abbrev main_call1_call3_v173 : Ref sig .tc := ⟨.hbm, 1229, rfl⟩
abbrev main_call1_v44_0 : Ref sig .tc := ⟨.hbm, 1230, rfl⟩
abbrev main_call1_call3_v175 : Ref sig .tc := ⟨.hbm, 1231, rfl⟩
abbrev main_call1_call3_v176 : Ref sig .tc := ⟨.hbm, 1232, rfl⟩
abbrev main_call1_call3_c_44 : Ref sig .tc := ⟨.hbm, 1233, rfl⟩
abbrev main_call1_call3_v177 : Ref sig .tc := ⟨.hbm, 1234, rfl⟩
abbrev main_call1_v44_1 : Ref sig .tc := ⟨.hbm, 1235, rfl⟩
abbrev main_call1_v45 : Ref sig .tc := ⟨.hbm, 1236, rfl⟩
abbrev main_call1_v46_0 : Ref sig .tc := ⟨.hbm, 1237, rfl⟩
abbrev main_v9 : Ref sig .tc := ⟨.hbm, 1238, rfl⟩
abbrev main_v10 : Ref sig .tc := ⟨.hbm, 1239, rfl⟩
abbrev main_cst : Ref sig .tc := ⟨.hbm, 1240, rfl⟩
abbrev main_v11 : Ref sig .tc := ⟨.hbm, 1241, rfl⟩
abbrev main_v12 : Ref sig .tc := ⟨.hbm, 1242, rfl⟩
abbrev main_v13 : Ref sig .tc := ⟨.hbm, 1243, rfl⟩
abbrev main_c_2 : Ref sig .tc := ⟨.hbm, 1244, rfl⟩
abbrev main_v14 : Ref sig .tc := ⟨.hbm, 1245, rfl⟩
abbrev main_v15 : Ref sig .tc := ⟨.hbm, 1246, rfl⟩
abbrev main_c_3 : Ref sig .tc := ⟨.hbm, 1247, rfl⟩
abbrev main_v16 : Ref sig .tc := ⟨.hbm, 1248, rfl⟩
abbrev main_v17 : Ref sig .tc := ⟨.hbm, 1249, rfl⟩
abbrev main_v18 : Ref sig .tc := ⟨.hbm, 1250, rfl⟩
abbrev main_c_4 : Ref sig .tc := ⟨.hbm, 1251, rfl⟩
abbrev main_v19 : Ref sig .tc := ⟨.hbm, 1252, rfl⟩
abbrev main_v20 : Ref sig .tc := ⟨.hbm, 1253, rfl⟩
abbrev main_c_5 : Ref sig .tc := ⟨.hbm, 1254, rfl⟩
abbrev main_v21 : Ref sig .tc := ⟨.hbm, 1255, rfl⟩
abbrev main_v22 : Ref sig .tc := ⟨.hbm, 1256, rfl⟩
abbrev main_v23 : Ref sig .tc := ⟨.hbm, 1257, rfl⟩
abbrev main_v24 : Ref sig .tc := ⟨.hbm, 1258, rfl⟩
abbrev main_v25 : Ref sig .tc := ⟨.hbm, 1259, rfl⟩
abbrev main_v26 : Ref sig .tc := ⟨.hbm, 1260, rfl⟩
abbrev main_v27 : Ref sig .tc := ⟨.hbm, 1261, rfl⟩
abbrev main_cst_6 : Ref sig .tc := ⟨.hbm, 1262, rfl⟩
abbrev main_v28 : Ref sig .tc := ⟨.hbm, 1263, rfl⟩
abbrev main_v29 : Ref sig .tc := ⟨.hbm, 1264, rfl⟩

abbrev nD : Nat := 1
abbrev τ : Topo := Topo.v7x

variable {F : FTy → Type} [FloatOps F]
-- ==== Proof.Model.lean ====
module

public import proofs.«01_k».proof.KernelIdeal

/-!
# The kernel's vector values, stage by stage

The kernel's body computes one vector and stores it.  This module writes that vector as a
composition of a few named stages over vector operations, in the kernel's own
order of operations, so that each stage can be reasoned about once.
-/

@[expose] public section

noncomputable section

namespace Cert.KernelIdeal.Model

open Idealize.ShloMosaic

/-- A full tile of 32-bit words. -/
abbrev Tile := IVec S32x2048 32
/-- One 32-bit word per row. -/
abbrev Cell := IVec S32x1 32

/-! ## The counter-mode generator -/

section Gen
variable {s : Shape}

/-- The constant vector of a number. -/
def num (s : Shape) (n : Nat) : IVec s 32 := broadcast s (BitVec.ofNat 32 n)

/-- One round: add, rotate by `r`, exclusive or. -/
def round (r : Nat) (x : IVec s 32 × IVec s 32) : IVec s 32 × IVec s 32 :=
  (addi x.1 x.2,
    xori (ori (shli x.2 (num s r)) (shrui x.2 (num s (32 - r)))) (addi x.1 x.2))

/-- The key added after four rounds. -/
def inject (k k' : IVec s 32) (n : Nat) (x : IVec s 32 × IVec s 32) : IVec s 32 × IVec s 32 :=
  (addi x.1 k, addi (addi x.2 k') (num s n))

/-- Four rounds with the first four rotations. -/
def roundsA (x : IVec s 32 × IVec s 32) := round 6 (round 26 (round 15 (round 13 x)))
/-- Four rounds with the last four rotations. -/
def roundsB (x : IVec s 32 × IVec s 32) := round 24 (round 16 (round 29 (round 17 x)))

/-- The block function with its three key words. -/
def block (k0 k1 k2 x0 x1 : IVec s 32) : IVec s 32 × IVec s 32 :=
  inject k2 k0 5 (roundsA (inject k1 k2 4 (roundsB (inject k0 k1 3 (roundsA
    (inject k2 k0 2 (roundsB (inject k1 k2 1 (roundsA (addi x0 k0, addi x1 k1))))))))))

end Gen

/-- The third key word. -/
def third (k0 k1 : Cell) : Cell := xori (xori k0 k1) (num S32x1 466688986)

variable [Facts₀]
open Facts₀

/-- The block function on one word per row. -/
def cellBlock (k : Cell × Cell) (x0 x1 : Cell) : Cell × Cell :=
  block k.1 k.2 (third k.1 k.2) x0 x1

/-- A word per row, repeated along the row. -/
def spread (x : Cell) : Tile := broadcastTo S32x2048 x broadcasts_S32x1_S32x2048

/-- The column number. -/
def col : Tile := iota .tc S32x2048 32 [1] iota_S32x2048_d1_w32

/-- The row number. -/
def row : Cell := iota .tc S32x1 32 [0] iota_S32x1_d0_w32

/-- Bit `p` of the column number. -/
def colBit (p : Nat) : Tile := andi (shrsi col (num S32x2048 p)) (num S32x2048 1)

/-- The column number with the bits below `n` written in reverse. -/
def revTo : Nat → Tile
  | 0 => num S32x2048 0
  | n + 1 => ori (revTo n) (shli (colBit n) (num S32x2048 (10 - n)))

/-- The column number with its eleven bits reversed. -/
def rev : Tile := revTo 11

/-- The bits of a row: the two words of the block function, exclusive or. -/
def bits (k : Cell × Cell) : Tile :=
  let o := block (spread k.1) (spread k.2) (spread (third k.1 k.2)) (num S32x2048 0) rev
  xori o.1 o.2

/-- The key of each row. -/
def key0 : Cell × Cell := cellBlock (num S32x1 0, num S32x1 42) (num S32x1 0) row
/-- The key a split goes on with. -/
def keyNext (k : Cell × Cell) : Cell × Cell := cellBlock k (num S32x1 0) (num S32x1 0)
/-- The key a split gives out. -/
def keySub (k : Cell × Cell) : Cell × Cell := cellBlock k (num S32x1 0) (num S32x1 1)

/-- The bits the first round sorts by. -/
def bits1 : Tile := bits (keySub key0)
/-- The bits the second round sorts by. -/
def bits2 : Tile := bits (keySub (keyNext key0))

/-! ## Rotations of the columns -/

/-- The shape of a block of `n` columns. -/
abbrev colShape (n : Nat) : Shape := ⟨2, ![32, n]⟩

theorem slices_left (r q : Nat) (h : r + q = 2048) : S32x2048.Slices ![0, r] (colShape q) := by
  refine ⟨rfl, fun a => ?_⟩
  match a with
  | ⟨0, _⟩ => exact Nat.le_refl _
  | ⟨1, _⟩ => exact Nat.le_of_eq h

theorem slices_right (r : Nat) (h : r ≤ 2048) : S32x2048.Slices ![0, 0] (colShape r) := by
  refine ⟨rfl, fun a => ?_⟩
  match a with
  | ⟨0, _⟩ => exact Nat.le_refl _
  | ⟨1, _⟩ => exact (Nat.zero_add r).symm ▸ h

theorem joins (r q : Nat) (h : r + q = 2048) :
    Shape.Concatenates [colShape q, colShape r] S32x2048 1 := by
  refine ⟨Nat.le_refl 2, fun s hs => ?_, ?_⟩
  · have hs' : s = colShape q ∨ s = colShape r := by simpa using hs
    rcases hs' with rfl | rfl
    · refine ⟨rfl, fun b hb => ?_⟩
      match b with
      | ⟨0, _⟩ => rfl
      | ⟨1, _⟩ => exact absurd rfl hb
    · refine ⟨rfl, fun b hb => ?_⟩
      match b with
      | ⟨0, _⟩ => rfl
      | ⟨1, _⟩ => exact absurd rfl hb
  · show q + (r + 0) = 2048
    omega

/-- The columns rotated `r` places to the left. -/
def roll (r q : Nat) (h : r + q = 2048) (x : Tile) : Tile :=
  concatenate S32x2048 1
    [⟨colShape q, extractStridedSlice (colShape q) ![0, r] x (slices_left r q h)⟩,
     ⟨colShape r, extractStridedSlice (colShape r) ![0, 0] x
       (slices_right r (h ▸ Nat.le_add_right r q))⟩] (joins r q h)

theorem pow_split (p : Fin 11) : 2 ^ p.val + (2048 - 2 ^ p.val) = 2048 := by
  revert p; decide

theorem pow_split' (p : Fin 11) : (2048 - 2 ^ p.val) + 2 ^ p.val = 2048 := by
  revert p; decide

/-- Rotated left by `2 ^ p`. -/
def rollL (p : Fin 11) : Tile → Tile := roll (2 ^ p.val) (2048 - 2 ^ p.val) (pow_split p)
/-- Rotated right by `2 ^ p`. -/
def rollR (p : Fin 11) : Tile → Tile := roll (2048 - 2 ^ p.val) (2 ^ p.val) (pow_split' p)

/-! ## The sorting stages -/

/-- The mask that reverses the order in the blocks that sort downwards. -/
def turn (a : Nat) (p : Fin 11) : Tile :=
  subi (num S32x2048 0) (xori (colBit p.val) (colBit a))

/-- The key of the partner column. -/
def other (p : Fin 11) (x : Tile) : Tile :=
  xori (rollR p x)
    (andi (xori (rollL p x) (rollR p x)) (subi (colBit p.val) (num S32x2048 1)))

/-- Whether a column keeps its own entry. -/
def keeps (a : Nat) (p : Fin 11) (x : Tile) : IVec S32x2048 1 :=
  cmpi .slt (xori x (turn a p)) (xori (other p x) (turn a p))

/-- One compare stage of keys with their values. -/
def stagePair (a : Nat) (p : Fin 11) (x : Tile × Tile) : Tile × Tile :=
  (select (keeps a p x.1) x.1 (other p x.1),
   select (keeps a p x.1) x.2
     (select (cmpi .eq (colBit p.val) (num S32x2048 0)) (rollL p x.2) (rollR p x.2)))

/-- One compare stage of keys alone. -/
def stageKey (a : Nat) (p : Fin 11) (x : Tile) : Tile :=
  xori (minsi (xori x (turn a p)) (xori (other p x) (turn a p))) (turn a p)

/-- The stages of the network in order: merging blocks of `2 ^ (l + 1)`, comparing at distance
    `2 ^ s`, with the bits of a position stored in reverse. -/
def stages : List (Nat × Fin 11) :=
  (List.range 11).flatMap fun l => (List.range (l + 1)).reverse.map fun s =>
    (if l + 1 < 11 then 10 - (l + 1) else 11, Fin.ofNat 11 (10 - s))

/-- The network on keys with their values. -/
def sortPair (x : Tile × Tile) : Tile × Tile := stages.foldl (fun y t => stagePair t.1 t.2 y) x
/-- The network on keys. -/
def sortKey (x : Tile) : Tile := stages.foldl (fun y t => stageKey t.1 t.2 y) x

/-- The top bit. -/
def flip (s : Shape) : IVec s 32 := num s 2147483648

/-- The column that each place of the first order holds. -/
def order1 : Tile := (sortPair (xori bits1 (flip _), rev)).2

/-! ## The threshold -/

/-- How many entries of each row agree with the prefix above and at bit `b`. -/
def agree (b : Nat) (prefix' : Cell) : Cell :=
  shapeCast S32x1 (multiReductionI .add [1] S32
    (select (cmpi .eq (andi bits2 (num S32x2048 (2 ^ 32 - 2 ^ b))) (spread prefix'))
      (num S32x2048 1) (num S32x2048 0)) 0#32 reduces_S32x2048_S32 rfl) shapeCasts_S32_S32x1

/-- One step of the search: `(prefix, remaining)`. -/
def searchStep (b : Nat) (t : Cell × Cell) : Cell × Cell :=
  (select (cmpi .sge t.2 (agree b t.1)) (ori t.1 (num S32x1 (2 ^ b))) t.1,
   select (cmpi .sge t.2 (agree b t.1)) (subi t.2 (agree b t.1)) t.2)

/-- The search over the bits from `31` down to `15`. -/
def search : Cell × Cell :=
  (List.range 17).foldl (fun t n => searchStep (31 - n) t) (num S32x1 0, num S32x1 307)

/-- Whether the entry of the second round is at or above the threshold. -/
def above : IVec S32x2048 1 :=
  cmpi .sge (xori bits2 (flip _)) (spread (xori search.1 (flip _)))

/-- The column of the first order over the bit of the second round. -/
def packed : Tile :=
  ori (shli order1 (num S32x2048 1)) (select above (num S32x2048 1) (num S32x2048 0))

/-! ## Undoing the reversal of the position bits -/

/-- All bits of a word. -/
def full : Tile := constantI S32x2048 32 4294967295#32

/-- The mask of the columns whose bit `i` is set. -/
def bitMask (i : Nat) : Tile := subi (num S32x2048 0) (colBit i)
/-- The mask of the columns whose bits `i` and `j` differ. -/
def diffMask (i j : Nat) : Tile :=
  subi (num S32x2048 0)
    (andi (xori (shrsi col (num S32x2048 i)) (shrsi col (num S32x2048 j))) (num S32x2048 1))

/-- Exchange of the bits `i` and `j` of the position. -/
def swapBits (i j r q : Nat) (h : r + q = 2048) (h' : q + r = 2048) (x : Tile) : Tile :=
  ori (andi x (xori (diffMask i j) full))
    (andi (ori (andi (roll r q h x) (bitMask i))
      (andi (roll q r h' x) (xori (bitMask i) full))) (diffMask i j))

/-- The five exchanges. -/
def unrev (x : Tile) : Tile :=
  swapBits 4 6 48 2000 rfl rfl (swapBits 3 7 120 1928 rfl rfl (swapBits 2 8 252 1796 rfl rfl
    (swapBits 1 9 510 1538 rfl rfl (swapBits 0 10 1023 1025 rfl rfl x))))

/-- The bit the kernel turns into a number. -/
def maskBit : Tile := andi (unrev (sortKey packed)) (num S32x2048 1)

/-- The vector the kernel stores. -/
def stored (F : FTy → Type) [FloatOps F] : FVec F S32x2048 .f32 := sitofp .f32 maskBit

end Cert.KernelIdeal.Model
-- ==== Proof.Body.lean ====
module

public import proofs.«01_k».proof.Proof.Model
public import proofs.«01_k».proof.Proof.Gen.KernelIdeal.Frame.RunA

@[expose] public section

noncomputable section
namespace Cert.KernelIdeal
open Idealize.ShloMosaic Idealize.SL.Sem Idealize.ShloMosaic.Tactic
variable {F : FTy → Type} [FloatOps F] [Facts]

theorem body_eq (arg0 : Memref sig .tc .vmem S32x2048 .f32) (harg0 : arg0.IsWhole)
    (arg1 : Memref sig .tc .vmem S8x128 .i32) (harg1 : arg1.IsWhole) :
    cc0__mask_body (F := F) arg0 harg0 arg1 harg1 =
      (do
        let _ : Vec F S32x2048 .f32 ← Prog.lift (.load arg0 (Rect.unit (s := S32x2048) ![0, 0] S32x2048.size Facts₀.inb_S32x2048_S32x2048_0_0).toLoadRect (View.loadsAt_vmem Facts₀.h_S32x2048))
        Prog.lift (.store arg0 (Rect.unit (s := S32x2048) ![0, 0] S32x2048.size Facts₀.inb_S32x2048_S32x2048_0_0) (Model.stored F) Finset.univ (View.stores_vmem_bits_univ Facts₀.h_S32x2048 rfl) (.inl rfl))
        pure ⟨⟩) := by
  sl_kernel_rfl
end Cert.KernelIdeal
-- ==== Proof.KernelRun.lean ====
module

public import proofs.«01_k».proof.Proof.Body
public import Idealize.ShloMosaic.Lib.Claim
public import Idealize.ShloMosaic.Lib.Pipeline.ValueKit
public import Idealize.ShloMosaic.Lib.VecWindow

/-!
# The kernel's run

The launch of the kernel at any interpretation of the floats: it ends, the argument is
unchanged, every semaphore is at zero, and the result array holds the stored vector.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on whole memrefs: it leaves the stored vector in the output's. -/
theorem body_run (c : Dev nD) (arg0 : Memref sig .tc .vmem S32x2048 .f32) (harg0 : arg0.IsWhole)
    (arg1 : Memref sig .tc .vmem S8x128 .i32) (harg1 : arg1.IsWhole) (E : Set ℕ) (K : PUnit → sProp 𝕄) :
    iprop((∃ d, owns (c : Thread nD τ) arg0 fullShare d) ∗ (∃ d, owns (c : Thread nD τ) arg1 fullShare d)
        ∗ (iprop((owns (c : Thread nD τ) arg0 fullShare (Model.stored F)) ∗ (∃ d, owns (c : Thread nD τ) arg1 fullShare d)) -∗ K ⟨⟩))
      ⊢ wp frame (wpE (defs₀ (F := F)) Variants.none c none) E (cc0__mask_body arg0 harg0 arg1 harg1) K := by
  rw [body_eq]
  unfold owns
  iintro ⟨⟨%d0, %f0, -, H0⟩, ⟨%ds0, %fs0, -, HS0⟩, Hk⟩
  sl_exec
  sl_step
  iapply Hk
  isplitl [H0]
  · iexists _; isplitr; swap; · iexact H0
    ipureintro; exact View.read_writes_full _ _ _ _ _
  iexists _, _; isplitr; swap; · iexact HS0
  ipureintro; rfl

/-- The proof data of the one pipeline. -/
def dats (_ : Fin 1) (c : Dev nD) : Dat τ (Elt F) Unit ℕ (UR sig nD τ) ℕ cfg0 c where
  A w := V m c (Pipeline.arrRef spec0 w)
  after w _ := match w with
    | ⟨0, _⟩ => Model.stored F
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = Model.stored F := by dsimp only [dats]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  iintro ⟨⟨HS0, Hg⟩, Ho, ⟨%d0, H0⟩⟩
  iapply (body_run c _ _ _ _ Set.univ _)
  isplitl [H0]; · iexists _; iexact H0
  isplitl [HS0]; · iexact HS0
  iintro ⟨H0, HS0⟩
  isplitl [HS0 Hg]
  · isplitl [HS0]
    · iexact HS0
    iexact Hg
  isplitl [Ho]; · iexact Ho
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore at zero at the end. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The argument ends unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ))
    ((θ_run defs _ _).mono (fun _ h => h.2) (run_main_quiescent m ρ))

/-- The result array after the run. -/
theorem arr_final (c : Dev nD) : (dats m 0 c).arrAt 0 (cfgs 0).N = Model.stored F := by
  refine (dats m 0 c).arrAt_eq_of_after_last 0 t0_0 (by decide +kernel) _ fun j => ?_
  blk_simp
  rw [after0_0]

/-- The result and the argument after the run. -/
theorem value : θ_run defs (onTc (τ := τ) (main (F := F))) ⟨m, fun _ => 0, ρ⟩ (fun r => ∀ c : Dev nD,
      r.2.mem ((c.tc : Thread nD τ).loc main_v0) = Model.stored F
      ∧ r.2.mem ((c.tc : Thread nD τ).loc main_arg0) = m ((c.tc : Thread nD τ).loc main_arg0)) := by
  run_from (run_main m ρ)
  · exact arr_final m _

end Cert.KernelIdeal.Run
-- ==== Proof.KernelBits.lean ====
module

public import proofs.«01_k».proof.Kernel
public import proofs.«01_k».proof.Proof.Gen.Kernel
public import proofs.«01_k».proof.Proof.KernelRun

/-!
# The run of the kernel over words

The kernel and its ideal reading are one text, so the run of the one, stated for any float
values, is the run of the other.
-/

@[expose] public section

noncomputable section

namespace Cert.Kernel.Run

open Idealize.ShloMosaic Idealize.SL.Sem Idealize.ShloMosaic.Tactic

variable {F : FTy → Type} [FloatOps F]

/-- The two texts are equal. -/
theorem main_eq : main (F := F) = Cert.KernelIdeal.main (F := F) := by sl_kernel_rfl

/-- The two tables of bodies are equal. -/
theorem defs_eq : defs (F := F) = Cert.KernelIdeal.defs (F := F) := by sl_kernel_rfl

/-- The argument ends unchanged and the semaphores at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) := by
  rw [main_eq, defs_eq]
  exact Cert.KernelIdeal.Run.frame m ρ

end Cert.Kernel.Run
-- ==== Proof.HostLine.lean ====
module

public import Idealize.ShloMosaic.Lib.StableHlo.Run

/-!
# Straight lines of host operations as data

A program that is a straight line of host operations is read as a list of assignments, each to
one buffer from the contents of the buffers before it.  The list is found from the program by
following its shape, and what a buffer holds at the end is then a computation on the list.
-/

@[expose] public section

noncomputable section

namespace Cert.HostLine

open Idealize.ShloMosaic Idealize.ShloMosaic.StableHlo Idealize.SL.Sem

variable {τ : Topo} {sig : RefSig} {Val : EltTy → Type} {nD : Nat} {Λ : Labels}

/-- The contents of the buffers that a program names. -/
abbrev Env (sig : RefSig) (Val : EltTy → Type) := (r : Ref sig .tc) → r.ty.Contents Val

/-- The named buffers' contents, out of a device's. -/
def view (V : Valuation τ sig Val) : Env sig Val := fun r => V (Proc.devRef .tc r)

/-- The buffer lies on the device and lasts as long as the program. -/
abbrev Held (y : Ref sig .tc) : Prop := y.space ≠ .host ∧ (Proc.devRef (τ := τ) .tc y).isScoped = false

/-- One assignment: an operation that writes the buffer `y` with a value that depends on the
    named buffers' contents. -/
structure Assign (τ : Topo) (sig : RefSig) (Val : EltTy → Type) where
  op : HloOp τ sig Val
  sub : op.bufs ⊆ tcRefs τ sig
  fresh : op.fresh = ∅
  y : Ref sig .tc
  value : Env sig Val → y.ty.Contents Val
  at_y : ∀ V, op.result V (Proc.devRef .tc y) = value (view V)
  off : ∀ V (r : Ref sig .tc), r ≠ y → op.result V (Proc.devRef .tc r) = V (Proc.devRef .tc r)

/-- The contents after one assignment. -/
def put (e : Env sig Val) (y : Ref sig .tc) (v : y.ty.Contents Val) : Env sig Val := fun r =>
  if h : y = r then h ▸ v else e r

/-- The contents after a list of assignments. -/
def runs : List (Assign τ sig Val) → Env sig Val → Env sig Val
  | [], e => e
  | a :: l, e => runs l (put e a.y (a.value e))

theorem view_result (a : Assign τ sig Val) (V : Valuation τ sig Val) :
    view (a.op.result V) = put (view V) a.y (a.value (view V)) := by
  funext r
  unfold put
  split
  · rename_i h; subst h; exact a.at_y V
  · rename_i h; exact a.off V r fun e => h e.symm

theorem view_after (l : List (Assign τ sig Val)) : ∀ V : Valuation τ sig Val,
    view (after (l.map Assign.op) V) = runs l (view V) := by
  induction l with
  | nil => intro V; rfl
  | cons a l ih =>
    intro V
    rw [List.map_cons, after_cons, ih, view_result]; rfl

/-- A program that is a straight line of assignments, with the assignments. -/
structure Line (p : Prog (TpuEff nD τ sig Val Λ .tc) PUnit) where
  list : List (Assign τ sig Val)
  eq : p = seq (list.map Assign.op)

/-- The line that returns at once. -/
def Line.ret : Line (pure ⟨⟩ : Prog (TpuEff nD τ sig Val Λ .tc) PUnit) := ⟨[], rfl⟩

/-- One line after another. -/
def Line.bind {p q : Prog (TpuEff nD τ sig Val Λ .tc) PUnit} (a : Line p) (b : Line q) :
    Line (p >>= fun _ => q) :=
  ⟨a.list ++ b.list, by rw [List.map_append, seq_append, ← a.eq, ← b.eq]⟩

/-- The line of one assignment. -/
def Line.one (a : Assign τ sig Val) :
    Line (hlo rfl a.op (fun _ => .ret ⟨⟩) : Prog (TpuEff nD τ sig Val Λ .tc) PUnit) :=
  ⟨[a], (bind_pure (hlo rfl a.op (fun _ => .ret ⟨⟩) : Prog (TpuEff nD τ sig Val Λ .tc) PUnit)).symm⟩

/-- The assignment of a constant. -/
@[reducible] def aNullary (y : Ref sig .tc) (v : y.ty.Contents Val) (hy : Held (τ := τ) y) : Assign τ sig Val where
  op := nullary y v hy
  sub := nullary_bufs_sub ..
  fresh := rfl
  y := y
  value _ := v
  at_y V := nullary_result ..
  off V r h := nullary_result_ne (h := h) ..

/-- The assignment of a function of one buffer. -/
@[reducible] def aUnary (x y : Ref sig .tc) (f : x.ty.Contents Val → y.ty.Contents Val) (hx : Held (τ := τ) x) (hy : Held (τ := τ) y) : Assign τ sig Val where
  op := unary x y f hx hy
  sub := unary_bufs_sub ..
  fresh := rfl
  y := y
  value e := f (e x)
  at_y V := unary_result ..
  off V r h := unary_result_ne (h := h) ..

/-- The assignment of a function of two buffers. -/
@[reducible] def aBinary (a b y : Ref sig .tc) (f : a.ty.Contents Val → b.ty.Contents Val → y.ty.Contents Val) (ha : Held (τ := τ) a) (hb : Held (τ := τ) b) (hy : Held (τ := τ) y) :
    Assign τ sig Val where
  op := binary a b y f ha hb hy
  sub := binary_bufs_sub ..
  fresh := rfl
  y := y
  value e := f (e a) (e b)
  at_y V := binary_result ..
  off V r h := binary_result_ne (h := h) ..

/-- The assignment of a function of three buffers. -/
@[reducible] def aTernary (c a b y : Ref sig .tc)
    (f : c.ty.Contents Val → a.ty.Contents Val → b.ty.Contents Val → y.ty.Contents Val) (hc : Held (τ := τ) c) (ha : Held (τ := τ) a) (hb : Held (τ := τ) b) (hy : Held (τ := τ) y) :
    Assign τ sig Val where
  op := ternary c a b y f hc ha hb hy
  sub := ternary_bufs_sub ..
  fresh := rfl
  y := y
  value e := f (e c) (e a) (e b)
  at_y V := ternary_result ..
  off V r h := ternary_result_ne (h := h) ..

/-- The assignment of a buffer at another shape. -/
@[reducible] def aReshape (x y : Ref sig .tc) (he : x.ty.elt = y.ty.elt) (hn : x.ty.shape.ShapeCasts y.ty.shape) (hx : Held (τ := τ) x) (hy : Held (τ := τ) y) :
    Assign τ sig Val where
  op := reshape x y he hn hx hy
  sub := reshape_bufs_sub ..
  fresh := rfl
  y := y
  value e := fun i => he ▸ shapeCast y.ty.shape (e x) hn i
  at_y V := reshape_result ..
  off V r h := reshape_result_ne (h := h) ..

/-- The line of one operation of no operand. -/
def lNullary (y : Ref sig .tc) (v : y.ty.Contents Val) (hy : Held (τ := τ) y) :
    Line (hlo rfl (nullary (τ := τ) y v hy) (fun _ => .ret ⟨⟩) : Prog (TpuEff nD τ sig Val Λ .tc) PUnit) :=
  Line.one (aNullary y v hy)
/-- The line of one operation of one operand. -/
def lUnary (x y : Ref sig .tc) (f : x.ty.Contents Val → y.ty.Contents Val) (hx : Held (τ := τ) x) (hy : Held (τ := τ) y) :
    Line (hlo rfl (unary (τ := τ) x y f hx hy) (fun _ => .ret ⟨⟩) : Prog (TpuEff nD τ sig Val Λ .tc) PUnit) :=
  Line.one (aUnary x y f hx hy)
/-- The line of one operation of two operands. -/
def lBinary (a b y : Ref sig .tc) (f : a.ty.Contents Val → b.ty.Contents Val → y.ty.Contents Val) (ha : Held (τ := τ) a) (hb : Held (τ := τ) b) (hy : Held (τ := τ) y) :
    Line (hlo rfl (binary (τ := τ) a b y f ha hb hy) (fun _ => .ret ⟨⟩) : Prog (TpuEff nD τ sig Val Λ .tc) PUnit) :=
  Line.one (aBinary a b y f ha hb hy)
/-- The line of one operation of three operands. -/
def lTernary (c a b y : Ref sig .tc)
    (f : c.ty.Contents Val → a.ty.Contents Val → b.ty.Contents Val → y.ty.Contents Val) (hc : Held (τ := τ) c) (ha : Held (τ := τ) a) (hb : Held (τ := τ) b) (hy : Held (τ := τ) y) :
    Line (hlo rfl (ternary (τ := τ) c a b y f hc ha hb hy) (fun _ => .ret ⟨⟩) : Prog (TpuEff nD τ sig Val Λ .tc) PUnit) :=
  Line.one (aTernary c a b y f hc ha hb hy)
/-- The line of one change of shape. -/
def lReshape (x y : Ref sig .tc) (he : x.ty.elt = y.ty.elt) (hn : x.ty.shape.ShapeCasts y.ty.shape) (hx : Held (τ := τ) x) (hy : Held (τ := τ) y) :
    Line (hlo rfl (reshape (τ := τ) (Val := Val) x y he hn hx hy) (fun _ => .ret ⟨⟩) : Prog (TpuEff nD τ sig Val Λ .tc) PUnit) :=
  Line.one (aReshape x y he hn hx hy)

/-- The run of a program that is a line on every device: every named buffer ends at what the
    assignments compute from the launch contents. -/
theorem run (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (l : ∀ d, Line (main d)) (m : (ℓ : Loc nD τ sig) → Buf Val ℓ) (ρ : Dev nD → PrngReg) :
    θ_run defs (onTc (τ := τ) main) ⟨m, fun _ => 0, ρ⟩ fun r =>
      ∀ (d : Dev nD) (b : Ref sig .tc), r.2.mem ((d.tc : Thread nD τ).loc b)
        = runs (l d).list (view (launchContents m d)) b :=
  (θ_run defs _ _).mono (fun r h d b => (h d b).trans (congrFun (view_after (l d).list _) b))
    (run_seq hR hC defs main (fun d => (l d).list.map Assign.op) (fun d => (l d).eq)
      (fun d => by
        rw [List.forall_iff_forall_mem]
        intro op hop
        obtain ⟨a, _, rfl⟩ := List.mem_map.mp hop
        exact a.sub) m ρ
      (fun d op hop => by
        obtain ⟨a, _, rfl⟩ := List.mem_map.mp hop
        exact a.fresh))

end Cert.HostLine
-- ==== Proof.RefLine.lean ====
module

public import proofs.«01_k».proof.ReferenceIdeal
public import proofs.«01_k».proof.Proof.HostLine

/-!
# The reference program as a straight line

Each function of the reference program is a straight line of assignments over its arguments and
its buffers, and so is the program.
-/

@[expose] public section

set_option maxRecDepth 100000
set_option maxHeartbeats 4000000

noncomputable section

namespace Cert.ReferenceIdeal

open Idealize.ShloMosaic Idealize.SL.Sem Cert.HostLine

variable {F : FTy → Type} [FloatOps F] [Facts]

section
variable (arg0 arg1 : StableHlo.TRef sig ⟨S_, .i32⟩) (arg2 arg3 : StableHlo.TRef sig ⟨S32, .i32⟩)
  (φ : fn_threefry2x32.Bufs)

/-- The generator on the row counters, part 0. -/
def threefry2x32_part0 : Line (fn_threefry2x32.body_part0 (F := F) arg0 arg1 arg2 arg3 φ) := by
  unfold fn_threefry2x32.body_part0
  repeat first
    | exact Line.ret | refine Line.bind ?_ ?_ | with_reducible exact lUnary ..
    | with_reducible exact lBinary .. | with_reducible exact lNullary ..
    | with_reducible exact lReshape ..

/-- The generator on the row counters, part 1. -/
def threefry2x32_part1 : Line (fn_threefry2x32.body_part1 (F := F) arg0 arg1 arg2 arg3 φ) := by
  unfold fn_threefry2x32.body_part1
  repeat first
    | exact Line.ret | refine Line.bind ?_ ?_ | with_reducible exact lUnary ..
    | with_reducible exact lBinary .. | with_reducible exact lNullary ..
    | with_reducible exact lReshape ..

/-- The generator on the row counters, part 2. -/
def threefry2x32_part2 : Line (fn_threefry2x32.body_part2 (F := F) arg0 arg1 arg2 arg3 φ) := by
  unfold fn_threefry2x32.body_part2
  repeat first
    | exact Line.ret | refine Line.bind ?_ ?_ | with_reducible exact lUnary ..
    | with_reducible exact lBinary .. | with_reducible exact lNullary ..
    | with_reducible exact lReshape ..

/-- The generator on the row counters, part 3. -/
def threefry2x32_part3 : Line (fn_threefry2x32.body_part3 (F := F) arg0 arg1 arg2 arg3 φ) := by
  unfold fn_threefry2x32.body_part3
  repeat first
    | exact Line.ret | refine Line.bind ?_ ?_ | with_reducible exact lUnary ..
    | with_reducible exact lBinary .. | with_reducible exact lNullary ..
    | with_reducible exact lReshape ..

/-- The generator on the row counters. -/
def threefry2x32_line : Line (fn_threefry2x32.body (F := F) arg0 arg1 arg2 arg3 φ) :=
  (threefry2x32_part0 arg0 arg1 arg2 arg3 φ).bind ((threefry2x32_part1 arg0 arg1 arg2 arg3 φ).bind
    ((threefry2x32_part2 arg0 arg1 arg2 arg3 φ).bind (threefry2x32_part3 arg0 arg1 arg2 arg3 φ)))

end

section
variable (arg0 arg1 : StableHlo.TRef sig ⟨S32x1, .i32⟩) (arg2 arg3 : StableHlo.TRef sig ⟨S1x2, .i32⟩)
  (φ : fn_threefry2x32_1.Bufs)

/-- The generator on two counters, part 0. -/
def threefry2x32_1_part0 : Line (fn_threefry2x32_1.body_part0 (F := F) arg0 arg1 arg2 arg3 φ) := by
  unfold fn_threefry2x32_1.body_part0
  repeat first
    | exact Line.ret | refine Line.bind ?_ ?_ | with_reducible exact lUnary ..
    | with_reducible exact lBinary .. | with_reducible exact lNullary ..
    | with_reducible exact lReshape ..

/-- The generator on two counters, part 1. -/
def threefry2x32_1_part1 : Line (fn_threefry2x32_1.body_part1 (F := F) arg0 arg1 arg2 arg3 φ) := by
  unfold fn_threefry2x32_1.body_part1
  repeat first
    | exact Line.ret | refine Line.bind ?_ ?_ | with_reducible exact lUnary ..
    | with_reducible exact lBinary .. | with_reducible exact lNullary ..
    | with_reducible exact lReshape ..

/-- The generator on two counters, part 2. -/
def threefry2x32_1_part2 : Line (fn_threefry2x32_1.body_part2 (F := F) arg0 arg1 arg2 arg3 φ) := by
  unfold fn_threefry2x32_1.body_part2
  repeat first
    | exact Line.ret | refine Line.bind ?_ ?_ | with_reducible exact lUnary ..
    | with_reducible exact lBinary .. | with_reducible exact lNullary ..
    | with_reducible exact lReshape ..

/-- The generator on two counters, part 3. -/
def threefry2x32_1_part3 : Line (fn_threefry2x32_1.body_part3 (F := F) arg0 arg1 arg2 arg3 φ) := by
  unfold fn_threefry2x32_1.body_part3
  repeat first
    | exact Line.ret | refine Line.bind ?_ ?_ | with_reducible exact lUnary ..
    | with_reducible exact lBinary .. | with_reducible exact lNullary ..
    | with_reducible exact lReshape ..

/-- The generator on two counters. -/
def threefry2x32_1_line : Line (fn_threefry2x32_1.body (F := F) arg0 arg1 arg2 arg3 φ) :=
  (threefry2x32_1_part0 arg0 arg1 arg2 arg3 φ).bind ((threefry2x32_1_part1 arg0 arg1 arg2 arg3 φ).bind
    ((threefry2x32_1_part2 arg0 arg1 arg2 arg3 φ).bind (threefry2x32_1_part3 arg0 arg1 arg2 arg3 φ)))

end

section
variable (arg0 arg1 : StableHlo.TRef sig ⟨S32x1, .i32⟩) (arg2 arg3 : StableHlo.TRef sig ⟨S1x2048, .i32⟩)
  (φ : fn_threefry2x32_2.Bufs)

/-- The generator on the column counters, part 0. -/
def threefry2x32_2_part0 : Line (fn_threefry2x32_2.body_part0 (F := F) arg0 arg1 arg2 arg3 φ) := by
  unfold fn_threefry2x32_2.body_part0
  repeat first
    | exact Line.ret | refine Line.bind ?_ ?_ | with_reducible exact lUnary ..
    | with_reducible exact lBinary .. | with_reducible exact lNullary ..
    | with_reducible exact lReshape ..

/-- The generator on the column counters, part 1. -/
def threefry2x32_2_part1 : Line (fn_threefry2x32_2.body_part1 (F := F) arg0 arg1 arg2 arg3 φ) := by
  unfold fn_threefry2x32_2.body_part1
  repeat first
    | exact Line.ret | refine Line.bind ?_ ?_ | with_reducible exact lUnary ..
    | with_reducible exact lBinary .. | with_reducible exact lNullary ..
    | with_reducible exact lReshape ..

/-- The generator on the column counters, part 2. -/
def threefry2x32_2_part2 : Line (fn_threefry2x32_2.body_part2 (F := F) arg0 arg1 arg2 arg3 φ) := by
  unfold fn_threefry2x32_2.body_part2
  repeat first
    | exact Line.ret | refine Line.bind ?_ ?_ | with_reducible exact lUnary ..
    | with_reducible exact lBinary .. | with_reducible exact lNullary ..
    | with_reducible exact lReshape ..

/-- The generator on the column counters, part 3. -/
def threefry2x32_2_part3 : Line (fn_threefry2x32_2.body_part3 (F := F) arg0 arg1 arg2 arg3 φ) := by
  unfold fn_threefry2x32_2.body_part3
  repeat first
    | exact Line.ret | refine Line.bind ?_ ?_ | with_reducible exact lUnary ..
    | with_reducible exact lBinary .. | with_reducible exact lNullary ..
    | with_reducible exact lReshape ..

/-- The generator on the column counters. -/
def threefry2x32_2_line : Line (fn_threefry2x32_2.body (F := F) arg0 arg1 arg2 arg3 φ) :=
  (threefry2x32_2_part0 arg0 arg1 arg2 arg3 φ).bind ((threefry2x32_2_part1 arg0 arg1 arg2 arg3 φ).bind
    ((threefry2x32_2_part2 arg0 arg1 arg2 arg3 φ).bind (threefry2x32_2_part3 arg0 arg1 arg2 arg3 φ)))

end

/-- The split of the first key into the row keys. -/
def split_line (arg0 : StableHlo.TRef sig ⟨S2, .i32⟩) (φ : fn_threefry_split.Bufs) :
    Line (fn_threefry_split.body (F := F) arg0 φ) := by
  unfold fn_threefry_split.body
  repeat first
    | exact Line.ret | refine Line.bind ?_ ?_ | with_reducible exact lUnary ..
    | with_reducible exact lBinary .. | with_reducible exact lNullary ..
    | with_reducible exact lReshape .. | with_reducible exact lTernary .. | exact threefry2x32_line ..

/-- The split of each row's key in two. -/
def split_0_line (arg0 : StableHlo.TRef sig ⟨S32x2, .i32⟩) (φ : fn_threefry_split_0.Bufs) :
    Line (fn_threefry_split_0.body (F := F) arg0 φ) := by
  unfold fn_threefry_split_0.body
  repeat first
    | exact Line.ret | refine Line.bind ?_ ?_ | with_reducible exact lUnary ..
    | with_reducible exact lBinary .. | with_reducible exact lNullary ..
    | with_reducible exact lReshape .. | with_reducible exact lTernary .. | exact threefry2x32_1_line ..

/-- The shuffle of each row. -/
def shuffle_line (arg0 : StableHlo.TRef sig ⟨S32x2, .i32⟩) (arg1 : StableHlo.TRef sig ⟨S2048, .i32⟩) (φ : fn_shuffle.Bufs) :
    Line (fn_shuffle.body (F := F) arg0 arg1 φ) := by
  unfold fn_shuffle.body
  repeat first
    | exact Line.ret | refine Line.bind ?_ ?_ | with_reducible exact lUnary ..
    | with_reducible exact lBinary .. | with_reducible exact lNullary ..
    | with_reducible exact lReshape .. | with_reducible exact lTernary .. | exact threefry2x32_2_line .. | exact split_0_line ..

/-- The program. -/
def main_line (d : Dev nD) : Line (main (F := F) d) := by
  unfold main
  repeat first
    | exact Line.ret | refine Line.bind ?_ ?_ | with_reducible exact lUnary ..
    | with_reducible exact lBinary .. | with_reducible exact lNullary ..
    | with_reducible exact lReshape .. | with_reducible exact lTernary .. | exact split_line .. | exact shuffle_line ..

end Cert.ReferenceIdeal
-- ==== Proof.RefRun.lean ====
module

public import proofs.«01_k».proof.Proof.RefLine
public import proofs.«01_k».proof.Proof.Gen.ReferenceIdeal
public import Idealize.ShloMosaic.Lib.Tactic
public import Idealize.ShloMosaic.Adequacy
public import Idealize.ShloMosaic.Lib.Quiescent

/-!
# The run of the reference program
-/

@[expose] public section

set_option maxRecDepth 100000

noncomputable section

namespace Cert.ReferenceIdeal.RefRun

open Idealize.ShloMosaic Idealize.SL.Sem Cert.HostLine Idealize.ShloMosaic.Tactic

variable {F : FTy → Type} [FloatOps F] [Facts]

theorem no_scoped_refs : (Finset.univ.filter fun b : Ref sig .tc => b.isScoped) = ∅ := by decide +kernel
theorem no_scoped_sems : (Finset.univ.filter fun sm : SemLoc sig => sm.isScoped .tc) = ∅ := by decide

/-- Every buffer after the run. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = runs (main_line (F := F) d).list (view (StableHlo.launchContents m d)) b :=
  run no_scoped_refs no_scoped_sems defs main main_line m ρ

/-- The argument is not assigned. -/
theorem arg_kept (d : Dev nD) (e : Env sig (Elt F)) : runs (main_line (F := F) d).list e main_arg0 = e main_arg0 := by
  sl_kernel_rfl

/-- The argument ends unchanged and the semaphores at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c main_arg0).trans (arg_kept c _),
    sem_eq_zero_of_no_sems (by decide) r.2⟩) (run_main m ρ)

end Cert.ReferenceIdeal.RefRun
-- ==== Proof.RefModel.lean ====
module

public import proofs.«01_k».proof.Proof.RefRun

/-!
# The reference's value, stage by stage

The reference's result is written as a composition of a few named stages over the host's vector
operations, in the program's own order, so that each stage can be reasoned about once.
-/

@[expose] public section

set_option maxRecDepth 100000

noncomputable section

namespace Cert.ReferenceIdeal.RefModel

open Idealize.ShloMosaic

section Gen
variable {s : Shape} (h : S_.BroadcastsInDim s ![])

/-- The constant vector of a number. -/
def num (n : Nat) : IVec s 32 := broadcastInDim s ![] h (constantI S_ 32 (BitVec.ofNat 32 n))

/-- One round: add, rotate by `r`, exclusive or. -/
def round (r : Nat) (x : IVec s 32 × IVec s 32) : IVec s 32 × IVec s 32 :=
  (addi x.1 x.2,
    xori (addi x.1 x.2) (ori (Host.shli x.2 (num h r)) (Host.shrui x.2 (num h (32 - r)))))

/-- The key added after four rounds. -/
def inject (k k' : IVec s 32) (n : Nat) (x : IVec s 32 × IVec s 32) : IVec s 32 × IVec s 32 :=
  (addi x.1 k, addi (addi x.2 k') (num h n))

/-- Four rounds with the first four rotations. -/
def roundsA (x : IVec s 32 × IVec s 32) := round h 6 (round h 26 (round h 15 (round h 13 x)))
/-- Four rounds with the last four rotations. -/
def roundsB (x : IVec s 32 × IVec s 32) := round h 24 (round h 16 (round h 29 (round h 17 x)))

/-- The block function with its three key words. -/
def block (k0 k1 k2 x0 x1 : IVec s 32) : IVec s 32 × IVec s 32 :=
  inject h k2 k0 5 (roundsA h (inject h k1 k2 4 (roundsB h (inject h k0 k1 3 (roundsA h
    (inject h k2 k0 2 (roundsB h (inject h k1 k2 1 (roundsA h (addi x0 k0, addi x1 k1))))))))))

end Gen

variable [Facts]
open Facts₀ Facts

/-- The first key: the two halves of the seed. -/
def seed : IVec S2 32 :=
  concatenate S2 0
    [⟨S1, broadcastInDim S1 ![] bcast_S_S1 (Host.shrui (constantI S_ 32 42#32) (constantI S_ 32 32#32))⟩,
     ⟨S1, broadcastInDim S1 ![] bcast_S_S1 (andi (constantI S_ 32 42#32) (constantI S_ 32 4294967295#32))⟩]
    concatenates_S1_S1_S2_d0

/-- The counters of the rows, in 64 bits. -/
def rows64 : IVec S32 64 := muli (broadcastInDim S32 ![] bcast_S_S32 (constantI S_ 64 1#64)) (iotaInDim S32 64 0)
/-- The counters of a row's split in two, in 64 bits. -/
def two64 : IVec S2 64 := muli (broadcastInDim S2 ![] bcast_S_S2 (constantI S_ 64 1#64)) (iotaInDim S2 64 0)
/-- The counters of the columns, in 64 bits. -/
def cols64 : IVec S2048 64 :=
  muli (broadcastInDim S2048 ![] bcast_S_S2048 (constantI S_ 64 1#64)) (iotaInDim S2048 64 0)

/-- The row keys. -/
def rowKeys (x : IVec S2 32) : IVec S32x2 32 :=
  let k0 : IVec S_ 32 := shapeCast S_ (extractStridedSlice S1 ![0] x slices_S2_S1_0) shapeCasts_S1_S_
  let k1 : IVec S_ 32 := shapeCast S_ (extractStridedSlice S1 ![1] x slices_S2_S1_1) shapeCasts_S1_S_
  let o := block bcast_S_S32 (broadcastInDim S32 ![] bcast_S_S32 k0) (broadcastInDim S32 ![] bcast_S_S32 k1)
    (broadcastInDim S32 ![] bcast_S_S32 (xori (xori k0 k1) (constantI S_ 32 466688986#32)))
    (trunci 32 (Host.shrui rows64 (broadcastInDim S32 ![] bcast_S_S32 (constantI S_ 64 32#64))) natLt_32_64)
    (trunci 32 rows64 natLt_32_64)
  concatenate S32x2 1
    [⟨S32x1, broadcastInDim S32x1 ![0] bcast_S32_S32x1_0 o.1⟩, ⟨S32x1, broadcastInDim S32x1 ![0] bcast_S32_S32x1_0 o.2⟩]
    concatenates_S32x1_S32x1_S32x2_d1

/-- One word of every row's key, as a column. -/
def word0 (x : IVec S32x2 32) : IVec S32x1 32 :=
  broadcastInDim S32x1 ![0] bcast_S32_S32x1_0
    (shapeCast S32 (extractStridedSlice S32x1 ![0, 0] x slices_S32x2_S32x1_0_0) shapeCasts_S32x1_S32)
/-- The other word. -/
def word1 (x : IVec S32x2 32) : IVec S32x1 32 :=
  broadcastInDim S32x1 ![0] bcast_S32_S32x1_0
    (shapeCast S32 (extractStridedSlice S32x1 ![0, 1] x slices_S32x2_S32x1_0_1) shapeCasts_S32x1_S32)
/-- The third word of every row's key. -/
def word2 (x : IVec S32x2 32) : IVec S32x1 32 :=
  xori (xori (word0 x) (word1 x)) (broadcastInDim S32x1 ![] bcast_S_S32x1 (constantI S_ 32 466688986#32))

/-- Every row's key split in two. -/
def splitKeys (x : IVec S32x2 32) : IVec S32x2x2 32 :=
  let o := block bcast_S_S32x2
    (broadcastInDim S32x2 ![0, 1] bcast_S32x1_S32x2_0_1 (word0 x))
    (broadcastInDim S32x2 ![0, 1] bcast_S32x1_S32x2_0_1 (word1 x))
    (broadcastInDim S32x2 ![0, 1] bcast_S32x1_S32x2_0_1 (word2 x))
    (broadcastInDim S32x2 ![0, 1] bcast_S1x2_S32x2_0_1 (broadcastInDim S1x2 ![1] bcast_S2_S1x2_1
      (trunci 32 (Host.shrui two64 (broadcastInDim S2 ![] bcast_S_S2 (constantI S_ 64 32#64))) natLt_32_64)))
    (broadcastInDim S32x2 ![0, 1] bcast_S1x2_S32x2_0_1 (broadcastInDim S1x2 ![1] bcast_S2_S1x2_1
      (trunci 32 two64 natLt_32_64)))
  concatenate S32x2x2 2
    [⟨S32x2x1, broadcastInDim S32x2x1 ![0, 1] bcast_S32x2_S32x2x1_0_1 o.1⟩,
     ⟨S32x2x1, broadcastInDim S32x2x1 ![0, 1] bcast_S32x2_S32x2x1_0_1 o.2⟩]
    concatenates_S32x2x1_S32x2x1_S32x2x2_d2

/-- The keys that go on. -/
def next (x : IVec S32x2x2 32) : IVec S32x2 32 :=
  shapeCast S32x2 (extractStridedSlice S32x1x2 ![0, 0, 0] x slices_S32x2x2_S32x1x2_0_0_0) shapeCasts_S32x1x2_S32x2
/-- The keys that are used. -/
def sub (x : IVec S32x2x2 32) : IVec S32x2 32 :=
  shapeCast S32x2 (extractStridedSlice S32x1x2 ![0, 1, 0] x slices_S32x2x2_S32x1x2_0_1_0) shapeCasts_S32x1x2_S32x2

/-- The bits of every row. -/
def bits (x : IVec S32x2 32) : IVec S32x2048 32 :=
  let o := block bcast_S_S32x2048
    (broadcastInDim S32x2048 ![0, 1] bcast_S32x1_S32x2048_0_1 (word0 x))
    (broadcastInDim S32x2048 ![0, 1] bcast_S32x1_S32x2048_0_1 (word1 x))
    (broadcastInDim S32x2048 ![0, 1] bcast_S32x1_S32x2048_0_1 (word2 x))
    (broadcastInDim S32x2048 ![0, 1] bcast_S1x2048_S32x2048_0_1 (broadcastInDim S1x2048 ![1] bcast_S2048_S1x2048_1
      (trunci 32 (Host.shrui cols64 (broadcastInDim S2048 ![] bcast_S_S2048 (constantI S_ 64 32#64))) natLt_32_64)))
    (broadcastInDim S32x2048 ![0, 1] bcast_S1x2048_S32x2048_0_1 (broadcastInDim S1x2048 ![1] bcast_S2048_S1x2048_1
      (trunci 32 cols64 natLt_32_64)))
  xori o.1 o.2

/-- The first split of every row's key. -/
def split1 : IVec S32x2x2 32 := splitKeys (rowKeys seed)
/-- The second split. -/
def split2 : IVec S32x2x2 32 := splitKeys (next split1)
/-- The bits that the first sort goes by. -/
def bits1 : IVec S32x2048 32 := bits (sub split1)
/-- The bits that the second sort goes by. -/
def bits2 : IVec S32x2048 32 := bits (sub split2)

/-- The columns after the first sort. -/
def order1 : IVec S32x2048 32 :=
  (Host.sort2 S32x2048 1 comparator_i32_i32_d1 bits1
    (broadcastInDim S32x2048 ![1] bcast_S2048_S32x2048_1 (iotaInDim S2048 32 0))).2
/-- The columns after the second sort. -/
def order2 : IVec S32x2048 32 := (Host.sort2 S32x2048 1 comparator_i32_i32_d1 bits2 order1).2

/-- The first 307 columns of every row. -/
def chosen : IVec S32x307 32 := extractStridedSlice S32x307 ![0, 0] order2 slices_S32x2048_S32x307_0_0

/-- The row numbers, as a column. -/
def rowIx : IVec S32x1 32 := broadcastInDim S32x1 ![0] bcast_S32_S32x1_0 (iotaInDim S32 32 0)
/-- The row of each update. -/
def rowAt : IVec S32x1 32 :=
  select (cmpi .slt rowIx (broadcastInDim S32x1 ![] bcast_S_S32x1 (constantI S_ 32 0#32)))
    (addi rowIx (broadcastInDim S32x1 ![] bcast_S_S32x1 (constantI S_ 32 32#32))) rowIx
/-- The column of each update. -/
def colAt : IVec S32x307 32 :=
  select (cmpi .slt chosen (broadcastInDim S32x307 ![] bcast_S_S32x307 (constantI S_ 32 0#32)))
    (addi chosen (broadcastInDim S32x307 ![] bcast_S_S32x307 (constantI S_ 32 2048#32))) chosen

/-- The place of each update. -/
def places : IVec S32x307x2 32 :=
  concatenate S32x307x2 2
    [⟨S32x307x1, broadcastInDim S32x307x1 ![0, 1] bcast_S32x307_S32x307x1_0_1
        (broadcastInDim S32x307 ![0, 1] bcast_S32x1_S32x307_0_1 rowAt)⟩,
     ⟨S32x307x1, broadcastInDim S32x307x1 ![0, 1] bcast_S32x307_S32x307x1_0_1 colAt⟩]
    concatenates_S32x307x1_S32x307x1_S32x307x2_d2

/-- The result: ones, with a zero written at every place. -/
def result (F : FTy → Type) [FloatOps F] : FVec F S32x2048 .f32 :=
  Host.scatter scatter_S32x2048_S32x307x2_S32x307_n_01_01_2 (fun _ b => b)
    (broadcastInDim S32x2048 ![] bcast_S_S32x2048 (constant S_ .f32 0x3F800000#32) : FVec F S32x2048 .f32)
    places
    (broadcastInDim S32x307 ![] bcast_S_S32x307 (constant S_ .f32 0x00000000#32))

end Cert.ReferenceIdeal.RefModel
-- ==== Proof.RefValue.lean ====
module

public import proofs.«01_k».proof.Proof.RefModel

/-!
# The reference's run, with its value
-/

@[expose] public section

set_option maxRecDepth 100000

noncomputable section

namespace Cert.ReferenceIdeal.RefRun

open Idealize.ShloMosaic Idealize.SL.Sem Cert.HostLine Idealize.ShloMosaic.Tactic

variable {F : FTy → Type} [FloatOps F] [Facts]

/-- What the assignments compute in the result's buffer. -/
theorem result_eq (d : Dev nD) (e : Env sig (Elt F)) :
    runs (main_line (F := F) d).list e main_v29 = RefModel.result F := by
  sl_kernel_rfl

/-- The result and the argument after the run. -/
theorem value (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v29) = RefModel.result F
      ∧ r.2.mem ((c.tc : Thread nD τ).loc main_arg0) = m ((c.tc : Thread nD τ).loc main_arg0)) :=
  (θ_run defs _ _).mono (fun r h c => ⟨(h c main_v29).trans (result_eq c _), (h c main_arg0).trans (arg_kept c _)⟩)
    (run_main m ρ)

end Cert.ReferenceIdeal.RefRun
-- ==== Proof.Words.lean ====
module

public import proofs.«01_k».proof.Proof.Model
public import proofs.«01_k».proof.Proof.RefModel

/-!
# The generator on single words

The counter-mode generator on 32-bit words, and what both programs' vectors of it hold at a place.
-/

@[expose] public section

noncomputable section

namespace Cert.Words

open Idealize.ShloMosaic

/-- A pair of words. -/
abbrev Pair := BitVec 32 × BitVec 32

/-- One round: add, rotate by `r`, exclusive or. -/
def rnd (r : Nat) (x : Pair) : Pair := (x.1 + x.2, ((x.2 <<< r) ||| (x.2 >>> (32 - r))) ^^^ (x.1 + x.2))
/-- The key added after four rounds. -/
def inj (k k' : BitVec 32) (n : Nat) (x : Pair) : Pair := (x.1 + k, x.2 + k' + BitVec.ofNat 32 n)
/-- Four rounds with the first four rotations. -/
def rA (x : Pair) : Pair := rnd 6 (rnd 26 (rnd 15 (rnd 13 x)))
/-- Four rounds with the last four rotations. -/
def rB (x : Pair) : Pair := rnd 24 (rnd 16 (rnd 29 (rnd 17 x)))
/-- The block function with its three key words. -/
def blk (k0 k1 k2 : BitVec 32) (x : Pair) : Pair :=
  inj k2 k0 5 (rA (inj k1 k2 4 (rB (inj k0 k1 3 (rA (inj k2 k0 2 (rB (inj k1 k2 1 (rA (x.1 + k0, x.2 + k1))))))))))
/-- The third key word. -/
def third (k : Pair) : BitVec 32 := k.1 ^^^ k.2 ^^^ 466688986#32
/-- The block function of a key. -/
def tf (k x : Pair) : Pair := blk k.1 k.2 (third k) x

/-- The key of a row. -/
def rowKey (b : Nat) : Pair := tf (0#32, 42#32) (0#32, BitVec.ofNat 32 b)
/-- The key that a split goes on with. -/
def nextKey (k : Pair) : Pair := tf k (0#32, 0#32)
/-- The key that a split gives out. -/
def subKey (k : Pair) : Pair := tf k (0#32, 1#32)
/-- The bits of a key at a counter. -/
def bitsOf (k : Pair) (c : Nat) : BitVec 32 := (tf k (0#32, BitVec.ofNat 32 c)).1 ^^^ (tf k (0#32, BitVec.ofNat 32 c)).2

/-- The bits of the first round. -/
def h1 (b c : Nat) : BitVec 32 := bitsOf (subKey (rowKey b)) c
/-- The bits of the second round. -/
def h2 (b c : Nat) : BitVec 32 := bitsOf (subKey (nextKey (rowKey b))) c

section Lane
variable {s : Shape}

/-- The pair at a place. -/
def lane (x : IVec s 32 × IVec s 32) (j : s.Idx) : Pair := (x.1 j, x.2 j)

theorem shl_num (u : ArithUnit) (x : BitVec 32) {r : Nat} (h : r < 32) : IntOp.shli u x (BitVec.ofNat 32 r) = x <<< r := by
  have e : (BitVec.ofNat 32 r).toNat = r := by rw [BitVec.toNat_ofNat]; exact Nat.mod_eq_of_lt (by omega)
  unfold IntOp.shli
  rw [if_pos (by rw [e]; exact h), BitVec.shiftLeft_eq', e]

theorem shr_num (u : ArithUnit) (x : BitVec 32) {r : Nat} (h : r < 32) : IntOp.shrui u x (BitVec.ofNat 32 r) = x >>> r := by
  have e : (BitVec.ofNat 32 r).toNat = r := by rw [BitVec.toNat_ofNat]; exact Nat.mod_eq_of_lt (by omega)
  unfold IntOp.shrui
  rw [if_pos (by rw [e]; exact h), BitVec.ushiftRight_eq', e]

open Cert.KernelIdeal in
theorem lane_round (r : Nat) (x : IVec s 32 × IVec s 32) (j : s.Idx) (h : 0 < r) (h' : r < 32) :
    lane (Model.round r x) j = rnd r (lane x j) := by
  refine Prod.ext rfl ?_
  show (IntOp.shli _ (x.2 j) (BitVec.ofNat 32 r) ||| IntOp.shrui _ (x.2 j) (BitVec.ofNat 32 (32 - r))) ^^^ _ = _
  rw [shl_num _ _ h', shr_num _ _ (by omega)]; rfl

open Cert.KernelIdeal in
theorem lane_roundsA (x : IVec s 32 × IVec s 32) (j : s.Idx) : lane (Model.roundsA x) j = rA (lane x j) := by
  unfold Model.roundsA rA
  rw [lane_round _ _ _ (by decide) (by decide), lane_round _ _ _ (by decide) (by decide),
    lane_round _ _ _ (by decide) (by decide), lane_round _ _ _ (by decide) (by decide)]

open Cert.KernelIdeal in
theorem lane_roundsB (x : IVec s 32 × IVec s 32) (j : s.Idx) : lane (Model.roundsB x) j = rB (lane x j) := by
  unfold Model.roundsB rB
  rw [lane_round _ _ _ (by decide) (by decide), lane_round _ _ _ (by decide) (by decide),
    lane_round _ _ _ (by decide) (by decide), lane_round _ _ _ (by decide) (by decide)]

open Cert.KernelIdeal in
theorem lane_inject (k k' : IVec s 32) (n : Nat) (x : IVec s 32 × IVec s 32) (j : s.Idx) :
    lane (Model.inject k k' n x) j = inj (k j) (k' j) n (lane x j) := rfl

open Cert.KernelIdeal in
/-- The kernel's block function at a place. -/
theorem lane_block (k0 k1 k2 x0 x1 : IVec s 32) (j : s.Idx) :
    lane (Model.block k0 k1 k2 x0 x1) j = blk (k0 j) (k1 j) (k2 j) (x0 j, x1 j) := by
  unfold Model.block blk
  simp only [lane_inject, lane_roundsA, lane_roundsB]
  rfl

open Cert.ReferenceIdeal

variable (hb : S_.BroadcastsInDim s ![])

theorem lane_round' (r : Nat) (x : IVec s 32 × IVec s 32) (j : s.Idx) (h : 0 < r) (h' : r < 32) :
    lane (RefModel.round hb r x) j = rnd r (lane x j) := by
  refine Prod.ext rfl ?_
  show _ ^^^ (IntOp.shli _ (x.2 j) (BitVec.ofNat 32 r) ||| IntOp.shrui _ (x.2 j) (BitVec.ofNat 32 (32 - r))) = _
  rw [shl_num _ _ h', shr_num _ _ (by omega), BitVec.xor_comm]; rfl

theorem lane_roundsA' (x : IVec s 32 × IVec s 32) (j : s.Idx) : lane (RefModel.roundsA hb x) j = rA (lane x j) := by
  unfold RefModel.roundsA rA
  rw [lane_round' _ _ _ _ (by decide) (by decide), lane_round' _ _ _ _ (by decide) (by decide),
    lane_round' _ _ _ _ (by decide) (by decide), lane_round' _ _ _ _ (by decide) (by decide)]

theorem lane_roundsB' (x : IVec s 32 × IVec s 32) (j : s.Idx) : lane (RefModel.roundsB hb x) j = rB (lane x j) := by
  unfold RefModel.roundsB rB
  rw [lane_round' _ _ _ _ (by decide) (by decide), lane_round' _ _ _ _ (by decide) (by decide),
    lane_round' _ _ _ _ (by decide) (by decide), lane_round' _ _ _ _ (by decide) (by decide)]

theorem lane_inject' (k k' : IVec s 32) (n : Nat) (x : IVec s 32 × IVec s 32) (j : s.Idx) :
    lane (RefModel.inject hb k k' n x) j = inj (k j) (k' j) n (lane x j) := rfl

/-- The reference's block function at a place. -/
theorem lane_block' (k0 k1 k2 x0 x1 : IVec s 32) (j : s.Idx) :
    lane (RefModel.block hb k0 k1 k2 x0 x1) j = blk (k0 j) (k1 j) (k2 j) (x0 j, x1 j) := by
  unfold RefModel.block blk
  simp only [lane_inject', lane_roundsA', lane_roundsB']
  rfl

end Lane

end Cert.Words
-- ==== Proof.BitsAt.lean ====
module

public import proofs.«01_k».proof.Proof.Words
public import Idealize.ShloMosaic.Lib.Pointwise
public import Idealize.ShloMosaic.Lib.Pipeline.Value

/-!
# What both programs' bits are at a place

The kernel's bits and the reference's bits at a row and a column, as words of the generator.
-/

@[expose] public section

set_option maxRecDepth 16384

noncomputable section

namespace Cert.Words

open Idealize.ShloMosaic

section Kernel
open Cert.KernelIdeal
variable [Facts₀]

theorem num_at {s : Shape} (n : Nat) (j : s.Idx) : Model.num s n j = BitVec.ofNat 32 n := rfl

theorem spread_at (x : Model.Cell) (b : Fin 32) (c : Fin 2048) : Model.spread x (ix2 b c) = x (ix2 b 0) := by
  unfold Model.spread
  refine broadcastTo_apply _ _ _ _ fun a => ?_
  match a with
  | ⟨0, _⟩ => rfl
  | ⟨1, _⟩ => rfl

theorem row_at (b : Fin 32) : Model.row (ix2 b 0) = BitVec.ofNat 32 b.val := by
  show BitVec.ofNat 32 (0 * 32 + b.val) = _
  rw [Nat.zero_mul, Nat.zero_add]

theorem col_at (b : Fin 32) (c : Fin 2048) : Model.col (ix2 b c) = BitVec.ofNat 32 c.val := by
  show BitVec.ofNat 32 (0 * 2048 + c.val) = _
  rw [Nat.zero_mul, Nat.zero_add]

theorem cellBlock_at (k : Model.Cell × Model.Cell) (x0 x1 : Model.Cell) (j : S32x1.Idx) :
    lane (Model.cellBlock k x0 x1) j = tf (lane k j) (x0 j, x1 j) := lane_block _ _ _ _ _ _

theorem key0_at (b : Fin 32) : lane Model.key0 (ix2 b 0) = rowKey b.val := by
  unfold Model.key0
  rw [cellBlock_at, row_at]
  rfl

theorem keyNext_at (k : Model.Cell × Model.Cell) (j : S32x1.Idx) : lane (Model.keyNext k) j = nextKey (lane k j) :=
  cellBlock_at _ _ _ _

theorem keySub_at (k : Model.Cell × Model.Cell) (j : S32x1.Idx) : lane (Model.keySub k) j = subKey (lane k j) :=
  cellBlock_at _ _ _ _

theorem bits_at (k : Model.Cell × Model.Cell) (b : Fin 32) (c : Fin 2048) (n : Nat)
    (h : Model.rev (ix2 b c) = BitVec.ofNat 32 n) : Model.bits k (ix2 b c) = bitsOf (lane k (ix2 b 0)) n := by
  have e := lane_block (Model.spread k.1) (Model.spread k.2) (Model.spread (Model.third k.1 k.2)) (Model.num S32x2048 0)
    Model.rev (ix2 b c)
  rw [spread_at, spread_at, spread_at, h] at e
  show (lane (Model.block _ _ _ _ _) (ix2 b c)).1 ^^^ (lane (Model.block _ _ _ _ _) (ix2 b c)).2 = _
  rw [e]
  rfl

theorem bits1_at (b : Fin 32) (c : Fin 2048) (n : Nat) (h : Model.rev (ix2 b c) = BitVec.ofNat 32 n) :
    Model.bits1 (ix2 b c) = h1 b.val n := by
  unfold Model.bits1
  rw [bits_at _ _ _ _ h, keySub_at, key0_at]
  rfl

theorem bits2_at (b : Fin 32) (c : Fin 2048) (n : Nat) (h : Model.rev (ix2 b c) = BitVec.ofNat 32 n) :
    Model.bits2 (ix2 b c) = h2 b.val n := by
  unfold Model.bits2
  rw [bits_at _ _ _ _ h, keySub_at, keyNext_at, key0_at]
  rfl

end Kernel

section Reference
open Cert.ReferenceIdeal
variable [Facts]
open Facts₀ Facts

theorem trunc64 (n : Nat) (h : n < 2 ^ 32) : (1#64 * BitVec.ofNat 64 n).setWidth 32 = BitVec.ofNat 32 n := by
  rw [BitVec.one_mul]
  apply BitVec.eq_of_toNat_eq
  rw [BitVec.toNat_setWidth, BitVec.toNat_ofNat, BitVec.toNat_ofNat]
  omega

theorem high64 (n : Nat) (h : n < 2 ^ 32) : (IntOp.shrui .host (1#64 * BitVec.ofNat 64 n) 32#64).setWidth 32 = 0#32 := by
  rw [BitVec.one_mul]
  apply BitVec.eq_of_toNat_eq
  unfold IntOp.shrui
  rw [if_pos (by decide), BitVec.toNat_setWidth, BitVec.ushiftRight_eq', BitVec.toNat_ushiftRight, BitVec.toNat_ofNat,
    Nat.shiftRight_eq_div_pow]
  show n % 2 ^ 64 / 2 ^ 32 % 2 ^ 32 = 0
  omega

theorem word0_at (x : IVec S32x2 32) (b : Fin 32) : RefModel.word0 x (ix2 b 0) = x (ix2 b 0) := by
  pointwise [RefModel.word0]

theorem word1_at (x : IVec S32x2 32) (b : Fin 32) : RefModel.word1 x (ix2 b 0) = x (ix2 b 1) := by
  pointwise [RefModel.word1]

theorem word2_at (x : IVec S32x2 32) (b : Fin 32) : RefModel.word2 x (ix2 b 0) = third (x (ix2 b 0), x (ix2 b 1)) := by
  unfold RefModel.word2
  show RefModel.word0 x (ix2 b 0) ^^^ RefModel.word1 x (ix2 b 0) ^^^ _ = _
  rw [word0_at, word1_at]
  rfl

/-- The two words of a row's key. -/
def keyAt (x : IVec S32x2 32) (b : Fin 32) : Pair := (x (ix2 b 0), x (ix2 b 1))

theorem seed_at : (RefModel.seed (ix1 0), RefModel.seed (ix1 1)) = ((0#32, 42#32) : Pair) := by
  refine Prod.ext ?_ ?_
  · show RefModel.seed (ix1 0) = 0#32
    pointwise [RefModel.seed]
    rfl
  · show RefModel.seed (ix1 1) = 42#32
    pointwise [RefModel.seed]
    rfl

theorem join2_left (u v : IVec S32 32) (b : Fin 32) :
    concatenate S32x2 1 [⟨S32x1, broadcastInDim S32x1 ![0] bcast_S32_S32x1_0 u⟩, ⟨S32x1, broadcastInDim S32x1 ![0] bcast_S32_S32x1_0 v⟩]
      concatenates_S32x1_S32x1_S32x2_d1 (ix2 b 0) = u (ix1 b) := by pointwise

theorem join2_right (u v : IVec S32 32) (b : Fin 32) :
    concatenate S32x2 1 [⟨S32x1, broadcastInDim S32x1 ![0] bcast_S32_S32x1_0 u⟩, ⟨S32x1, broadcastInDim S32x1 ![0] bcast_S32_S32x1_0 v⟩]
      concatenates_S32x1_S32x1_S32x2_d1 (ix2 b 1) = v (ix1 b) := by pointwise

theorem join3_left (u v : IVec S32x2 32) (b : Fin 32) (t : Fin 2) :
    concatenate S32x2x2 2 [⟨S32x2x1, broadcastInDim S32x2x1 ![0, 1] bcast_S32x2_S32x2x1_0_1 u⟩,
      ⟨S32x2x1, broadcastInDim S32x2x1 ![0, 1] bcast_S32x2_S32x2x1_0_1 v⟩] concatenates_S32x2x1_S32x2x1_S32x2x2_d2 (ix3 b t 0)
      = u (ix2 b t) := by pointwise

theorem join3_right (u v : IVec S32x2 32) (b : Fin 32) (t : Fin 2) :
    concatenate S32x2x2 2 [⟨S32x2x1, broadcastInDim S32x2x1 ![0, 1] bcast_S32x2_S32x2x1_0_1 u⟩,
      ⟨S32x2x1, broadcastInDim S32x2x1 ![0, 1] bcast_S32x2_S32x2x1_0_1 v⟩] concatenates_S32x2x1_S32x2x1_S32x2x2_d2 (ix3 b t 1)
      = v (ix2 b t) := by pointwise

theorem rowKeys_at (x : IVec S2 32) (b : Fin 32) :
    keyAt (RefModel.rowKeys x) b = tf (x (ix1 0), x (ix1 1)) (0#32, BitVec.ofNat 32 b.val) := by
  have hx : (trunci 32 (Host.shrui RefModel.rows64 (broadcastInDim S32 ![] bcast_S_S32 (constantI S_ 64 32#64))) natLt_32_64 : IVec S32 32) (ix1 b)
      = 0#32 := high64 b.val (by have := b.isLt; omega)
  have hy : (trunci 32 RefModel.rows64 natLt_32_64 : IVec S32 32) (ix1 b) = BitVec.ofNat 32 b.val :=
    trunc64 b.val (by have := b.isLt; omega)
  have e := lane_block' bcast_S_S32
    (broadcastInDim S32 ![] bcast_S_S32 (shapeCast S_ (extractStridedSlice S1 ![0] x slices_S2_S1_0) shapeCasts_S1_S_))
    (broadcastInDim S32 ![] bcast_S_S32 (shapeCast S_ (extractStridedSlice S1 ![1] x slices_S2_S1_1) shapeCasts_S1_S_))
    (broadcastInDim S32 ![] bcast_S_S32 (xori (xori (shapeCast S_ (extractStridedSlice S1 ![0] x slices_S2_S1_0) shapeCasts_S1_S_)
      (shapeCast S_ (extractStridedSlice S1 ![1] x slices_S2_S1_1) shapeCasts_S1_S_)) (constantI S_ 32 466688986#32)))
    (trunci 32 (Host.shrui RefModel.rows64 (broadcastInDim S32 ![] bcast_S_S32 (constantI S_ 64 32#64))) natLt_32_64)
    (trunci 32 RefModel.rows64 natLt_32_64) (ix1 b)
  rw [hx, hy] at e
  have p0 : (broadcastInDim S32 ![] bcast_S_S32 (shapeCast S_ (extractStridedSlice S1 ![0] x slices_S2_S1_0) shapeCasts_S1_S_) : IVec S32 32) (ix1 b)
      = x (ix1 0) := by pointwise
  have p1 : (broadcastInDim S32 ![] bcast_S_S32 (shapeCast S_ (extractStridedSlice S1 ![1] x slices_S2_S1_1) shapeCasts_S1_S_) : IVec S32 32) (ix1 b)
      = x (ix1 1) := by pointwise
  have p2 : (broadcastInDim S32 ![] bcast_S_S32 (xori (xori (shapeCast S_ (extractStridedSlice S1 ![0] x slices_S2_S1_0) shapeCasts_S1_S_)
      (shapeCast S_ (extractStridedSlice S1 ![1] x slices_S2_S1_1) shapeCasts_S1_S_)) (constantI S_ 32 466688986#32)) : IVec S32 32) (ix1 b)
      = third (x (ix1 0), x (ix1 1)) := by
    have q : ∀ (u v : IVec S_ 32), (broadcastInDim S32 ![] bcast_S_S32 (xori (xori u v) (constantI S_ 32 466688986#32)) : IVec S32 32) (ix1 b)
      = (broadcastInDim S32 ![] bcast_S_S32 u : IVec S32 32) (ix1 b) ^^^ (broadcastInDim S32 ![] bcast_S_S32 v : IVec S32 32) (ix1 b) ^^^ 466688986#32 := fun _ _ => rfl
    rw [q, p0, p1]
    rfl
  rw [p0, p1, p2] at e
  refine Eq.trans (Prod.ext ?_ ?_) e
  · show RefModel.rowKeys x (ix2 b 0) = _
    unfold RefModel.rowKeys
    exact join2_left _ _ b
  · show RefModel.rowKeys x (ix2 b 1) = _
    unfold RefModel.rowKeys
    exact join2_right _ _ b

theorem split_at (x : IVec S32x2 32) (b : Fin 32) (t : Fin 2) :
    ((RefModel.splitKeys x (ix3 b t 0), RefModel.splitKeys x (ix3 b t 1)) : Pair) = tf (keyAt x b) (0#32, BitVec.ofNat 32 t.val) := by
  have e := lane_block' bcast_S_S32x2
    (broadcastInDim S32x2 ![0, 1] bcast_S32x1_S32x2_0_1 (RefModel.word0 x))
    (broadcastInDim S32x2 ![0, 1] bcast_S32x1_S32x2_0_1 (RefModel.word1 x))
    (broadcastInDim S32x2 ![0, 1] bcast_S32x1_S32x2_0_1 (RefModel.word2 x))
    (broadcastInDim S32x2 ![0, 1] bcast_S1x2_S32x2_0_1 (broadcastInDim S1x2 ![1] bcast_S2_S1x2_1
      (trunci 32 (Host.shrui RefModel.two64 (broadcastInDim S2 ![] bcast_S_S2 (constantI S_ 64 32#64))) natLt_32_64)))
    (broadcastInDim S32x2 ![0, 1] bcast_S1x2_S32x2_0_1 (broadcastInDim S1x2 ![1] bcast_S2_S1x2_1
      (trunci 32 RefModel.two64 natLt_32_64))) (ix2 b t)
  have hw (u : IVec S32x1 32) : (broadcastInDim S32x2 ![0, 1] bcast_S32x1_S32x2_0_1 u : IVec S32x2 32) (ix2 b t) = u (ix2 b 0) := by
    pointwise
  have hc (u : IVec S2 32) : (broadcastInDim S32x2 ![0, 1] bcast_S1x2_S32x2_0_1 (broadcastInDim S1x2 ![1] bcast_S2_S1x2_1 u) : IVec S32x2 32) (ix2 b t)
      = u (ix1 t) := by pointwise
  have hx : (trunci 32 (Host.shrui RefModel.two64 (broadcastInDim S2 ![] bcast_S_S2 (constantI S_ 64 32#64))) natLt_32_64 : IVec S2 32) (ix1 t)
      = 0#32 := high64 t.val (by have := t.isLt; omega)
  have hy : (trunci 32 RefModel.two64 natLt_32_64 : IVec S2 32) (ix1 t) = BitVec.ofNat 32 t.val :=
    trunc64 t.val (by have := t.isLt; omega)
  rw [hw, hw, hw, hc, hc, hx, hy, word0_at, word1_at, word2_at] at e
  refine Eq.trans (Prod.ext ?_ ?_) e
  · show RefModel.splitKeys x (ix3 b t 0) = _
    unfold RefModel.splitKeys
    exact join3_left _ _ b t
  · show RefModel.splitKeys x (ix3 b t 1) = _
    unfold RefModel.splitKeys
    exact join3_right _ _ b t

theorem next_at (x : IVec S32x2x2 32) (b : Fin 32) : keyAt (RefModel.next x) b = (x (ix3 b 0 0), x (ix3 b 0 1)) := by
  refine Prod.ext ?_ ?_
  · show RefModel.next x (ix2 b 0) = x (ix3 b 0 0)
    pointwise [RefModel.next]
  · show RefModel.next x (ix2 b 1) = x (ix3 b 0 1)
    pointwise [RefModel.next]

theorem sub_at (x : IVec S32x2x2 32) (b : Fin 32) : keyAt (RefModel.sub x) b = (x (ix3 b 1 0), x (ix3 b 1 1)) := by
  refine Prod.ext ?_ ?_
  · show RefModel.sub x (ix2 b 0) = x (ix3 b 1 0)
    pointwise [RefModel.sub]
  · show RefModel.sub x (ix2 b 1) = x (ix3 b 1 1)
    pointwise [RefModel.sub]

theorem bits_at' (x : IVec S32x2 32) (b : Fin 32) (c : Fin 2048) : RefModel.bits x (ix2 b c) = bitsOf (keyAt x b) c.val := by
  have e := lane_block' bcast_S_S32x2048
    (broadcastInDim S32x2048 ![0, 1] bcast_S32x1_S32x2048_0_1 (RefModel.word0 x))
    (broadcastInDim S32x2048 ![0, 1] bcast_S32x1_S32x2048_0_1 (RefModel.word1 x))
    (broadcastInDim S32x2048 ![0, 1] bcast_S32x1_S32x2048_0_1 (RefModel.word2 x))
    (broadcastInDim S32x2048 ![0, 1] bcast_S1x2048_S32x2048_0_1 (broadcastInDim S1x2048 ![1] bcast_S2048_S1x2048_1
      (trunci 32 (Host.shrui RefModel.cols64 (broadcastInDim S2048 ![] bcast_S_S2048 (constantI S_ 64 32#64))) natLt_32_64)))
    (broadcastInDim S32x2048 ![0, 1] bcast_S1x2048_S32x2048_0_1 (broadcastInDim S1x2048 ![1] bcast_S2048_S1x2048_1
      (trunci 32 RefModel.cols64 natLt_32_64))) (ix2 b c)
  have hw (u : IVec S32x1 32) : (broadcastInDim S32x2048 ![0, 1] bcast_S32x1_S32x2048_0_1 u : IVec S32x2048 32) (ix2 b c) = u (ix2 b 0) := by
    pointwise
  have hc (u : IVec S2048 32) : (broadcastInDim S32x2048 ![0, 1] bcast_S1x2048_S32x2048_0_1 (broadcastInDim S1x2048 ![1] bcast_S2048_S1x2048_1 u) : IVec S32x2048 32) (ix2 b c)
      = u (ix1 c) := by pointwise
  have hx : (trunci 32 (Host.shrui RefModel.cols64 (broadcastInDim S2048 ![] bcast_S_S2048 (constantI S_ 64 32#64))) natLt_32_64 : IVec S2048 32) (ix1 c)
      = 0#32 := high64 c.val (by have := c.isLt; omega)
  have hy : (trunci 32 RefModel.cols64 natLt_32_64 : IVec S2048 32) (ix1 c) = BitVec.ofNat 32 c.val :=
    trunc64 c.val (by have := c.isLt; omega)
  rw [hw, hw, hw, hc, hc, hx, hy, word0_at, word1_at, word2_at] at e
  show (lane (RefModel.block _ _ _ _ _ _) (ix2 b c)).1 ^^^ (lane (RefModel.block _ _ _ _ _ _) (ix2 b c)).2 = _
  rw [e]
  rfl

theorem split1_at (b : Fin 32) (t : Fin 2) :
    ((RefModel.split1 (ix3 b t 0), RefModel.split1 (ix3 b t 1)) : Pair) = tf (rowKey b.val) (0#32, BitVec.ofNat 32 t.val) := by
  unfold RefModel.split1
  rw [split_at, rowKeys_at, seed_at]
  rfl

theorem bits1_at' (b : Fin 32) (c : Fin 2048) : RefModel.bits1 (ix2 b c) = h1 b.val c.val := by
  unfold RefModel.bits1
  rw [bits_at', sub_at, split1_at]
  rfl

theorem bits2_at' (b : Fin 32) (c : Fin 2048) : RefModel.bits2 (ix2 b c) = h2 b.val c.val := by
  unfold RefModel.bits2 RefModel.split2
  rw [bits_at', sub_at, split_at, next_at, split1_at]
  rfl

end Reference

end Cert.Words
-- ==== Proof.Columns.lean ====
module

public import proofs.«01_k».proof.Proof.BitsAt
public import Idealize.ShloMosaic.Lib.SortNet.Sorts

/-!
# The columns of the kernel's tiles

What the column masks, the rotations, the reversal of the position bits and its undoing hold at a
row and a column.
-/

@[expose] public section

set_option maxRecDepth 16384

noncomputable section

namespace Cert.Columns

open Idealize.ShloMosaic Cert.KernelIdeal Cert.Words

/-! ## The reversal of eleven bits -/

/-- The bits of `c` below `n`, reversed. -/
def revTo (c : Nat) : Nat → Nat
  | 0 => 0
  | n + 1 => revTo c n ||| (((c >>> n) &&& 1) <<< (10 - n))

/-- The eleven bits of `c`, reversed. -/
def rev (c : Nat) : Nat := revTo c 11

theorem testBit_low (c n p : Nat) : ((c >>> n) &&& 1).testBit p = (decide (p = 0) && c.testBit n) := by
  cases p with
  | zero => simp
  | succ p =>
    have : (c >>> n % 2).testBit (p + 1) = false :=
      Nat.testBit_lt_two_pow (lt_of_lt_of_le (Nat.mod_lt _ (by decide)) (Nat.le_self_pow (by omega) 2))
    simp [this]

theorem testBit_revTo (c : Nat) (n : Nat) (hn : n ≤ 11) (p : Nat) :
    (revTo c n).testBit p = (decide (p ≤ 10 ∧ 10 - p < n) && c.testBit (10 - p)) := by
  induction n with
  | zero => simp [revTo]
  | succ n ih =>
    rw [revTo, Nat.testBit_or, ih (by omega), Nat.testBit_shiftLeft, testBit_low]
    by_cases h1 : p = 10 - n
    · subst h1
      rw [show 10 - (10 - n) = n by omega]
      simp
    · have a1 : (decide (p - (10 - n) = 0) && c.testBit n) = true → 10 - n ≤ p → False := by
        intro h h2
        simp at h
        omega
      have a2 : (p ≤ 10 ∧ 10 - p < n) ↔ (p ≤ 10 ∧ 10 - p < n + 1) := by omega
      simp only [a2]
      by_cases h2 : 10 - n ≤ p
      · have : (decide (p - (10 - n) = 0) && c.testBit n) = false := by
          by_contra hc
          exact a1 (by simpa using hc) h2
        rw [this]; simp
      · simp [h2]

theorem testBit_rev (c p : Nat) : (rev c).testBit p = (decide (p ≤ 10) && c.testBit (10 - p)) := by
  rw [rev, testBit_revTo c 11 (by omega)]
  have : (p ≤ 10 ∧ 10 - p < 11) ↔ p ≤ 10 := by omega
  simp only [this]

theorem rev_lt (c : Nat) : rev c < 2048 := by
  refine Nat.lt_pow_two_of_testBit (n := 11) _ fun i hi => ?_
  rw [testBit_rev]
  have : ¬ i ≤ 10 := by omega
  simp [this]

theorem rev_rev {c : Nat} (h : c < 2048) : rev (rev c) = c := by
  refine Nat.eq_of_testBit_eq fun i => ?_
  rw [testBit_rev, testBit_rev]
  by_cases hi : i ≤ 10
  · simp [hi, show 10 - (10 - i) = i by omega]
  · have : c.testBit i = false := Nat.testBit_lt_two_pow (lt_of_lt_of_le (show c < 2 ^ 11 from h) (Nat.pow_le_pow_right (by decide) (by omega)))
    simp [hi, this]

/-- The column that holds a position. -/
def phys (i : Fin 2048) : Fin 2048 := ⟨rev i.val, rev_lt _⟩

theorem phys_phys (i : Fin 2048) : phys (phys i) = i := Fin.ext (rev_rev i.isLt)

theorem rev_xor (c s : Nat) (hs : s ≤ 10) : rev (c ^^^ 2 ^ s) = rev c ^^^ 2 ^ (10 - s) := by
  refine Nat.eq_of_testBit_eq fun i => ?_
  rw [testBit_rev, Nat.testBit_xor, Nat.testBit_xor, testBit_rev, Nat.testBit_two_pow, Nat.testBit_two_pow]
  by_cases hi : i ≤ 10
  · have : (s = 10 - i) ↔ (10 - s = i) := by omega
    simp [hi, this]
  · have : ¬ (10 - s = i) := by omega
    simp [hi, this]

/-! ## Masks -/

/-- A word that is one or zero. -/
def bitWord (t : Bool) : BitVec 32 := if t then 1#32 else 0#32

theorem shrsi_at (c p : Nat) (hc : c < 2048) (hp : p < 32) :
    IntOp.shrsi .vector (BitVec.ofNat 32 c) (BitVec.ofNat 32 p) = BitVec.ofNat 32 (c >>> p) := by
  have e : (BitVec.ofNat 32 p).toNat = p := by rw [BitVec.toNat_ofNat]; exact Nat.mod_eq_of_lt (by omega)
  have m : (BitVec.ofNat 32 c).msb = false := by
    rw [BitVec.msb_eq_decide, BitVec.toNat_ofNat]
    simp; omega
  unfold IntOp.shrsi
  rw [if_pos (by rw [e]; exact hp), BitVec.sshiftRight', e, BitVec.sshiftRight_eq_of_msb_false m]
  apply BitVec.eq_of_toNat_eq
  rw [BitVec.toNat_ushiftRight, BitVec.toNat_ofNat, BitVec.toNat_ofNat, Nat.mod_eq_of_lt (by omega),
    Nat.mod_eq_of_lt]
  exact lt_of_le_of_lt (Nat.shiftRight_le _ _) (by omega)

theorem low_bit (c p : Nat) : BitVec.ofNat 32 (c >>> p) &&& BitVec.ofNat 32 1 = bitWord (c.testBit p) := by
  apply BitVec.eq_of_toNat_eq
  rw [BitVec.toNat_and, BitVec.toNat_ofNat, BitVec.toNat_ofNat]
  show (c >>> p) % 2 ^ 32 &&& 1 = _
  rw [Nat.and_one_is_mod, Nat.mod_mod_of_dvd _ (by decide), Nat.testBit_eq_decide_div_mod_eq, Nat.shiftRight_eq_div_pow]
  unfold bitWord
  by_cases h : c / 2 ^ p % 2 = 1
  · simp [h]
  · simp [h]; omega

variable [Facts₀]

theorem colBit_at (p : Nat) (hp : p < 32) (b : Fin 32) (c : Fin 2048) :
    Model.colBit p (ix2 b c) = bitWord (c.val.testBit p) := by
  show IntOp.shrsi .vector (Model.col (ix2 b c)) (BitVec.ofNat 32 p) &&& BitVec.ofNat 32 1 = _
  rw [col_at, shrsi_at _ _ c.isLt hp, low_bit]

theorem revTo_at (n : Nat) (hn : n ≤ 11) (b : Fin 32) (c : Fin 2048) :
    Model.revTo n (ix2 b c) = BitVec.ofNat 32 (revTo c.val n) := by
  induction n with
  | zero => rfl
  | succ n ih =>
    show Model.revTo n (ix2 b c) ||| IntOp.shli .vector (Model.colBit n (ix2 b c)) (BitVec.ofNat 32 (10 - n)) = _
    rw [ih (by omega), shl_num _ _ (by omega), colBit_at _ (by omega), ← low_bit, revTo]
    apply BitVec.eq_of_getLsbD_eq
    intro i hi
    simp only [BitVec.getLsbD_or, BitVec.getLsbD_shiftLeft, BitVec.getLsbD_and, BitVec.getLsbD_ofNat, Nat.testBit_or,
      Nat.testBit_shiftLeft, Nat.testBit_and]
    by_cases h : 10 - n ≤ i
    · have h1 : ¬ i < 10 - n := by omega
      have h2 : i - (10 - n) < 32 := by omega
      simp [h, h1, h2, hi]
    · have h1 : i < 10 - n := by omega
      simp [h, h1, hi]

theorem rev_at (b : Fin 32) (c : Fin 2048) : Model.rev (ix2 b c) = BitVec.ofNat 32 (rev c.val) :=
  revTo_at 11 (Nat.le_refl _) b c

/-! ## Rotations -/

theorem roll_at (r q : Nat) (h : r + q = 2048) (x : Model.Tile) (b : Fin 32) (c : Fin 2048) :
    Model.roll r q h x (ix2 b c) = x (ix2 b ⟨(c.val + r) % 2048, Nat.mod_lt _ (by decide)⟩) := by
  unfold Model.roll
  by_cases hc : c.val < q
  · refine (concatenate_pair_apply_left (s₁ := Model.colShape q) (s₂ := Model.colShape r) 1 _ _ _ (ix2 b c) rfl (ix2 b (⟨c.val, hc⟩ : Fin q)) (fun a => ?_)).trans ?_
    · match a with
      | ⟨0, _⟩ => rfl
      | ⟨1, _⟩ => rfl
    · show x _ = x _
      refine congrArg x (funext fun a => Fin.ext ?_)
      match a with
      | ⟨0, _⟩ => exact Nat.zero_add _
      | ⟨1, _⟩ =>
        show r + c.val = (c.val + r) % 2048
        omega
  · have hl := c.isLt
    refine (concatenate_pair_apply_right (s₁ := Model.colShape q) (s₂ := Model.colShape r) 1 _ _ _ (ix2 b c) rfl rfl (ix2 b (⟨c.val - q, by omega⟩ : Fin r)) (fun a ha => ?_) ?_).trans ?_
    · match a with
      | ⟨0, _⟩ => rfl
      | ⟨1, _⟩ => exact absurd rfl ha
    · show c.val - q + q = c.val
      omega
    · show x _ = x _
      refine congrArg x (funext fun a => Fin.ext ?_)
      match a with
      | ⟨0, _⟩ => exact Nat.zero_add _
      | ⟨1, _⟩ =>
        show 0 + (c.val - q) = (c.val + r) % 2048
        omega

/-- The partner's column. -/
def flipCol (p : Fin 11) (c : Fin 2048) : Fin 2048 :=
  ⟨c.val ^^^ 2 ^ p.val, Nat.xor_lt_two_pow (n := 11) c.isLt (Nat.pow_lt_pow_right (by decide) p.isLt)⟩

theorem partner_sum : ∀ p : Fin 11, ∀ c : Fin 2048,
    (if c.val.testBit p.val then (c.val + (2048 - 2 ^ p.val)) % 2048 else (c.val + 2 ^ p.val) % 2048) = c.val ^^^ 2 ^ p.val := by
  decide +kernel

theorem roll_partner (p : Fin 11) (x : Model.Tile) (b : Fin 32) (c : Fin 2048) :
    (if c.val.testBit p.val then Model.rollR p x (ix2 b c) else Model.rollL p x (ix2 b c)) = x (ix2 b (flipCol p c)) := by
  have h := partner_sum p c
  unfold Model.rollR Model.rollL
  rw [roll_at, roll_at]
  by_cases hc : c.val.testBit p.val = true
  · rw [if_pos hc] at h ⊢
    exact congrArg (fun k => x (ix2 b k)) (Fin.ext h)
  · rw [if_neg hc] at h ⊢
    exact congrArg (fun k => x (ix2 b k)) (Fin.ext h)

theorem xor_pick (u v : BitVec 32) (t : Bool) : u ^^^ ((v ^^^ u) &&& (bitWord t - 1#32)) = if t then u else v := by
  cases t
  · show u ^^^ ((v ^^^ u) &&& (0#32 - 1#32)) = v
    rw [show (0#32 - 1#32) = BitVec.allOnes 32 by decide, BitVec.and_allOnes, BitVec.xor_comm v u, ← BitVec.xor_assoc,
      BitVec.xor_self, BitVec.zero_xor]
  · show u ^^^ ((v ^^^ u) &&& (1#32 - 1#32)) = u
    rw [BitVec.sub_self, BitVec.and_zero, BitVec.xor_zero]

theorem other_at (p : Fin 11) (x : Model.Tile) (b : Fin 32) (c : Fin 2048) :
    Model.other p x (ix2 b c) = x (ix2 b (flipCol p c)) := by
  show Model.rollR p x (ix2 b c) ^^^ ((Model.rollL p x (ix2 b c) ^^^ Model.rollR p x (ix2 b c)) &&& (Model.colBit p.val (ix2 b c) - 1#32)) = _
  rw [colBit_at _ (by omega), xor_pick, roll_partner]

theorem turn_at (a : Nat) (ha : a < 32) (p : Fin 11) (b : Fin 32) (c : Fin 2048) :
    Model.turn a p (ix2 b c) = if (c.val.testBit p.val ^^ c.val.testBit a) then BitVec.allOnes 32 else 0#32 := by
  show 0#32 - (Model.colBit p.val (ix2 b c) ^^^ Model.colBit a (ix2 b c)) = _
  rw [colBit_at _ (by omega), colBit_at _ ha]
  cases c.val.testBit p.val <;> cases c.val.testBit a <;> decide

end Cert.Columns
-- ==== Proof.Network.lean ====
module

public import proofs.«01_k».proof.Proof.Columns

/-!
# The kernel's two sorts

The kernel's stages, read through the reversal of the position bits, are the stages of the bitonic
network on 2048 positions; so both sorts are ascending rearrangements of every row.
-/

@[expose] public section

set_option maxRecDepth 16384

noncomputable section

namespace Cert.Network

open Idealize.ShloMosaic Cert.KernelIdeal Cert.Words Cert.Columns

/-! ## Signed order under a mask -/

theorem toInt_flip (x : BitVec 32) : (x ^^^ BitVec.allOnes 32).toInt = -1 - x.toInt := by
  rw [BitVec.xor_allOnes, BitVec.toInt_eq_toNat_cond, BitVec.toInt_eq_toNat_cond, BitVec.toNat_not]
  have := x.isLt
  split <;> split <;> omega

/-- The mask of a turned block. -/
def mask (t : Bool) : BitVec 32 := if t then BitVec.allOnes 32 else 0#32

theorem slt_mask (t : Bool) (x y : BitVec 32) :
    (x ^^^ mask t).slt (y ^^^ mask t) = if t then decide (y.toInt < x.toInt) else decide (x.toInt < y.toInt) := by
  cases t
  · show (x ^^^ 0#32).slt (y ^^^ 0#32) = decide _
    rw [BitVec.xor_zero, BitVec.xor_zero]
    rfl
  · show (x ^^^ BitVec.allOnes 32).slt (y ^^^ BitVec.allOnes 32) = decide _
    rw [BitVec.slt, toInt_flip, toInt_flip]
    refine decide_eq_decide.2 ?_
    omega

/-- What a position takes: its own word or its partner's. -/
def pick (t : Bool) (x y : BitVec 32) : BitVec 32 := if (x ^^^ mask t).slt (y ^^^ mask t) then x else y

theorem toInt_pick (t : Bool) (x y : BitVec 32) :
    (pick t x y).toInt = if t then max x.toInt y.toInt else min x.toInt y.toInt := by
  unfold pick
  rw [slt_mask]
  cases t
  · by_cases h : x.toInt < y.toInt
    · simp [h, min_eq_left (le_of_lt h)]
    · simp [h, min_eq_right (not_lt.1 h)]
  · by_cases h : y.toInt < x.toInt
    · simp [h, max_eq_left (le_of_lt h)]
    · simp [h, max_eq_right (not_lt.1 h)]

theorem min_pick (t : Bool) (x y : BitVec 32) : IntOp.minsi (x ^^^ mask t) (y ^^^ mask t) ^^^ mask t = pick t x y := by
  unfold IntOp.minsi pick
  by_cases h : (x ^^^ mask t).slt (y ^^^ mask t) = true
  · rw [if_pos h, if_pos h, BitVec.xor_assoc, BitVec.xor_self, BitVec.xor_zero]
  · rw [if_neg h, if_neg h, BitVec.xor_assoc, BitVec.xor_self, BitVec.xor_zero]

variable [Facts₀]

/-! ## One stage at a column -/

/-- Whether a column takes the greater word. -/
def upper (a : Nat) (p : Fin 11) (c : Fin 2048) : Bool := c.val.testBit p.val ^^ c.val.testBit a

theorem stageKey_at (a : Nat) (ha : a < 32) (p : Fin 11) (x : Model.Tile) (b : Fin 32) (c : Fin 2048) :
    Model.stageKey a p x (ix2 b c) = pick (upper a p c) (x (ix2 b c)) (x (ix2 b (flipCol p c))) := by
  rw [← min_pick]
  show IntOp.minsi (x (ix2 b c) ^^^ Model.turn a p (ix2 b c)) (Model.other p x (ix2 b c) ^^^ Model.turn a p (ix2 b c))
    ^^^ Model.turn a p (ix2 b c) = _
  rw [other_at, turn_at a ha]
  rfl

theorem ofBool_one (t : Bool) : (BitVec.ofBool t = 1) = (t = true) := by cases t <;> decide

theorem keeps_at (a : Nat) (ha : a < 32) (p : Fin 11) (x : Model.Tile) (b : Fin 32) (c : Fin 2048) :
    Model.keeps a p x (ix2 b c) = BitVec.ofBool ((x (ix2 b c) ^^^ mask (upper a p c)).slt (x (ix2 b (flipCol p c)) ^^^ mask (upper a p c))) := by
  show BitVec.ofBool ((x (ix2 b c) ^^^ Model.turn a p (ix2 b c)).slt (Model.other p x (ix2 b c) ^^^ Model.turn a p (ix2 b c))) = _
  rw [other_at, turn_at a ha]
  rfl

theorem stagePair_key (a : Nat) (ha : a < 32) (p : Fin 11) (x : Model.Tile × Model.Tile) (b : Fin 32) (c : Fin 2048) :
    (Model.stagePair a p x).1 (ix2 b c) = Model.stageKey a p x.1 (ix2 b c) := by
  rw [stageKey_at a ha]
  show Scalar.select (Model.keeps a p x.1 (ix2 b c)) (x.1 (ix2 b c)) (Model.other p x.1 (ix2 b c)) = _
  rw [keeps_at a ha, other_at, Scalar.select, pick]
  simp only [ofBool_one]

theorem is_clear (t : Bool) : IntOp.cmpi .eq (bitWord t) 0#32 = BitVec.ofBool (!t) := by cases t <;> decide

/-- The value stays beside its key. -/
theorem stagePair_value (a : Nat) (ha : a < 32) (p : Fin 11) (x : Model.Tile × Model.Tile) (b : Fin 32) (g : BitVec 32 → BitVec 32)
    (hg : ∀ c, x.2 (ix2 b c) = g (x.1 (ix2 b c))) (c : Fin 2048) :
    (Model.stagePair a p x).2 (ix2 b c) = g ((Model.stagePair a p x).1 (ix2 b c)) := by
  have e : Scalar.select (IntOp.cmpi .eq (Model.colBit p.val (ix2 b c)) 0#32) (Model.rollL p x.2 (ix2 b c)) (Model.rollR p x.2 (ix2 b c))
      = x.2 (ix2 b (flipCol p c)) := by
    rw [← roll_partner p x.2 b c, colBit_at _ (by omega), is_clear, Scalar.select]
    simp only [ofBool_one]
    cases c.val.testBit p.val <;> rfl
  show Scalar.select (Model.keeps a p x.1 (ix2 b c)) (x.2 (ix2 b c))
    (Scalar.select (IntOp.cmpi .eq (Model.colBit p.val (ix2 b c)) 0#32) (Model.rollL p x.2 (ix2 b c)) (Model.rollR p x.2 (ix2 b c)))
    = g (Scalar.select (Model.keeps a p x.1 (ix2 b c)) (x.1 (ix2 b c)) (Model.other p x.1 (ix2 b c)))
  rw [e, other_at, hg, hg, Scalar.select, Scalar.select]
  split <;> rfl

/-! ## The network -/

/-- A row's words by position. -/
def at' (x : Model.Tile) (b : Fin 32) (i : Fin (2 ^ 11)) : BitVec 32 := x (ix2 b (phys i))

/-- A row's words by position, read signed. -/
def key (x : Model.Tile) (b : Fin 32) (i : Fin (2 ^ 11)) : Int := (at' x b i).toInt

/-- The direction bit's column for a level. -/
def dirBit (l : Nat) : Nat := if l + 1 < 11 then 10 - (l + 1) else 11

theorem dirBit_lt (l : Nat) : dirBit l < 32 := by unfold dirBit; split <;> omega

/-- The distance bit's column. -/
def distBit (s : Nat) : Fin 11 := Fin.ofNat 11 (10 - s)

theorem distBit_val (s : Nat) : (distBit s).val = 10 - s := Nat.mod_eq_of_lt (by omega)

theorem phys_partner (s : Nat) (hs : s < 11) (i : Fin (2 ^ 11)) :
    phys (SortNet.partner 11 s i) = flipCol (distBit s) (phys i) := by
  apply Fin.ext
  show rev (SortNet.partner 11 s i).val = rev i.val ^^^ 2 ^ (distBit s).val
  rw [SortNet.partner_val hs, rev_xor _ _ (by omega), distBit_val]

theorem upper_phys (l s : Nat) (hl : l < 11) (hs : s ≤ l) (i : Fin (2 ^ 11)) :
    upper (dirBit l) (distBit s) (phys i) = (i.val.testBit s ^^ i.val.testBit (l + 1)) := by
  have hi : i.val < 2 ^ 11 := i.isLt
  unfold upper
  show ((rev i.val).testBit _ ^^ (rev i.val).testBit _) = _
  rw [testBit_rev, testBit_rev, distBit_val, show 10 - (10 - s) = s by omega]
  unfold dirBit
  by_cases h : l + 1 < 11
  · rw [if_pos h, show 10 - (10 - (l + 1)) = l + 1 by omega, decide_eq_true (show 10 - s ≤ 10 by omega),
      decide_eq_true (show 10 - (l + 1) ≤ 10 by omega), Bool.true_and, Bool.true_and]
  · rw [if_neg h, show l + 1 = 11 by omega, Nat.testBit_lt_two_pow hi]
    simp

theorem and_pow (i s : Nat) : (i &&& 2 ^ s = 0) ↔ i.testBit s = false := by
  constructor
  · intro h
    have e := congrArg (Nat.testBit · s) h
    simpa [Nat.testBit_and, Nat.testBit_two_pow] using e
  · intro h
    refine Nat.eq_of_testBit_eq fun k => ?_
    rw [Nat.testBit_and, Nat.testBit_two_pow, Nat.zero_testBit]
    by_cases hk : s = k
    · rw [← hk, h, Bool.false_and]
    · rw [decide_eq_false hk, Bool.and_false]

/-- One stage by position. -/
theorem key_stage (l s : Nat) (hl : l < 11) (hs : s ≤ l) (x : Model.Tile) (b : Fin 32) :
    key (Model.stageKey (dirBit l) (distBit s) x) b =
      SortNet.Network.apply (SortNet.stage 11 s fun i => (decide (i.val &&& 2 ^ (l + 1) = 0)) == false) (key x b) := by
  have hs' : s < 11 := by omega
  have here (i : Fin (2 ^ 11)) : key (Model.stageKey (dirBit l) (distBit s) x) b i =
      if (i.val.testBit s ^^ i.val.testBit (l + 1)) then max (key x b i) (key x b (SortNet.partner 11 s i))
      else min (key x b i) (key x b (SortNet.partner 11 s i)) := by
    unfold key at'
    rw [stageKey_at _ (dirBit_lt l), toInt_pick, upper_phys l s hl hs, phys_partner s hs']
  funext j
  by_cases hj : j.val &&& 2 ^ s = 0
  · rw [(SortNet.apply_stage hs' _ (key x b) j hj).1, here, (and_pow _ _).1 hj]
    cases h : j.val.testBit (l + 1)
    · have := (and_pow j.val (l + 1)).2 h
      simp [this]
    · have : ¬ (j.val &&& 2 ^ (l + 1) = 0) := fun e => by rw [(and_pow _ _).1 e] at h; exact absurd h (by decide)
      simp [this]
  · obtain ⟨k, rfl⟩ : ∃ k, j = SortNet.partner 11 s k := ⟨SortNet.partner 11 s j, (SortNet.partner_partner hs' j).symm⟩
    have hk : k.val &&& 2 ^ s = 0 := by
      have := SortNet.partner_and_of_set hs' _ hj
      rwa [SortNet.partner_partner hs'] at this
    rw [(SortNet.apply_stage hs' _ (key x b) k hk).2, here, SortNet.partner_partner hs', SortNet.partner_val hs',
      Nat.testBit_xor, Nat.testBit_xor, Nat.testBit_two_pow, Nat.testBit_two_pow, (and_pow _ _).1 hk]
    have hne : ¬ (s = l + 1) := by omega
    cases h : k.val.testBit (l + 1)
    · have := (and_pow k.val (l + 1)).2 h
      simp [this, hne, max_comm]
    · have : ¬ (k.val &&& 2 ^ (l + 1) = 0) := fun e => by rw [(and_pow _ _).1 e] at h; exact absurd h (by decide)
      simp [this, hne, min_comm]

theorem apply_flatMap {ι : Type} {n : Nat} (L : List ι) (N : ι → SortNet.Network n) (v : Fin n → Int) :
    SortNet.Network.apply (L.flatMap N) v = L.foldl (fun v t => SortNet.Network.apply (N t) v) v := by
  induction L generalizing v with
  | nil => rfl
  | cons t L ih => rw [List.flatMap_cons, SortNet.Network.apply_append, ih]; rfl

/-- The levels and distances in order. -/
def pairs : List (Nat × Nat) := (List.range 11).flatMap fun l => (List.range (l + 1)).reverse.map fun s => (l, s)

theorem pairs_le {t : Nat × Nat} (h : t ∈ pairs) : t.1 < 11 ∧ t.2 ≤ t.1 := by
  unfold pairs at h
  simp only [List.mem_flatMap, List.mem_range, List.mem_map, List.mem_reverse] at h
  obtain ⟨l, hl, s, hs, rfl⟩ := h
  exact ⟨hl, by simpa using Nat.lt_succ_iff.1 hs⟩

theorem stages_eq : Model.stages = pairs.map fun t => (dirBit t.1, distBit t.2) := by
  unfold Model.stages pairs
  rw [List.map_flatMap]
  simp only [List.map_map]
  rfl

theorem sortNet_eq : SortNet.sortNet 11 false =
    pairs.flatMap fun t => SortNet.stage 11 t.2 fun i => (decide (i.val &&& 2 ^ (t.1 + 1) = 0)) == false := by
  unfold SortNet.sortNet pairs
  rw [List.flatMap_assoc]
  simp only [List.flatMap_map]

theorem fold_key (L : List (Nat × Nat)) (hL : ∀ t ∈ L, t.1 < 11 ∧ t.2 ≤ t.1) (x : Model.Tile) (b : Fin 32) :
    key ((L.map fun t => (dirBit t.1, distBit t.2)).foldl (fun y t => Model.stageKey t.1 t.2 y) x) b =
      L.foldl (fun v t => SortNet.Network.apply (SortNet.stage 11 t.2 fun i => (decide (i.val &&& 2 ^ (t.1 + 1) = 0)) == false) v) (key x b) := by
  induction L generalizing x with
  | nil => rfl
  | cons t L ih =>
    have h := hL t (List.mem_cons_self ..)
    rw [List.map_cons, List.foldl_cons, List.foldl_cons, ih (fun u hu => hL u (List.mem_cons_of_mem _ hu)),
      key_stage _ _ h.1 h.2]

/-- The sort of keys by position is the network. -/
theorem key_sortKey (x : Model.Tile) (b : Fin 32) :
    key (Model.sortKey x) b = SortNet.Network.apply (SortNet.sortNet 11 false) (key x b) := by
  unfold Model.sortKey
  rw [stages_eq, fold_key _ (fun _ => pairs_le), sortNet_eq, apply_flatMap]

theorem sortKey_monotone (x : Model.Tile) (b : Fin 32) : Monotone (key (Model.sortKey x) b) := by
  rw [key_sortKey]; exact SortNet.sortNet_apply_monotone 11 _

theorem sortKey_perm (x : Model.Tile) (b : Fin 32) :
    ∃ σ : Equiv.Perm (Fin (2 ^ 11)), key (Model.sortKey x) b = key x b ∘ σ := by
  rw [key_sortKey]; exact SortNet.Network.exists_perm _ _

theorem pair_fold (L : List (Nat × Fin 11)) (hL : ∀ t ∈ L, t.1 < 32) (x : Model.Tile × Model.Tile) (b : Fin 32)
    (g : BitVec 32 → BitVec 32) (hg : ∀ c, x.2 (ix2 b c) = g (x.1 (ix2 b c))) :
    (∀ c, (L.foldl (fun y t => Model.stagePair t.1 t.2 y) x).1 (ix2 b c) = L.foldl (fun y t => Model.stageKey t.1 t.2 y) x.1 (ix2 b c)) ∧
    (∀ c, (L.foldl (fun y t => Model.stagePair t.1 t.2 y) x).2 (ix2 b c) = g ((L.foldl (fun y t => Model.stagePair t.1 t.2 y) x).1 (ix2 b c))) := by
  induction L generalizing x with
  | nil => exact ⟨fun _ => rfl, hg⟩
  | cons t L ih =>
    have ht := hL t (List.mem_cons_self ..)
    have h := ih (fun u hu => hL u (List.mem_cons_of_mem _ hu)) (Model.stagePair t.1 t.2 x) (stagePair_value _ ht _ x b g hg)
    have e : (Model.stagePair t.1 t.2 x).1 = Model.stageKey t.1 t.2 x.1 := by
      funext j
      rw [eq_ix2 j]
      exact stagePair_key _ ht _ x _ _
    rw [List.foldl_cons, List.foldl_cons, ← e]
    exact h

/-- The sort of keys with values: the keys are sorted as alone, and each value stays beside its key. -/
theorem sortPair_at (x : Model.Tile × Model.Tile) (b : Fin 32) (g : BitVec 32 → BitVec 32)
    (hg : ∀ c, x.2 (ix2 b c) = g (x.1 (ix2 b c))) :
    (∀ c, (Model.sortPair x).1 (ix2 b c) = Model.sortKey x.1 (ix2 b c)) ∧
    (∀ c, (Model.sortPair x).2 (ix2 b c) = g ((Model.sortPair x).1 (ix2 b c))) := by
  refine pair_fold Model.stages (fun t ht => ?_) x b g hg
  rw [stages_eq, List.mem_map] at ht
  obtain ⟨u, _, rfl⟩ := ht
  exact dirBit_lt _

end Cert.Network
-- ==== Proof.Lanes.lean ====
module

public import proofs.«01_k».proof.Proof.Words
public import Mathlib.Algebra.BigOperators.Intervals
public import Mathlib.Data.Nat.Bitwise
public import Mathlib.Data.Nat.ModEq
public import Mathlib.Tactic.Ring

/-!
# Many words in one number

Words laid side by side, 64 bits apart, in one natural number: one operation on the number is the
operation on every word.
-/

@[expose] public section

namespace Cert.Lanes

/-- The words `f 0, …, f (n - 1)` side by side. -/
def pack (f : Nat → Nat) : Nat → Nat
  | 0 => 0
  | n + 1 => pack f n + f n * 2 ^ (64 * n)

theorem pack_congr {f g : Nat → Nat} {n : Nat} (h : ∀ i < n, f i = g i) : pack f n = pack g n := by
  induction n with
  | zero => rfl
  | succ n ih => rw [pack, pack, ih (fun i hi => h i (by omega)), h n (by omega)]

theorem pow_next (n : Nat) : 2 ^ (64 * (n + 1)) = 2 ^ 64 * 2 ^ (64 * n) := by rw [Nat.mul_add, Nat.pow_add, Nat.mul_comm]

theorem pack_lt {f : Nat → Nat} {n : Nat} (h : ∀ i < n, f i < 2 ^ 64) : pack f n < 2 ^ (64 * n) := by
  induction n with
  | zero => exact Nat.one_pos
  | succ n ih =>
    have h1 := ih (fun i hi => h i (by omega))
    have h2 := h n (by omega)
    rw [pack, pow_next]
    calc pack f n + f n * 2 ^ (64 * n) < 2 ^ (64 * n) + f n * 2 ^ (64 * n) := by omega
      _ = (f n + 1) * 2 ^ (64 * n) := by ring
      _ ≤ 2 ^ 64 * 2 ^ (64 * n) := Nat.mul_le_mul_right _ h2

theorem pack_add (f g : Nat → Nat) (n : Nat) : pack f n + pack g n = pack (fun i => f i + g i) n := by
  induction n with
  | zero => rfl
  | succ n ih => rw [pack, pack, pack, ← ih]; ring

theorem pack_mul (f : Nat → Nat) (k n : Nat) : pack f n * k = pack (fun i => f i * k) n := by
  induction n with
  | zero => exact Nat.zero_mul k
  | succ n ih => rw [pack, pack, ← ih]; ring

theorem pack_div (f : Nat → Nat) {k : Nat} (hk : 0 < k) (n : Nat) : pack (fun i => f i * k) n / k = pack f n := by
  rw [← pack_mul]; exact Nat.mul_div_cancel _ hk

/-- An operation on numbers that works on blocks of bits. -/
def Bitwise (op : Nat → Nat → Nat) : Prop :=
  (∀ a b k, op a b % 2 ^ k = op (a % 2 ^ k) (b % 2 ^ k)) ∧ (∀ a b k, op a b / 2 ^ k = op (a / 2 ^ k) (b / 2 ^ k)) ∧ op 0 0 = 0

theorem bitwise_and : Bitwise (· &&& ·) :=
  ⟨fun _ _ _ => Nat.and_mod_two_pow, fun _ _ _ => Nat.and_div_two_pow .., rfl⟩
theorem bitwise_or : Bitwise (· ||| ·) :=
  ⟨fun _ _ _ => Nat.or_mod_two_pow, fun _ _ _ => Nat.or_div_two_pow .., rfl⟩
theorem bitwise_xor : Bitwise (· ^^^ ·) :=
  ⟨fun _ _ _ => Nat.xor_mod_two_pow, fun _ _ _ => Nat.xor_div_two_pow .., rfl⟩

theorem pack_op {op : Nat → Nat → Nat} (H : Bitwise op) {f g : Nat → Nat} {n : Nat} (hf : ∀ i < n, f i < 2 ^ 64)
    (hg : ∀ i < n, g i < 2 ^ 64) : op (pack f n) (pack g n) = pack (fun i => op (f i) (g i)) n := by
  induction n with
  | zero => exact H.2.2
  | succ n ih =>
    have lf := pack_lt (n := n) (f := f) (fun i hi => hf i (by omega))
    have lg := pack_lt (n := n) (f := g) (fun i hi => hg i (by omega))
    have e := ih (fun i hi => hf i (by omega)) (fun i hi => hg i (by omega))
    have low (u : Nat → Nat) (lu : pack u n < 2 ^ (64 * n)) : pack u (n + 1) % 2 ^ (64 * n) = pack u n := by
      rw [pack, Nat.add_mul_mod_self_right, Nat.mod_eq_of_lt lu]
    have high (u : Nat → Nat) (lu : pack u n < 2 ^ (64 * n)) : pack u (n + 1) / 2 ^ (64 * n) = u n := by
      rw [pack, Nat.add_mul_div_right _ _ (Nat.two_pow_pos _), Nat.div_eq_of_lt lu, Nat.zero_add]
    rw [← Nat.mod_add_div (op (pack f (n + 1)) (pack g (n + 1))) (2 ^ (64 * n)), H.1, H.2.1, low f lf, low g lg,
      high f lf, high g lg, e, pack, Nat.mul_comm]

theorem pack_inj {f g : Nat → Nat} {n : Nat} (hf : ∀ i < n, f i < 2 ^ 64) (hg : ∀ i < n, g i < 2 ^ 64)
    (h : pack f n = pack g n) : ∀ i < n, f i = g i := by
  induction n with
  | zero => intro i hi; omega
  | succ n ih =>
    have lf := pack_lt (n := n) (f := f) (fun i hi => hf i (by omega))
    have lg := pack_lt (n := n) (f := g) (fun i hi => hg i (by omega))
    have h1 : pack f n = pack g n := by
      have := congrArg (· % 2 ^ (64 * n)) h
      simpa only [pack, Nat.add_mul_mod_self_right, Nat.mod_eq_of_lt lf, Nat.mod_eq_of_lt lg] using this
    have h2 : f n = g n := by
      have := congrArg (· / 2 ^ (64 * n)) h
      simpa only [pack, Nat.add_mul_div_right _ _ (Nat.two_pow_pos _), Nat.div_eq_of_lt lf, Nat.div_eq_of_lt lg,
        Nat.zero_add] using this
    intro i hi
    rcases Nat.lt_succ_iff_lt_or_eq.1 hi with hi | rfl
    · exact ih (fun i hi => hf i (by omega)) (fun i hi => hg i (by omega)) h1 i hi
    · exact h2

/-- The words from the `d`th on. -/
theorem pack_drop {f : Nat → Nat} (hf : ∀ i, f i < 2 ^ 64) (d n : Nat) :
    pack f (n + d) / 2 ^ (64 * d) = pack (fun i => f (i + d)) n := by
  induction n with
  | zero => rw [Nat.zero_add]; exact Nat.div_eq_of_lt (pack_lt fun i _ => hf i)
  | succ n ih =>
    rw [show n + 1 + d = (n + d) + 1 by omega, pack, pack, ← ih, show 64 * (n + d) = 64 * n + 64 * d by omega,
      Nat.pow_add, ← Nat.mul_assoc, Nat.add_mul_div_right _ _ (Nat.two_pow_pos _)]

theorem pack_extend {f : Nat → Nat} {n m : Nat} (hm : n ≤ m) (h : ∀ i, n ≤ i → i < m → f i = 0) : pack f m = pack f n := by
  induction m with
  | zero => rw [Nat.le_zero.1 hm]
  | succ m ih =>
    rcases Nat.lt_succ_iff_lt_or_eq.1 (Nat.lt_succ_of_le hm) with h1 | rfl
    · rw [pack, ih (by omega) (fun i hi hi' => h i hi (by omega)), h m (by omega) (by omega), Nat.zero_mul, Nat.add_zero]
    · rfl

/-- The words' sum. -/
theorem pack_sum (f : Nat → Nat) (n : Nat) : pack f n ≡ ∑ i ∈ Finset.range n, f i [MOD (2 ^ 64 - 1)] := by
  induction n with
  | zero => rfl
  | succ n ih =>
    rw [pack, Finset.sum_range_succ]
    have h1 : 2 ^ (64 * n) ≡ 1 [MOD (2 ^ 64 - 1)] := by
      have : 2 ^ 64 ≡ 1 [MOD (2 ^ 64 - 1)] := by decide
      have := this.pow n
      rwa [← Nat.pow_mul, Nat.one_pow] at this
    have := (Nat.ModEq.refl (f n)).mul h1
    rw [Nat.mul_one] at this
    exact ih.add this

end Cert.Lanes
-- ==== Proof.Wide.lean ====
module

public import proofs.«01_k».proof.Proof.Lanes

/-!
# The generator on a row at once

The generator on all 2048 counters of one row, as one number of 2048 words side by side.
-/

@[expose] public section

namespace Cert.Lanes

open Cert.Words

/-- A one in every word. -/
def one : Nat := pack (fun _ => 1) 2048
/-- The low half of every word. -/
def lowHalf : Nat := one * (2 ^ 32 - 1)
/-- The high half of every word. -/
def highHalf : Nat := one * ((2 ^ 32 - 1) * 2 ^ 32)
/-- The bit above the low half of every word. -/
def carry : Nat := one * 2 ^ 32

/-- The number holds the words of `f`. -/
def Holds (X : Nat) (f : Nat → BitVec 32) : Prop := X = pack (fun i => (f i).toNat) 2048

/-- Addition in every word. -/
def wadd (X Y : Nat) : Nat := (X + Y) &&& lowHalf
/-- Rotation of every word. -/
def wrot (r X : Nat) : Nat := ((X * 2 ^ r) &&& lowHalf) ||| (((X * 2 ^ r) &&& highHalf) / 2 ^ 32)
/-- The same word everywhere. -/
def wconst (k : BitVec 32) : Nat := one * k.toNat

/-- One round. -/
def wrnd (r : Nat) (x : Nat × Nat) : Nat × Nat := (wadd x.1 x.2, wrot r x.2 ^^^ wadd x.1 x.2)
/-- The key added after four rounds. -/
def winj (k k' : BitVec 32) (n : Nat) (x : Nat × Nat) : Nat × Nat :=
  (wadd x.1 (wconst k), wadd (wadd x.2 (wconst k')) (wconst (BitVec.ofNat 32 n)))
/-- Four rounds with the first four rotations. -/
def wA (x : Nat × Nat) : Nat × Nat := wrnd 6 (wrnd 26 (wrnd 15 (wrnd 13 x)))
/-- Four rounds with the last four rotations. -/
def wB (x : Nat × Nat) : Nat × Nat := wrnd 24 (wrnd 16 (wrnd 29 (wrnd 17 x)))
/-- The block function. -/
def wblk (k0 k1 k2 : BitVec 32) (x : Nat × Nat) : Nat × Nat :=
  winj k2 k0 5 (wA (winj k1 k2 4 (wB (winj k0 k1 3 (wA (winj k2 k0 2 (wB (winj k1 k2 1
    (wA (wadd x.1 (wconst k0), wadd x.2 (wconst k1)))))))))))
/-- The counters. -/
def counters : Nat := pack (fun i => i) 2048
/-- The bits of a key at every counter. -/
def wbits (k : Pair) : Nat :=
  (wblk k.1 k.2 (third k) (0, counters)).1 ^^^ (wblk k.1 k.2 (third k) (0, counters)).2

theorem low_eq : lowHalf = pack (fun _ => 2 ^ 32 - 1) 2048 := by
  unfold lowHalf one; rw [pack_mul]; exact pack_congr fun _ _ => Nat.one_mul _
theorem high_eq : highHalf = pack (fun _ => (2 ^ 32 - 1) * 2 ^ 32) 2048 := by
  unfold highHalf one; rw [pack_mul]; exact pack_congr fun _ _ => Nat.one_mul _
theorem carry_eq : carry = pack (fun _ => 2 ^ 32) 2048 := by
  unfold carry one; rw [pack_mul]; exact pack_congr fun _ _ => Nat.one_mul _

theorem and_low (a : Nat) : a &&& (2 ^ 32 - 1) = a % 2 ^ 32 := Nat.and_two_pow_sub_one_eq_mod a 32

theorem and_high {a : Nat} (h : a < 2 ^ 64) : a &&& ((2 ^ 32 - 1) * 2 ^ 32) = a / 2 ^ 32 * 2 ^ 32 := by
  have e1 : (a &&& ((2 ^ 32 - 1) * 2 ^ 32)) % 2 ^ 32 = 0 := by
    rw [Nat.and_mod_two_pow, Nat.mul_mod_left, Nat.and_zero]
  have e2 : (a &&& ((2 ^ 32 - 1) * 2 ^ 32)) / 2 ^ 32 = a / 2 ^ 32 := by
    rw [Nat.and_div_two_pow, Nat.mul_div_cancel _ (Nat.two_pow_pos 32), and_low, Nat.mod_eq_of_lt (by omega)]
  rw [← Nat.mod_add_div (a &&& ((2 ^ 32 - 1) * 2 ^ 32)) (2 ^ 32), e1, e2, Nat.zero_add, Nat.mul_comm]

theorem holds_add {X Y : Nat} {f g : Nat → BitVec 32} (hX : Holds X f) (hY : Holds Y g) :
    Holds (wadd X Y) (fun i => f i + g i) := by
  unfold wadd Holds
  rw [hX, hY, low_eq, pack_add, pack_op bitwise_and]
  · refine pack_congr fun i _ => ?_
    show ((f i).toNat + (g i).toNat) &&& (2 ^ 32 - 1) = _
    rw [and_low, BitVec.toNat_add]
  · intro i _; have := (f i).isLt; have := (g i).isLt; omega
  · intro i _; decide

theorem holds_xor {X Y : Nat} {f g : Nat → BitVec 32} (hX : Holds X f) (hY : Holds Y g) :
    Holds (X ^^^ Y) (fun i => f i ^^^ g i) := by
  unfold Holds
  rw [hX, hY, pack_op bitwise_xor]
  · exact pack_congr fun i _ => (BitVec.toNat_xor ..).symm
  · intro i _; have := (f i).isLt; omega
  · intro i _; have := (g i).isLt; omega

theorem holds_const (k : BitVec 32) : Holds (wconst k) (fun _ => k) := by
  unfold wconst Holds one
  rw [pack_mul]
  exact pack_congr fun _ _ => Nat.one_mul _

theorem holds_rot {X : Nat} {f : Nat → BitVec 32} (hX : Holds X f) (r : Nat) (h' : r < 32) :
    Holds (wrot r X) (fun i => (f i <<< r) ||| (f i >>> (32 - r))) := by
  have hp : 2 ^ r ≤ 2 ^ 31 := Nat.pow_le_pow_right (by decide) (by omega)
  have b (i : Nat) : (f i).toNat * 2 ^ r < 2 ^ 64 := by
    calc (f i).toNat * 2 ^ r ≤ (f i).toNat * 2 ^ 31 := Nat.mul_le_mul_left _ hp
      _ < 2 ^ 64 := by have := (f i).isLt; omega
  unfold wrot Holds
  rw [hX, pack_mul, low_eq, high_eq, pack_op bitwise_and (fun i _ => b i) (fun _ _ => by decide),
    pack_op bitwise_and (fun i _ => b i) (fun _ _ => by decide),
    pack_congr (f := fun i => (f i).toNat * 2 ^ r &&& ((2 ^ 32 - 1) * 2 ^ 32)) (fun i _ => and_high (b i)),
    pack_div _ (Nat.two_pow_pos 32), pack_op bitwise_or]
  · refine pack_congr fun i _ => ?_
    show ((f i).toNat * 2 ^ r &&& (2 ^ 32 - 1)) ||| ((f i).toNat * 2 ^ r / 2 ^ 32) = _
    have e : 2 ^ 32 = 2 ^ (32 - r) * 2 ^ r := by rw [← Nat.pow_add]; congr 1; omega
    have e' : (f i).toNat * 2 ^ r / 2 ^ 32 = (f i).toNat / 2 ^ (32 - r) := by
      rw [e]; exact Nat.mul_div_mul_right _ _ (Nat.two_pow_pos r)
    rw [and_low, e', BitVec.toNat_or, BitVec.toNat_shiftLeft, BitVec.toNat_ushiftRight, Nat.shiftLeft_eq,
      Nat.shiftRight_eq_div_pow]
  · intro i _
    show (f i).toNat * 2 ^ r &&& (2 ^ 32 - 1) < _
    rw [and_low]; omega
  · intro i _; have := b i; omega

/-- Both numbers hold the words of a pair. -/
def HoldsP (X : Nat × Nat) (f : Nat → Pair) : Prop := Holds X.1 (fun i => (f i).1) ∧ Holds X.2 (fun i => (f i).2)

theorem holds_rnd {X : Nat × Nat} {f : Nat → Pair} (h : HoldsP X f) (r : Nat) (hr : r < 32) :
    HoldsP (wrnd r X) (fun i => rnd r (f i)) :=
  ⟨holds_add h.1 h.2, holds_xor (holds_rot h.2 r hr) (holds_add h.1 h.2)⟩

theorem holds_inj {X : Nat × Nat} {f : Nat → Pair} (h : HoldsP X f) (k k' : BitVec 32) (n : Nat) :
    HoldsP (winj k k' n X) (fun i => inj k k' n (f i)) :=
  ⟨holds_add h.1 (holds_const k), holds_add (holds_add h.2 (holds_const k')) (holds_const _)⟩

theorem holds_A {X : Nat × Nat} {f : Nat → Pair} (h : HoldsP X f) : HoldsP (wA X) (fun i => rA (f i)) :=
  holds_rnd (holds_rnd (holds_rnd (holds_rnd h 13 (by decide)) 15 (by decide)) 26 (by decide)) 6 (by decide)

theorem holds_B {X : Nat × Nat} {f : Nat → Pair} (h : HoldsP X f) : HoldsP (wB X) (fun i => rB (f i)) :=
  holds_rnd (holds_rnd (holds_rnd (holds_rnd h 17 (by decide)) 29 (by decide)) 16 (by decide)) 24 (by decide)

theorem holds_blk {X : Nat × Nat} {f : Nat → Pair} (h : HoldsP X f) (k0 k1 k2 : BitVec 32) :
    HoldsP (wblk k0 k1 k2 X) (fun i => blk k0 k1 k2 (f i)) := by
  have h0 : HoldsP (wadd X.1 (wconst k0), wadd X.2 (wconst k1)) (fun i => ((f i).1 + k0, (f i).2 + k1)) :=
    ⟨holds_add h.1 (holds_const k0), holds_add h.2 (holds_const k1)⟩
  exact holds_inj (holds_A (holds_inj (holds_B (holds_inj (holds_A (holds_inj (holds_B (holds_inj (holds_A h0)
    k1 k2 1)) k2 k0 2)) k0 k1 3)) k1 k2 4)) k2 k0 5

/-- The number holds the bits of a key. -/
theorem holds_bits (k : Pair) : Holds (wbits k) (bitsOf k) := by
  have h0 : HoldsP (0, counters) (fun i => ((0#32, BitVec.ofNat 32 i) : Pair)) := by
    refine ⟨?_, ?_⟩
    · show 0 = pack (fun _ => 0) 2048
      have := pack_mul (fun _ => 0) 0 2048
      rw [Nat.mul_zero] at this
      exact this
    · show pack (fun i => i) 2048 = _
      refine pack_congr fun i hi => ?_
      rw [BitVec.toNat_ofNat]
      exact (Nat.mod_eq_of_lt (by omega)).symm
  have h := holds_blk h0 k.1 k.2 (third k)
  exact holds_xor h.1 h.2

/-! ## What is read off the number -/

/-- No two words `d` apart are equal, for every `d` up to the given one, and no word is zero. -/
def apart (X : Nat) : Nat → Bool
  | 0 => true
  | d + 1 => Nat.beq (((X ^^^ (X / 2 ^ (64 * (d + 1)))) + lowHalf) &&& carry) carry && apart X d

/-- How many words are at least `P`. -/
def countAbove (X P : Nat) : Nat := (((X + one * (2 ^ 32 - P)) &&& carry) / 2 ^ 32) % (2 ^ 64 - 1)

theorem and_carry {a : Nat} (h : a < 2 ^ 33) : a &&& 2 ^ 32 = if 2 ^ 32 ≤ a then 2 ^ 32 else 0 := by
  have e1 : (a &&& 2 ^ 32) % 2 ^ 32 = 0 := by rw [Nat.and_mod_two_pow, Nat.mod_self, Nat.and_zero]
  have e2 : (a &&& 2 ^ 32) / 2 ^ 32 = a / 2 ^ 32 := by
    rw [Nat.and_div_two_pow, Nat.div_self (Nat.two_pow_pos 32), Nat.and_one_is_mod, Nat.mod_eq_of_lt (by omega)]
  rw [← Nat.mod_add_div (a &&& 2 ^ 32) (2 ^ 32), e1, e2]
  split <;> omega

theorem apart_step {X d : Nat} {f : Nat → BitVec 32} (hX : Holds X f)
    (h : ((X ^^^ (X / 2 ^ (64 * d))) + lowHalf) &&& carry = carry) (hd : d ≤ 2048) :
    ∀ i, i + d < 2048 → f i ≠ f (i + d) := by
  let u : Nat → Nat := fun i => if i < 2048 then (f i).toNat else 0
  have hu : ∀ i, u i < 2 ^ 32 := by
    intro i; show (if _ then _ else _) < _
    split
    · exact (f i).isLt
    · exact Nat.two_pow_pos 32
  have hXu : X = pack u 2048 := hX.trans (pack_congr fun i hi => (if_pos hi).symm)
  have hg : X / 2 ^ (64 * d) = pack (fun i => u (i + d)) 2048 := by
    rw [hXu, show 2048 = (2048 - d) + d by omega, pack_drop (fun i => by have := hu i; omega),
      show 2048 - d + d = 2048 by omega]
    refine (pack_extend (by omega) fun i hi hi' => if_neg (by omega)).symm
  have hxor (i : Nat) : u i ^^^ u (i + d) < 2 ^ 32 := Nat.xor_lt_two_pow (hu _) (hu _)
  rw [hg, hXu, pack_op bitwise_xor (fun i _ => by have := hu i; omega) (fun i _ => by have := hu (i + d); omega), low_eq,
    carry_eq, pack_add, pack_op bitwise_and (fun i _ => by have := hxor i; omega) (fun _ _ => by decide)] at h
  intro i hi e
  have := pack_inj (fun i _ => by
      show (_ &&& _) < _
      exact lt_of_le_of_lt Nat.and_le_right (by decide)) (fun _ _ => by decide) h i (by omega)
  have e' : u i ^^^ u (i + d) = 0 := by
    show (if _ then _ else _) ^^^ (if _ then _ else _) = 0
    rw [if_pos (by omega), if_pos hi, e, Nat.xor_self]
  revert this
  show (u i ^^^ u (i + d)) + (2 ^ 32 - 1) &&& 2 ^ 32 = 2 ^ 32 → False
  rw [e']
  decide

theorem apart_spec {X : Nat} {f : Nat → BitVec 32} (hX : Holds X f) (n : Nat) (hn : n < 2048) (h : apart X n = true) :
    ∀ d, 0 < d → d ≤ n → ∀ i, i + d < 2048 → f i ≠ f (i + d) := by
  induction n with
  | zero => intro d h0 h1; omega
  | succ n ih =>
    rw [apart, Bool.and_eq_true] at h
    intro d h0 h1
    rcases Nat.lt_succ_iff_lt_or_eq.1 (Nat.lt_succ_of_le h1) with h2 | rfl
    · exact ih (by omega) h.2 d h0 (by omega)
    · exact apart_step hX (Nat.eq_of_beq_eq_true h.1) (by omega)

/-- The words are distinct. -/
theorem distinct {X : Nat} {f : Nat → BitVec 32} (hX : Holds X f) (h : apart X 2047 = true) :
    ∀ i j, i < 2048 → j < 2048 → f i = f j → i = j := by
  have H := apart_spec hX 2047 (by decide) h
  intro i j hi hj e
  rcases Nat.lt_trichotomy i j with h1 | h1 | h1
  · exact absurd (e.trans (by rw [show i + (j - i) = j by omega])) (H (j - i) (by omega) (by omega) i (by omega))
  · exact h1
  · exact absurd (e.symm.trans (by rw [show j + (i - j) = i by omega])) (H (i - j) (by omega) (by omega) j (by omega))

theorem countAbove_spec {X P : Nat} {f : Nat → BitVec 32} (hX : Holds X f) (hP : P ≤ 2 ^ 32) :
    countAbove X P = ((Finset.range 2048).filter fun i => P ≤ (f i).toNat).card := by
  have b (i : Nat) : (f i).toNat + (2 ^ 32 - P) < 2 ^ 33 := by have := (f i).isLt; omega
  have e : ((X + one * (2 ^ 32 - P)) &&& carry) / 2 ^ 32 = pack (fun i => if P ≤ (f i).toNat then 1 else 0) 2048 := by
    have e1 : one * (2 ^ 32 - P) = pack (fun _ => 2 ^ 32 - P) 2048 := by
      unfold one; rw [pack_mul]; exact pack_congr fun _ _ => Nat.one_mul _
    rw [hX, e1, pack_add, carry_eq, pack_op bitwise_and (fun i _ => by have := b i; omega) (fun _ _ => by decide),
      ← pack_div (fun i => if P ≤ (f i).toNat then 1 else 0) (Nat.two_pow_pos 32)]
    refine congrArg (· / 2 ^ 32) (pack_congr fun i _ => ?_)
    show (f i).toNat + (2 ^ 32 - P) &&& 2 ^ 32 = _
    rw [and_carry (b i)]
    by_cases h : P ≤ (f i).toNat
    · rw [if_pos (by omega), if_pos h, Nat.one_mul]
    · rw [if_neg (by omega), if_neg h, Nat.zero_mul]
  unfold countAbove
  rw [e, Finset.card_filter]
  have s : _ % _ = _ % _ := pack_sum (fun i => if P ≤ (f i).toNat then 1 else 0) 2048
  refine s.trans (Nat.mod_eq_of_lt ?_)
  rw [← Finset.card_filter]
  refine lt_of_le_of_lt (Finset.card_filter_le _ _) ?_
  rw [Finset.card_range]; decide

end Cert.Lanes
-- ==== Proof.Facts.lean ====
module

public import proofs.«01_k».proof.Proof.Wide

/-!
# The two facts that are computed

The bits of the first round are distinct in every row, and a threshold with exactly 307 bits of the
second round below it is given for every row.
-/

@[expose] public section

set_option maxRecDepth 100000

namespace Cert.Lanes

open Cert.Words

/-- The thresholds' upper seventeen bits. -/
def hints : List Nat :=
  [19063, 18339, 20039, 20507, 20113, 19595, 21711, 21164, 19765, 18565, 21406, 20160, 19200, 20068, 19899, 19495,
   18448, 19336, 19499, 18009, 19973, 20140, 20304, 18575, 20387, 18546, 19300, 20113, 19141, 19493, 20663, 21642]

/-- The threshold of a row. -/
def hint (b : Nat) : Nat := hints.getD b 0 * 2 ^ 15

theorem computed_second : ∀ b : Fin 32, hint b.val ≤ 2 ^ 32 ∧ countAbove (wbits (subKey (nextKey (rowKey b.val)))) (hint b.val) = 1741 := by
  decide +kernel

theorem computed_first : ∀ b : Fin 32, apart (wbits (subKey (rowKey b.val))) 2047 = true := by
  decide +kernel

/-- The bits of the first round are distinct. -/
theorem first_distinct (b : Fin 32) {i j : Nat} (hi : i < 2048) (hj : j < 2048) (h : h1 b.val i = h1 b.val j) : i = j :=
  distinct (holds_bits (subKey (rowKey b.val))) (computed_first b) i j hi hj h

/-- Exactly 307 bits of the second round are below the threshold. -/
theorem second_count (b : Fin 32) : ((Finset.range 2048).filter fun i => (h2 b.val i).toNat < hint b.val).card = 307 := by
  have h := countAbove_spec (holds_bits (subKey (nextKey (rowKey b.val)))) (computed_second b).1
  rw [(computed_second b).2] at h
  have := Finset.card_filter_add_card_filter_not (s := Finset.range 2048) (fun i => hint b.val ≤ (h2 b.val i).toNat)
  rw [Finset.card_range] at this
  have e : (Finset.range 2048).filter (fun i => ¬ hint b.val ≤ (h2 b.val i).toNat) =
      (Finset.range 2048).filter (fun i => (h2 b.val i).toNat < hint b.val) :=
    Finset.filter_congr fun i _ => Nat.not_le
  rw [e] at this
  have h' : 1741 = ((Finset.range 2048).filter fun i => hint b.val ≤ (h2 b.val i).toNat).card := h
  omega

/-- The threshold is a multiple of `2 ^ 15`. -/
theorem hint_dvd (b : Fin 32) : hint b.val = hint b.val / 2 ^ 15 * 2 ^ 15 := by
  unfold hint
  rw [Nat.mul_div_cancel _ (Nat.two_pow_pos 15)]

end Cert.Lanes
-- ==== Proof.Search.lean ====
module

public import proofs.«01_k».proof.Proof.Columns
public import proofs.«01_k».proof.Proof.Facts
public import Idealize.ShloMosaic.Lib.IndicatorCount

/-!
# The kernel's threshold

The kernel's search finds, in every row, a prefix with exactly 307 bits of the second round below it.
-/

@[expose] public section

set_option maxRecDepth 16384

noncomputable section

namespace Cert.Search

open Idealize.ShloMosaic Cert.KernelIdeal Cert.Words Cert.Columns

/-- How many bits of the second round are below `P`. -/
def below (r P : Nat) : Nat := ((Finset.range 2048).filter fun i => (h2 r i).toNat < P).card

theorem below_mono (r : Nat) {P Q : Nat} (h : P ≤ Q) : below r P ≤ below r Q :=
  Finset.card_le_card fun i hi => by
    rw [Finset.mem_filter] at hi ⊢
    exact ⟨hi.1, by omega⟩

theorem below_le (r P : Nat) : below r P ≤ 2048 := by
  have := Finset.card_filter_le (Finset.range 2048) fun i => (h2 r i).toNat < P
  rwa [Finset.card_range] at this

theorem below_zero (r : Nat) : below r 0 = 0 := by
  unfold below
  rw [Finset.filter_false_of_mem fun i _ => Nat.not_lt_zero _, Finset.card_empty]

theorem below_add (r P d : Nat) :
    below r (P + d) = below r P + ((Finset.range 2048).filter fun i => P ≤ (h2 r i).toNat ∧ (h2 r i).toNat < P + d).card := by
  unfold below
  rw [← Finset.card_union_of_disjoint]
  · congr 1
    ext i
    simp only [Finset.mem_filter, Finset.mem_union]
    constructor
    · rintro ⟨h, h'⟩
      by_cases hp : (h2 r i).toNat < P
      · exact .inl ⟨h, hp⟩
      · exact .inr ⟨h, by omega, h'⟩
    · rintro (⟨h, h'⟩ | ⟨h, _, h'⟩)
      · exact ⟨h, by omega⟩
      · exact ⟨h, h'⟩
  · rw [Finset.disjoint_filter]
    intro i _ h h'
    omega

theorem and_upper (x : BitVec 32) (b : Nat) (hb : b < 32) :
    (x &&& BitVec.ofNat 32 (2 ^ 32 - 2 ^ b)).toNat = x.toNat / 2 ^ b * 2 ^ b := by
  have hp : 2 ^ b ≤ 2 ^ 31 := Nat.pow_le_pow_right (by decide) (by omega)
  have hpos : 0 < 2 ^ b := Nat.two_pow_pos b
  have e : 2 ^ 32 = 2 ^ (32 - b) * 2 ^ b := by rw [← Nat.pow_add]; congr 1; omega
  have e' : 2 ^ 32 - 2 ^ b = (2 ^ (32 - b) - 1) * 2 ^ b := by rw [e, Nat.sub_mul, Nat.one_mul]
  rw [BitVec.toNat_and, BitVec.toNat_ofNat, Nat.mod_eq_of_lt (by omega), e']
  have d1 : (x.toNat &&& (2 ^ (32 - b) - 1) * 2 ^ b) % 2 ^ b = 0 := by
    rw [Nat.and_mod_two_pow, Nat.mul_mod_left, Nat.and_zero]
  have d2 : (x.toNat &&& (2 ^ (32 - b) - 1) * 2 ^ b) / 2 ^ b = x.toNat / 2 ^ b := by
    rw [Nat.and_div_two_pow, Nat.mul_div_cancel _ hpos, Nat.and_two_pow_sub_one_eq_mod, Nat.mod_eq_of_lt]
    rw [Nat.div_lt_iff_lt_mul hpos, ← e]
    exact x.isLt
  rw [← Nat.mod_add_div (x.toNat &&& (2 ^ (32 - b) - 1) * 2 ^ b) (2 ^ b), d1, d2, Nat.zero_add, Nat.mul_comm]

variable [Facts₀]
open Facts₀

theorem rowSum_at (v : Model.Tile) (r : Fin 32) :
    shapeCast S32x1 (multiReductionI .add [1] S32 v 0#32 reduces_S32x2048_S32 rfl) shapeCasts_S32_S32x1 (ix2 r 0)
      = Finset.univ.fold IntOp.addi 0#32 fun k : Fin 2048 => v (ix2 r k) := by
  pointwise

theorem card_phys (Q : Nat → Prop) [DecidablePred Q] :
    (Finset.univ.filter fun k : Fin 2048 => Q (phys k).val).card = ((Finset.range 2048).filter Q).card := by
  refine Finset.card_bij (fun k _ => (phys k).val) (fun k hk => ?_) (fun k _ k' _ e => ?_) (fun i hi => ?_)
  · rw [Finset.mem_filter] at hk ⊢
    exact ⟨Finset.mem_range.2 (phys k).isLt, hk.2⟩
  · rw [← phys_phys k, ← phys_phys k', Fin.ext e]
  · rw [Finset.mem_filter, Finset.mem_range] at hi
    exact ⟨phys ⟨i, hi.1⟩, Finset.mem_filter.2 ⟨Finset.mem_univ _, by rw [phys_phys]; exact hi.2⟩, by rw [phys_phys]⟩

theorem bits2_phys (r : Fin 32) (k : Fin 2048) : Model.bits2 (ix2 r k) = h2 r.val (phys k).val :=
  bits2_at r k _ (rev_at r k)

theorem select_bool : ∀ w : Bool, Scalar.select (BitVec.ofBool w) (BitVec.ofNat 32 1) (BitVec.ofNat 32 0) = (BitVec.ofBool w).setWidth 32 := by
  decide

theorem ofBool_eq_one : ∀ w : Bool, BitVec.ofBool w = 1#1 ↔ w = true := by decide

/-- How many words of a row agree with a prefix. -/
theorem agree_at (b : Nat) (hb : b < 32) (t : Model.Cell) (r : Fin 32) (q : Nat) (hq : q * 2 ^ (b + 1) + 2 ^ (b + 1) ≤ 2 ^ 32)
    (ht : t (ix2 r 0) = BitVec.ofNat 32 (q * 2 ^ (b + 1))) :
    Model.agree b t (ix2 r 0) = BitVec.ofNat 32 (below r.val (q * 2 ^ (b + 1) + 2 ^ b) - below r.val (q * 2 ^ (b + 1))) := by
  have hpos : 0 < 2 ^ b := Nat.two_pow_pos b
  have h2p : 2 ^ (b + 1) = 2 * 2 ^ b := by rw [Nat.pow_succ, Nat.mul_comm]
  unfold Model.agree
  rw [rowSum_at, below_add, Nat.add_sub_cancel_left, ← card_phys]
  have e : ∀ k : Fin 2048, select (cmpi .eq (andi Model.bits2 (Model.num S32x2048 (2 ^ 32 - 2 ^ b))) (Model.spread t))
      (Model.num S32x2048 1) (Model.num S32x2048 0) (ix2 r k) =
      (BitVec.ofBool (decide (q * 2 ^ (b + 1) ≤ (h2 r.val (phys k).val).toNat ∧ (h2 r.val (phys k).val).toNat < q * 2 ^ (b + 1) + 2 ^ b))).setWidth 32 := by
    intro k
    show Scalar.select (BitVec.ofBool ((Model.bits2 (ix2 r k) &&& BitVec.ofNat 32 (2 ^ 32 - 2 ^ b)) == Model.spread t (ix2 r k)))
      (BitVec.ofNat 32 1) (BitVec.ofNat 32 0) = _
    rw [spread_at, ht, bits2_phys]
    have key : ((h2 r.val (phys k).val &&& BitVec.ofNat 32 (2 ^ 32 - 2 ^ b)) == BitVec.ofNat 32 (q * 2 ^ (b + 1))) =
        decide (q * 2 ^ (b + 1) ≤ (h2 r.val (phys k).val).toNat ∧ (h2 r.val (phys k).val).toNat < q * 2 ^ (b + 1) + 2 ^ b) := by
      rw [Bool.eq_iff_iff, beq_iff_eq, decide_eq_true_iff, ← BitVec.toNat_inj, and_upper _ _ hb, BitVec.toNat_ofNat,
        Nat.mod_eq_of_lt (by have : 0 < 2 ^ (b + 1) := Nat.two_pow_pos _; omega), h2p, ← Nat.mul_assoc]
      generalize (h2 r.val (phys k).val).toNat = x
      constructor
      · intro h
        have h1 := Nat.div_mul_le_self x (2 ^ b)
        have h2 := Nat.lt_div_mul_add (a := x) hpos
        omega
      · rintro ⟨h1, h2⟩
        have : x / 2 ^ b = q * 2 := by
          refine Nat.div_eq_of_lt_le h1 ?_
          rw [Nat.succ_mul]; exact h2
        rw [this]
    rw [key]
    exact select_bool _
  rw [Finset.fold_congr (fun k _ => e k), IndicatorCount.fold_addi_setWidth_eq_card]
  congr 2
  refine Finset.filter_congr fun k _ => ?_
  exact (ofBool_eq_one _).trans decide_eq_true_iff

/-- What holds of prefix and rest with the bits below `b` still to be found. -/
def Inv (r : Fin 32) (b : Nat) (t : Model.Cell × Model.Cell) : Prop :=
  ∃ q, t.1 (ix2 r 0) = BitVec.ofNat 32 (q * 2 ^ b) ∧ q * 2 ^ b + 2 ^ b ≤ 2 ^ 32 ∧ below r.val (q * 2 ^ b) ≤ 307 ∧
    t.2 (ix2 r 0) = BitVec.ofNat 32 (307 - below r.val (q * 2 ^ b)) ∧ Lanes.hint r.val < q * 2 ^ b + 2 ^ b

theorem sge_small (x y : Nat) (hx : x < 2 ^ 31) (hy : y < 2 ^ 31) :
    IntOp.cmpi .sge (BitVec.ofNat 32 x) (BitVec.ofNat 32 y) = BitVec.ofBool (decide (y ≤ x)) := by
  have h (z : Nat) (hz : z < 2 ^ 31) : (BitVec.ofNat 32 z).toInt = z := by
    rw [BitVec.toInt_eq_toNat_cond, BitVec.toNat_ofNat, Nat.mod_eq_of_lt (by omega), if_pos (by omega)]
  show BitVec.ofBool ((BitVec.ofNat 32 y).sle (BitVec.ofNat 32 x)) = _
  rw [BitVec.sle, h x hx, h y hy]
  exact congrArg BitVec.ofBool (decide_eq_decide.2 Int.ofNat_le)

theorem or_add (q b : Nat) (h : q * 2 ^ (b + 1) + 2 ^ (b + 1) ≤ 2 ^ 32) :
    BitVec.ofNat 32 (q * 2 ^ (b + 1)) ||| BitVec.ofNat 32 (2 ^ b) = BitVec.ofNat 32 (q * 2 ^ (b + 1) + 2 ^ b) := by
  have hpos : 0 < 2 ^ b := Nat.two_pow_pos b
  have h2p : 2 ^ (b + 1) = 2 * 2 ^ b := by rw [Nat.pow_succ, Nat.mul_comm]
  apply BitVec.eq_of_toNat_eq
  rw [BitVec.toNat_or, BitVec.toNat_ofNat, BitVec.toNat_ofNat, BitVec.toNat_ofNat, Nat.mod_eq_of_lt (by omega),
    Nat.mod_eq_of_lt (by omega), Nat.mod_eq_of_lt (by omega), Nat.mul_comm q, Nat.two_pow_add_eq_or_of_lt (by omega)]

theorem inv_step (r : Fin 32) (b : Nat) (hb : b < 32) (t : Model.Cell × Model.Cell) (h : Inv r (b + 1) t) :
    Inv r b (Model.searchStep b t) := by
  obtain ⟨q, h1, h3, h4, h5, h6⟩ := h
  have hpos : 0 < 2 ^ b := Nat.two_pow_pos b
  have h2p : 2 ^ (b + 1) = 2 * 2 ^ b := by rw [Nat.pow_succ, Nat.mul_comm]
  have ha := agree_at b hb t.1 r q h3 h1
  have hm := below_mono r.val (show q * 2 ^ (b + 1) ≤ q * 2 ^ (b + 1) + 2 ^ b by omega)
  have hl := below_le r.val (q * 2 ^ (b + 1) + 2 ^ b)
  have hc : IntOp.cmpi .sge (t.2 (ix2 r 0)) (Model.agree b t.1 (ix2 r 0)) =
      BitVec.ofBool (decide (below r.val (q * 2 ^ (b + 1) + 2 ^ b) - below r.val (q * 2 ^ (b + 1)) ≤ 307 - below r.val (q * 2 ^ (b + 1)))) := by
    rw [h5, ha, sge_small _ _ (by omega) (by omega)]
  have s1 : (Model.searchStep b t).1 (ix2 r 0) = Scalar.select (IntOp.cmpi .sge (t.2 (ix2 r 0)) (Model.agree b t.1 (ix2 r 0)))
      (t.1 (ix2 r 0) ||| BitVec.ofNat 32 (2 ^ b)) (t.1 (ix2 r 0)) := rfl
  have s2 : (Model.searchStep b t).2 (ix2 r 0) = Scalar.select (IntOp.cmpi .sge (t.2 (ix2 r 0)) (Model.agree b t.1 (ix2 r 0)))
      (t.2 (ix2 r 0) - Model.agree b t.1 (ix2 r 0)) (t.2 (ix2 r 0)) := rfl
  rw [hc] at s1 s2
  by_cases hd : below r.val (q * 2 ^ (b + 1) + 2 ^ b) - below r.val (q * 2 ^ (b + 1)) ≤ 307 - below r.val (q * 2 ^ (b + 1))
  · have e : (2 * q + 1) * 2 ^ b = q * 2 ^ (b + 1) + 2 ^ b := by rw [h2p]; ring
    refine ⟨2 * q + 1, ?_⟩
    rw [s1, s2, decide_eq_true hd, e]
    refine ⟨?_, by omega, by omega, ?_, by omega⟩
    · show t.1 (ix2 r 0) ||| BitVec.ofNat 32 (2 ^ b) = _
      rw [h1, or_add _ _ h3]
    · show t.2 (ix2 r 0) - Model.agree b t.1 (ix2 r 0) = _
      rw [h5, ha]
      apply BitVec.eq_of_toNat_eq
      rw [BitVec.toNat_sub, BitVec.toNat_ofNat, BitVec.toNat_ofNat, BitVec.toNat_ofNat]
      omega
  · have e : (2 * q) * 2 ^ b = q * 2 ^ (b + 1) := by rw [h2p]; ring
    refine ⟨2 * q, ?_⟩
    rw [s1, s2, decide_eq_false hd, e]
    refine ⟨h1, by omega, h4, h5, ?_⟩
    by_contra hp
    have := below_mono r.val (Nat.not_lt.1 hp)
    have hh : below r.val (Lanes.hint r.val) = 307 := Lanes.second_count r
    omega

theorem inv_start (r : Fin 32) : Inv r 32 (Model.num S32x1 0, Model.num S32x1 307) := by
  refine ⟨0, ?_, ?_, ?_, ?_, ?_⟩
  · rw [Nat.zero_mul]; rfl
  · omega
  · rw [Nat.zero_mul, below_zero]; omega
  · rw [Nat.zero_mul, below_zero]; rfl
  · have hh : below r.val (Lanes.hint r.val) = 307 := Lanes.second_count r
    have := (Lanes.computed_second r).1
    have hlt : ∀ r : Fin 32, Lanes.hint r.val < 2 ^ 32 := by decide
    have := hlt r
    omega

theorem inv_fold (r : Fin 32) (n : Nat) (hn : n ≤ 32) :
    Inv r (32 - n) ((List.range n).foldl (fun t n => Model.searchStep (31 - n) t) (Model.num S32x1 0, Model.num S32x1 307)) := by
  induction n with
  | zero => exact inv_start r
  | succ n ih =>
    rw [List.range_succ, List.foldl_append]
    have := inv_step r (31 - n) (by omega) _ (by rw [show 31 - n + 1 = 32 - n by omega]; exact ih (by omega))
    rw [show 32 - (n + 1) = 31 - n by omega]
    exact this

/-- The found prefix has exactly 307 bits below it. -/
theorem search_at (r : Fin 32) : ∃ P, P < 2 ^ 32 ∧ Model.search.1 (ix2 r 0) = BitVec.ofNat 32 P ∧ below r.val P = 307 := by
  obtain ⟨q, h1, h3, h4, _, h6⟩ := inv_fold r 17 (by omega)
  refine ⟨q * 2 ^ 15, by omega, h1, Nat.le_antisymm h4 ?_⟩
  have hd := Lanes.hint_dvd r
  have hh : below r.val (Lanes.hint r.val) = 307 := Lanes.second_count r
  rw [← hh]
  refine below_mono _ ?_
  change Lanes.hint r.val < q * 2 ^ 15 + 2 ^ 15 at h6
  omega

end Cert.Search
-- ==== Proof.Mask.lean ====
module

public import proofs.«01_k».proof.Proof.Network
public import proofs.«01_k».proof.Proof.Search

/-!
# The bit the kernel stores

In every row the kernel's bit at a column says whether the column's place in the first order has a
bit of the second round at or above a threshold with exactly 307 such bits below it.
-/

@[expose] public section

set_option maxRecDepth 16384

noncomputable section

namespace Cert.Mask

open Idealize.ShloMosaic Cert.KernelIdeal Cert.Words Cert.Columns Cert.Network

/-- Two ascending lists of the same things are the same list. -/
theorem ascending_unique {n : Nat} {f g : Fin n → Int} (hf : StrictMono f) (hg : StrictMono g) (h : Set.range f = Set.range g) :
    f = g := (StrictMono.range_inj hf hg).1 h

/-- An ascending permutation moves nothing. -/
theorem perm_ascending {n : Nat} (ρ : Equiv.Perm (Fin n)) (h : Monotone ρ) (i : Fin n) : ρ i = i := by
  have hs : StrictMono ρ := h.strictMono_of_injective ρ.injective
  have e : (ρ : Fin n → Fin n) = id := (StrictMono.range_inj hs strictMono_id).1 (by rw [ρ.surjective.range_eq, Set.range_id])
  exact congrFun e i

/-! ## Undoing the reversal -/

/-- The column an exchange reads. -/
def swapCol (i j r q : Nat) (c : Fin 2048) : Fin 2048 :=
  if (c.val.testBit i ^^ c.val.testBit j) then
    (if c.val.testBit i then ⟨(c.val + r) % 2048, Nat.mod_lt _ (by decide)⟩ else ⟨(c.val + q) % 2048, Nat.mod_lt _ (by decide)⟩)
  else c

theorem swaps_rev : ∀ c : Fin 2048, swapCol 0 10 1023 1025 (swapCol 1 9 510 1538 (swapCol 2 8 252 1796 (swapCol 3 7 120 1928
    (swapCol 4 6 48 2000 c)))) = phys c := by
  decide +kernel

variable [Facts₀]

theorem bitMask_at (i : Nat) (hi : i < 32) (b : Fin 32) (c : Fin 2048) :
    Model.bitMask i (ix2 b c) = mask (c.val.testBit i) := by
  show 0#32 - Model.colBit i (ix2 b c) = _
  rw [colBit_at _ hi]
  cases c.val.testBit i <;> decide

theorem and_split (x y z : BitVec 32) : (x ^^^ y) &&& z = (x &&& z) ^^^ (y &&& z) := by
  ext i
  simp only [BitVec.getElem_and, BitVec.getElem_xor]
  exact Bool.and_xor_distrib_right _ _ _

theorem diffMask_at (i j : Nat) (hi : i < 32) (hj : j < 32) (b : Fin 32) (c : Fin 2048) :
    Model.diffMask i j (ix2 b c) = mask (c.val.testBit i ^^ c.val.testBit j) := by
  have e : (IntOp.shrsi .vector (Model.col (ix2 b c)) (BitVec.ofNat 32 i) ^^^ IntOp.shrsi .vector (Model.col (ix2 b c)) (BitVec.ofNat 32 j))
      &&& BitVec.ofNat 32 1 = bitWord (c.val.testBit i) ^^^ bitWord (c.val.testBit j) := by
    rw [col_at, shrsi_at _ _ c.isLt hi, shrsi_at _ _ c.isLt hj, ← low_bit, ← low_bit, and_split]
  show 0#32 - ((IntOp.shrsi .vector (Model.col (ix2 b c)) (BitVec.ofNat 32 i) ^^^ IntOp.shrsi .vector (Model.col (ix2 b c)) (BitVec.ofNat 32 j))
      &&& BitVec.ofNat 32 1) = _
  rw [e]
  cases c.val.testBit i <;> cases c.val.testBit j <;> decide

theorem choose_mask (u v w : BitVec 32) (s t : Bool) :
    (u &&& (mask s ^^^ 4294967295#32)) ||| (((v &&& mask t) ||| (w &&& (mask t ^^^ 4294967295#32))) &&& mask s) =
      if s then (if t then v else w) else u := by
  have e0 : mask false ^^^ 4294967295#32 = BitVec.allOnes 32 := by decide
  have e1 : mask true ^^^ 4294967295#32 = 0#32 := by decide
  have m0 : mask false = 0#32 := rfl
  have m1 : mask true = BitVec.allOnes 32 := rfl
  cases s
  · rw [e0, m0, BitVec.and_allOnes, BitVec.and_zero, BitVec.or_zero]; rfl
  · rw [e1, m1, BitVec.and_zero, BitVec.and_allOnes, BitVec.zero_or]
    cases t
    · rw [e0, m0, BitVec.and_allOnes, BitVec.and_zero, BitVec.zero_or]; rfl
    · rw [e1, m1, BitVec.and_zero, BitVec.and_allOnes, BitVec.or_zero]; rfl

theorem swapBits_at (i j r q : Nat) (hi : i < 32) (hj : j < 32) (h : r + q = 2048) (h' : q + r = 2048) (x : Model.Tile)
    (b : Fin 32) (c : Fin 2048) : Model.swapBits i j r q h h' x (ix2 b c) = x (ix2 b (swapCol i j r q c)) := by
  show (x (ix2 b c) &&& (Model.diffMask i j (ix2 b c) ^^^ 4294967295#32)) |||
    (((Model.roll r q h x (ix2 b c) &&& Model.bitMask i (ix2 b c)) |||
      (Model.roll q r h' x (ix2 b c) &&& (Model.bitMask i (ix2 b c) ^^^ 4294967295#32))) &&& Model.diffMask i j (ix2 b c)) = _
  rw [diffMask_at _ _ hi hj, bitMask_at _ hi, choose_mask, roll_at, roll_at]
  unfold swapCol
  split
  · split <;> rfl
  · rfl

theorem unrev_at (x : Model.Tile) (b : Fin 32) (c : Fin 2048) : Model.unrev x (ix2 b c) = x (ix2 b (phys c)) := by
  unfold Model.unrev
  rw [swapBits_at _ _ _ _ (by decide) (by decide), swapBits_at _ _ _ _ (by decide) (by decide),
    swapBits_at _ _ _ _ (by decide) (by decide), swapBits_at _ _ _ _ (by decide) (by decide),
    swapBits_at _ _ _ _ (by decide) (by decide), swaps_rev]

/-! ## The first order -/

theorem toInt_top (x : BitVec 32) : (x ^^^ 2147483648#32).toInt = (x.toNat : Int) - 2 ^ 31 := by
  have hx := x.isLt
  have hd : x.toNat = x.toNat / 2 ^ 31 * 2 ^ 31 + x.toNat % 2 ^ 31 := by omega
  have hq : x.toNat / 2 ^ 31 < 2 := by omega
  have e : (x ^^^ 2147483648#32).toNat = ((x.toNat / 2 ^ 31) ^^^ 1) * 2 ^ 31 + x.toNat % 2 ^ 31 := by
    rw [BitVec.toNat_xor]
    show x.toNat ^^^ 2 ^ 31 = _
    have a1 : (x.toNat ^^^ 2 ^ 31) / 2 ^ 31 = (x.toNat / 2 ^ 31) ^^^ 1 := by
      rw [Nat.xor_div_two_pow, Nat.div_self (Nat.two_pow_pos 31)]
    have a2 : (x.toNat ^^^ 2 ^ 31) % 2 ^ 31 = x.toNat % 2 ^ 31 := by
      rw [Nat.xor_mod_two_pow, Nat.mod_self, Nat.xor_zero]
    rw [← a1, ← a2]; omega
  rw [BitVec.toInt_eq_toNat_cond, e]
  interval_cases hk : x.toNat / 2 ^ 31
  · show (if 2 * ((0 ^^^ 1) * 2 ^ 31 + x.toNat % 2 ^ 31) < 2 ^ 32 then _ else _) = _
    rw [if_neg (by simp only [Nat.zero_xor]; omega)]
    simp only [Nat.zero_xor]
    omega
  · show (if 2 * ((1 ^^^ 1) * 2 ^ 31 + x.toNat % 2 ^ 31) < 2 ^ 32 then _ else _) = _
    rw [if_pos (by simp only [Nat.xor_self]; omega)]
    simp only [Nat.xor_self]
    omega

/-- The first sort's keys. -/
def firstKeys : Model.Tile := xori Model.bits1 (Model.flip _)

theorem rev_phys (i : Fin 2048) : rev (phys i).val = i.val := rev_rev i.isLt

theorem firstKeys_at (b : Fin 32) (c : Fin 2048) : firstKeys (ix2 b c) = h1 b.val (rev c.val) ^^^ 2147483648#32 := by
  show Model.bits1 (ix2 b c) ^^^ _ = _
  rw [bits1_at b c _ (rev_at b c)]
  rfl

theorem firstKeys_injective (b : Fin 32) : Function.Injective fun c : Fin 2048 => firstKeys (ix2 b c) := by
  intro c c' e
  have e : h1 b.val (rev c.val) ^^^ 2147483648#32 = h1 b.val (rev c'.val) ^^^ 2147483648#32 := by
    rw [← firstKeys_at, ← firstKeys_at]; exact e
  have := Lanes.first_distinct b (rev_lt _) (rev_lt _) ((BitVec.xor_left_inj _).1 e)
  exact Fin.ext (by rw [← rev_rev c.isLt, this, rev_rev c'.isLt])

/-- What a sort of keys and of the values they carry leaves, for any keys and values. -/
theorem order_of (b : Fin 32) (w : Nat → BitVec 32) (K V K' V' : Model.Tile) (σ : Equiv.Perm (Fin 2048)) (g : BitVec 32 → BitVec 32)
    (hσ : key K' b = key K b ∘ σ) (hm : Monotone (key K' b)) (hg : ∀ c, V (ix2 b c) = g (K (ix2 b c)))
    (hV : ∀ c, V' (ix2 b c) = g (K' (ix2 b c))) (hv : ∀ i, V (ix2 b (phys i)) = BitVec.ofNat 32 i.val)
    (hk : ∀ i : Fin 2048, (K (ix2 b (phys i))).toInt = ((w i.val).toNat : Int) - 2 ^ 31) :
    (∀ i, V' (ix2 b (phys i)) = BitVec.ofNat 32 (σ i).val) ∧ Monotone fun i => (w (σ i).val).toNat := by
  refine ⟨fun i => ?_, fun i j hij => ?_⟩
  · have e : K' (ix2 b (phys i)) = K (ix2 b (phys (σ i))) := BitVec.eq_of_toInt_eq (congrFun hσ i)
    rw [hV, e, ← hg, hv]
  · have := hm hij
    rw [hσ] at this
    change (K (ix2 b (phys (σ i)))).toInt ≤ (K (ix2 b (phys (σ j)))).toInt at this
    rw [hk, hk] at this
    show (w (σ i).val).toNat ≤ (w (σ j).val).toNat
    omega

theorem order1_eq : Model.order1 = (Model.sortPair (firstKeys, Model.rev)).2 := rfl

theorem rev_carried (b : Fin 32) : ∃ g : BitVec 32 → BitVec 32, ∀ c, Model.rev (ix2 b c) = g (firstKeys (ix2 b c)) :=
  ⟨Function.extend (fun c : Fin 2048 => firstKeys (ix2 b c)) (fun c => Model.rev (ix2 b c)) (fun _ => 0#32), fun c =>
    ((firstKeys_injective b).extend_apply (fun c => Model.rev (ix2 b c)) (fun _ => 0#32) c).symm⟩

/-- The first order is an ascending rearrangement by the bits of the first round. -/
theorem order1_at (b : Fin 32) : ∃ σ : Equiv.Perm (Fin 2048),
    (∀ i, Model.order1 (ix2 b (phys i)) = BitVec.ofNat 32 (σ i).val) ∧
    Monotone fun i => (h1 b.val (σ i).val).toNat := by
  obtain ⟨σ, hσ⟩ := sortKey_perm firstKeys b
  obtain ⟨g, hg⟩ := rev_carried b
  have h := sortPair_at (firstKeys, Model.rev) b g hg
  rw [order1_eq]
  refine ⟨σ, order_of b (h1 b.val) firstKeys Model.rev _ _ σ g hσ (sortKey_monotone firstKeys b) hg (fun c => ?_) (fun i => ?_) fun i => ?_⟩
  · rw [h.2, h.1]
  · rw [rev_at, rev_phys]
  · rw [firstKeys_at, rev_phys, toInt_top]

/-! ## The bit -/

theorem above_at (b : Fin 32) (P : Nat) (hP : P < 2 ^ 32) (hs : Model.search.1 (ix2 b 0) = BitVec.ofNat 32 P) (i : Fin 2048) :
    Model.above (ix2 b (phys i)) = BitVec.ofBool (decide (P ≤ (h2 b.val i.val).toNat)) := by
  show BitVec.ofBool ((Model.spread (xori Model.search.1 (Model.flip _)) (ix2 b (phys i))).sle (Model.bits2 (ix2 b (phys i)) ^^^ 2147483648#32)) = _
  rw [spread_at, bits2_at b _ _ (rev_at b _), rev_phys]
  show BitVec.ofBool ((Model.search.1 (ix2 b 0) ^^^ 2147483648#32).sle _) = _
  rw [hs, BitVec.sle, toInt_top, toInt_top, BitVec.toNat_ofNat, Nat.mod_eq_of_lt hP]
  refine congrArg BitVec.ofBool (decide_eq_decide.2 ?_)
  omega

/-- One for an entry that is kept, else zero. -/
def kept (b P : Nat) (i : Nat) : Nat := if P ≤ (h2 b i).toNat then 1 else 0

theorem kept_le (b P i : Nat) : kept b P i ≤ 1 := by unfold kept; split <;> omega

theorem packed_at (b : Fin 32) (P : Nat) (hP : P < 2 ^ 32) (hs : Model.search.1 (ix2 b 0) = BitVec.ofNat 32 P) (i : Fin 2048)
    (n : Fin 2048) (ho : Model.order1 (ix2 b (phys i)) = BitVec.ofNat 32 n.val) :
    Model.packed (ix2 b (phys i)) = BitVec.ofNat 32 (2 * n.val + kept b.val P i.val) := by
  have hn := n.isLt
  have hk := kept_le b.val P i.val
  have e : Scalar.select (Model.above (ix2 b (phys i))) (BitVec.ofNat 32 1) (BitVec.ofNat 32 0) = BitVec.ofNat 32 (kept b.val P i.val) := by
    rw [above_at b P hP hs, Search.select_bool]
    unfold kept
    by_cases h : P ≤ (h2 b.val i.val).toNat
    · rw [if_pos h, decide_eq_true h]; rfl
    · rw [if_neg h, decide_eq_false h]; rfl
  show IntOp.shli .vector (Model.order1 (ix2 b (phys i))) (BitVec.ofNat 32 1) |||
    Scalar.select (Model.above (ix2 b (phys i))) (BitVec.ofNat 32 1) (BitVec.ofNat 32 0) = _
  rw [e, shl_num _ _ (by decide), ho]
  apply BitVec.eq_of_toNat_eq
  rw [BitVec.toNat_or, BitVec.toNat_shiftLeft, BitVec.toNat_ofNat, BitVec.toNat_ofNat, BitVec.toNat_ofNat, Nat.shiftLeft_eq,
    Nat.mod_eq_of_lt (by omega), Nat.mod_eq_of_lt (by omega), Nat.mod_eq_of_lt (by omega), Nat.mod_eq_of_lt (by omega),
    Nat.mul_comm, ← Nat.two_pow_add_eq_or_of_lt (by omega)]

theorem toInt_small (z : Nat) (hz : z < 2 ^ 31) : (BitVec.ofNat 32 z).toInt = z := by
  rw [BitVec.toInt_eq_toNat_cond, BitVec.toNat_ofNat, Nat.mod_eq_of_lt (by omega), if_pos (by omega)]

/-- Sorting entries that carry a bit below a place brings each bit to its place, for any such entries. -/
theorem placed (b : Fin 32) (e : Nat → Nat) (he : ∀ i, e i ≤ 1) (K K' : Model.Tile) (σ τ : Equiv.Perm (Fin 2048))
    (hK : ∀ i : Fin 2048, K (ix2 b (phys i)) = BitVec.ofNat 32 (2 * (σ i).val + e i.val))
    (hτ : key K' b = key K b ∘ τ) (hmono : Monotone (key K' b)) (i : Fin 2048) :
    K' (ix2 b (phys (σ i))) = BitVec.ofNat 32 (2 * (σ i).val + e i.val) := by
  have hk (i : Fin 2048) : key K b i = ((2 * (σ i).val + e i.val : Nat) : Int) := by
    have := he i.val
    have := (σ i).isLt
    show (K (ix2 b (phys i))).toInt = _
    rw [hK, toInt_small _ (by omega)]
  have hid : ∀ k, σ (τ k) = k := by
    refine perm_ascending (τ.trans σ) fun k k' hkk => ?_
    have h := hmono hkk
    rw [hτ] at h
    change key K b (τ k) ≤ key K b (τ k') at h
    rw [hk, hk] at h
    have h1 := he (τ k).val
    have h2 := he (τ k').val
    show (σ (τ k)).val ≤ (σ (τ k')).val
    omega
  have ht : τ (σ i) = i := σ.injective (hid (σ i))
  have h : K' (ix2 b (phys (σ i))) = K (ix2 b (phys (τ (σ i)))) := BitVec.eq_of_toInt_eq (congrFun hτ (σ i))
  rw [h, ht, hK]

theorem low_of_packed (n e : Nat) (he : e ≤ 1) (hn : n < 2048) : BitVec.ofNat 32 (2 * n + e) &&& 1#32 = BitVec.ofNat 32 e := by
  apply BitVec.eq_of_toNat_eq
  have e1 : (BitVec.ofNat 32 (2 * n + e)).toNat = 2 * n + e := by rw [BitVec.toNat_ofNat, Nat.mod_eq_of_lt (by omega)]
  have e2 : (BitVec.ofNat 32 e).toNat = e := by rw [BitVec.toNat_ofNat, Nat.mod_eq_of_lt (by omega)]
  rw [BitVec.toNat_and, e1, e2]
  show _ &&& 1 = _
  rw [Nat.and_one_is_mod]
  omega

theorem maskBit_unrev (b : Fin 32) (c : Fin 2048) : Model.maskBit (ix2 b c) = Model.unrev (Model.sortKey Model.packed) (ix2 b c) &&& 1#32 := rfl

/-- The kernel's bit at a row and a column. -/
theorem maskBit_at (b : Fin 32) : ∃ σ : Equiv.Perm (Fin 2048), (Monotone fun i => (h1 b.val (σ i).val).toNat) ∧
    ∃ P, Search.below b.val P = 307 ∧
      ∀ i, Model.maskBit (ix2 b (σ i)) = BitVec.ofNat 32 (kept b.val P i.val) := by
  obtain ⟨σ, ho, hm⟩ := order1_at b
  obtain ⟨P, hP, hs, hc⟩ := Search.search_at b
  refine ⟨σ, hm, P, hc, fun i => ?_⟩
  obtain ⟨τ, hτ⟩ := sortKey_perm Model.packed b
  rw [maskBit_unrev, unrev_at, placed b (kept b.val P) (kept_le b.val P) Model.packed _ σ τ
    (fun i => packed_at b P hP hs i (σ i) (ho i)) hτ (sortKey_monotone Model.packed b) i]
  exact low_of_packed _ _ (kept_le _ _ _) (σ i).isLt

end Cert.Mask
-- ==== Proof.RefSort.lean ====
module

public import proofs.«01_k».proof.Proof.RefModel
public import proofs.«01_k».proof.Proof.BitsAt
public import proofs.«01_k».proof.Proof.Lanes
public import Idealize.ShloMosaic.Lib.SortFacts
public import Idealize.ShloMosaic.Lib.ScatterToDense.RefScatter
public import Idealize.ShloMosaic.Lib.LaneScatter.Pure

/-!
# The reference's two sorts and its scatter

Each sort of the reference rearranges every row by a permutation that puts the row's bits in
ascending order. The result is zero at the columns that the first 307 entries name and one elsewhere.
-/

@[expose] public section

set_option maxRecDepth 16384

noncomputable section

namespace Cert.RefSort

open Idealize.ShloMosaic Cert.ReferenceIdeal Cert.Words

variable [Facts]
open Facts₀ Facts

/-- The comparison of a sort's keys in one row. -/
def before (w : Nat → BitVec 32) (k k' : Fin 2048) : Bool := decide ((w k.val).toNat < (w k'.val).toNat)

/-- The rearrangement a sort makes of one row. -/
def source (w : Nat → BitVec 32) : Fin 2048 → Fin 2048 := sortedFrom (before w)

theorem source_bijective (w : Nat → BitVec 32) : Function.Bijective (source w) :=
  ⟨sortedFrom_injective _, sortedFrom_surjective _⟩

theorem source_monotone (w : Nat → BitVec 32) : Monotone fun i => (w (source w i).val).toNat := by
  intro i j hij
  rcases Nat.eq_or_lt_of_le (show i.val ≤ j.val from hij) with h | h
  · rw [Fin.ext h]
  · have := sortedFrom_noInversion (before w) (before w)
      (fun a b h => by unfold before at h ⊢; rw [decide_eq_true_eq] at h; exact decide_eq_false (by omega)) (fun _ _ h => h)
      (fun a b c h h' => by unfold before at h h' ⊢; rw [decide_eq_false_iff_not] at h h'; exact decide_eq_false (by omega)) i j h
    unfold before at this
    rw [decide_eq_false_iff_not] at this
    exact Nat.le_of_not_lt this

theorem along_row (b : Fin 32) (i k : Fin 2048) :
    (ix2 b i : S32x2048.Idx).along (1 : Fin 2) k = ix2 b k := by
  funext a
  match a with
  | ⟨0, _⟩ => rfl
  | ⟨1, _⟩ => rfl

theorem sort_at (w : Nat → BitVec 32) (x : IVec S32x2048 32) (y : S32x2048.Idx → BitVec 32) (b : Fin 32)
    (hx : ∀ c : Fin 2048, x (ix2 b c) = w c.val) (i : Fin 2048) :
    (Host.sort2 S32x2048 1 comparator_i32_i32_d1 x y).2 (ix2 b i) = y (ix2 b (source w i)) := by
  unfold Host.sort2
  rw [dif_pos (by decide : 1 < S32x2048.rank)]
  show y ((ix2 b i : S32x2048.Idx).along (1 : Fin 2) (sortedFrom (n := 2048) (fun k k' =>
    comparator_i32_i32_d1 (x ((ix2 b i : S32x2048.Idx).along (1 : Fin 2) k), y ((ix2 b i : S32x2048.Idx).along (1 : Fin 2) k))
      (x ((ix2 b i : S32x2048.Idx).along (1 : Fin 2) k'), y ((ix2 b i : S32x2048.Idx).along (1 : Fin 2) k')) == 1#1) i)) = _
  rw [along_row]
  refine congrArg (fun k => y (ix2 b k)) (congrFun (congrArg sortedFrom ?_) i)
  funext k k'
  rw [along_row, along_row]
  show (BitVec.ofBool ((x (ix2 b k)).ult (x (ix2 b k'))) == 1#1) = _
  rw [hx, hx]
  unfold before BitVec.ult
  by_cases h : (w k.val).toNat < (w k'.val).toNat
  · simp [h]
  · simp [h]

theorem cols_at (b : Fin 32) (c : Fin 2048) :
    broadcastInDim S32x2048 ![1] bcast_S2048_S32x2048_1 (iotaInDim S2048 32 0) (ix2 b c) = BitVec.ofNat 32 c.val := by
  pointwise []

/-- The first order, in a row. -/
def first (b : Fin 32) : Fin 2048 → Fin 2048 := source (h1 b.val)
/-- The second order, in a row. -/
def second (b : Fin 32) : Fin 2048 → Fin 2048 := source (h2 b.val)

theorem order1_at (b : Fin 32) (i : Fin 2048) : RefModel.order1 (ix2 b i) = BitVec.ofNat 32 (first b i).val := by
  unfold RefModel.order1
  rw [sort_at (h1 b.val) _ _ b (fun c => bits1_at' b c), cols_at]
  rfl

theorem order2_at (b : Fin 32) (i : Fin 2048) : RefModel.order2 (ix2 b i) = BitVec.ofNat 32 (first b (second b i)).val := by
  unfold RefModel.order2
  rw [sort_at (h2 b.val) _ _ b (fun c => bits2_at' b c), order1_at]
  rfl

/-! ## The places -/

/-- An entry's place among all of its row's. -/
def wide (j : Fin 307) : Fin 2048 := ⟨j.val, by omega⟩

theorem chosen_at (b : Fin 32) (j : Fin 307) : RefModel.chosen (ix2 b j) = RefModel.order2 (ix2 b (wide j)) := by
  unfold RefModel.chosen
  generalize RefModel.order2 = x
  pointwise []
  rfl

theorem small_kept (n : Nat) (hn : n < 2048) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

theorem rowAt_at (b : Fin 32) : RefModel.rowAt (ix2 b 0) = BitVec.ofNat 32 b.val := by
  have e : RefModel.rowIx (ix2 b 0) = BitVec.ofNat 32 b.val := by
    unfold RefModel.rowIx
    pointwise []
  show Scalar.select (IntOp.cmpi .slt (RefModel.rowIx (ix2 b 0)) 0#32) (RefModel.rowIx (ix2 b 0) + 32#32) (RefModel.rowIx (ix2 b 0)) = _
  rw [e]
  exact small_kept _ (by omega) _

theorem colAt_at (b : Fin 32) (j : Fin 307) : RefModel.colAt (ix2 b j) = BitVec.ofNat 32 (first b (second b (wide j))).val := by
  show Scalar.select (IntOp.cmpi .slt (RefModel.chosen (ix2 b j)) 0#32) (RefModel.chosen (ix2 b j) + 2048#32) (RefModel.chosen (ix2 b j)) = _
  rw [chosen_at, order2_at]
  exact small_kept _ (Fin.isLt _) _

theorem pair_first (x : IVec S32x1 32) (y : IVec S32x307 32) (b : Fin 32) (j : Fin 307) :
    concatenate S32x307x2 2
      [⟨S32x307x1, broadcastInDim S32x307x1 ![0, 1] bcast_S32x307_S32x307x1_0_1
          (broadcastInDim S32x307 ![0, 1] bcast_S32x1_S32x307_0_1 x)⟩,
       ⟨S32x307x1, broadcastInDim S32x307x1 ![0, 1] bcast_S32x307_S32x307x1_0_1 y⟩]
      concatenates_S32x307x1_S32x307x1_S32x307x2_d2 (ix3 b j 0) = x (ix2 b 0) := by
  pointwise []
  try rfl

theorem pair_second (x : IVec S32x1 32) (y : IVec S32x307 32) (b : Fin 32) (j : Fin 307) :
    concatenate S32x307x2 2
      [⟨S32x307x1, broadcastInDim S32x307x1 ![0, 1] bcast_S32x307_S32x307x1_0_1
          (broadcastInDim S32x307 ![0, 1] bcast_S32x1_S32x307_0_1 x)⟩,
       ⟨S32x307x1, broadcastInDim S32x307x1 ![0, 1] bcast_S32x307_S32x307x1_0_1 y⟩]
      concatenates_S32x307x1_S32x307x1_S32x307x2_d2 (ix3 b j 1) = y (ix2 b j) := by
  pointwise []
  try rfl

/-! ## The result -/

/-- The column of entry `n`, for any number. -/
def word (b : Fin 32) (n : Nat) : BitVec 32 :=
  if h : n < 307 then BitVec.ofNat 32 (first b (second b (wide ⟨n, h⟩))).val else 0#32

open ScatterToDense in
theorem result_fold (b : Fin 32) (c : Fin 2048) :
    RefModel.result Ideal (ix2 b c) = GS (word b) (fun _ => (0 : EReal)) (1 : EReal) c.val 307 := by
  unfold RefModel.result
  have h := scatter_eq_GS (T := 32) (C := 2048) (K := 307) scatter_S32x2048_S32x307x2_S32x307_n_01_01_2 rfl rfl rfl (by decide) (by decide)
    (broadcastInDim S32x2048 ![] bcast_S_S32x2048 (constant S_ .f32 0x3F800000#32) : FVec Ideal S32x2048 .f32)
    RefModel.places (broadcastInDim S32x307 ![] bcast_S_S32x307 (constant S_ .f32 0x00000000#32) : FVec Ideal S32x307 .f32)
    word (fun _ _ => (0 : EReal))
    (fun b j => by unfold RefModel.places; exact (pair_first _ _ b j).trans (rowAt_at b))
    (fun b j => by
      unfold RefModel.places
      refine (pair_second _ _ b j).trans ((colAt_at b j).trans ?_)
      unfold word
      rw [dif_pos j.isLt])
    (fun b j => by pointwise []) b c
  refine h.trans (congrArg (fun v => GS (word b) (fun _ => (0 : EReal)) v c.val 307) ?_)
  pointwise []

/-- The result is zero at a column that one of the first 307 entries names. -/
theorem result_named (b : Fin 32) (c : Fin 2048) (j : Fin 307) (h : first b (second b (wide j)) = c) :
    RefModel.result Ideal (ix2 b c) = (0 : EReal) := by
  rw [result_fold]
  rcases LaneScatter.lastHit_cases (fun k => c.val = (word b k).toNat) (fun _ => (0 : EReal)) 1 307 with ⟨k, _, _, _, e⟩ | ⟨hn, _⟩
  · exact e
  · refine absurd ?_ (hn j.val j.isLt)
    unfold word
    rw [dif_pos j.isLt, BitVec.toNat_ofNat, Nat.mod_eq_of_lt (by have := (first b (second b (wide ⟨j.val, j.isLt⟩))).isLt; omega), h]

/-- The result is one at a column that none of the first 307 entries names. -/
theorem result_unnamed (b : Fin 32) (c : Fin 2048) (h : ∀ j : Fin 307, first b (second b (wide j)) ≠ c) :
    RefModel.result Ideal (ix2 b c) = (1 : EReal) := by
  rw [result_fold]
  refine LaneScatter.lastHit_of_none (hit := fun k => c.val = (word b k).toNat) (fun _ => (0 : EReal)) 1 fun k hk e => ?_
  unfold word at e
  rw [dif_pos hk, BitVec.toNat_ofNat, Nat.mod_eq_of_lt (by have := (first b (second b (wide ⟨k, hk⟩))).isLt; omega)] at e
  exact h ⟨k, hk⟩ (Fin.ext e.symm)

end Cert.RefSort
-- ==== Proof.Equal.lean ====
module

public import proofs.«01_k».proof.Proof.Mask
public import proofs.«01_k».proof.Proof.RefSort

/-!
# The two results are equal

The kernel's first order is the reference's, since a row's bits of the first round differ from one
another. The entries below the kernel's threshold are the reference's first 307, since both are the
307 entries with the least bits of the second round.
-/

@[expose] public section

set_option maxRecDepth 16384

noncomputable section

namespace Cert.Equal

open Idealize.ShloMosaic Cert.Words

/-- Two ascending rearrangements of different numbers are the same. -/
theorem same_order (w : Fin 2048 → Nat) (hw : Function.Injective w) (f g : Fin 2048 → Fin 2048) (hf : Function.Bijective f)
    (hg : Function.Bijective g) (mf : Monotone fun i => w (f i)) (mg : Monotone fun i => w (g i)) : f = g := by
  have sf : StrictMono fun i => w (f i) := mf.strictMono_of_injective (hw.comp hf.1)
  have sg : StrictMono fun i => w (g i) := mg.strictMono_of_injective (hw.comp hg.1)
  have e := (StrictMono.range_inj sf sg).1 (by
    rw [show (fun i => w (f i)) = w ∘ f from rfl, show (fun i => w (g i)) = w ∘ g from rfl, hf.2.range_comp, hg.2.range_comp])
  exact funext fun i => hw (congrFun e i)

/-- In an ascending rearrangement the entries below a number come first, so they are those before their count. -/
theorem first_below (w : Fin 2048 → Nat) (g : Fin 2048 → Fin 2048) (hg : Function.Bijective g) (mg : Monotone fun i => w (g i))
    (P n : Nat) (hc : (Finset.univ.filter fun i => w i < P).card = n) (j : Fin 2048) : j.val < n ↔ w (g j) < P := by
  have hcard : (Finset.univ.filter fun j => w (g j) < P).card = n := by
    rw [← hc, ← Finset.card_image_of_injective _ hg.1]
    congr 1
    ext i
    simp only [Finset.mem_image, Finset.mem_filter, Finset.mem_univ, true_and]
    constructor
    · rintro ⟨j, hj, rfl⟩; exact hj
    · intro hi
      obtain ⟨j, rfl⟩ := hg.2 i
      exact ⟨j, hi, rfl⟩
  constructor
  · intro hj
    by_contra hn
    have : (Finset.univ.filter fun j => w (g j) < P).card ≤ (Finset.Iio j).card := Finset.card_le_card fun i hi => by
      rw [Finset.mem_filter] at hi
      rw [Finset.mem_Iio]
      by_contra hij
      have : w (g j) ≤ w (g i) := mg (not_lt.1 hij)
      omega
    rw [Fin.card_Iio] at this
    omega
  · intro hj
    have : (Finset.Iic j).card ≤ (Finset.univ.filter fun j => w (g j) < P).card := Finset.card_le_card fun i hi => by
      rw [Finset.mem_Iic] at hi
      rw [Finset.mem_filter]
      have : w (g i) ≤ w (g j) := mg hi
      exact ⟨Finset.mem_univ _, by omega⟩
    rw [Fin.card_Iic] at this
    omega

/-- The count of the threshold, over the row's entries. -/
theorem below_fin (r P : Nat) : (Finset.univ.filter fun i : Fin 2048 => (h2 r i.val).toNat < P).card = Search.below r P := by
  unfold Search.below
  refine Finset.card_bij (fun i _ => i.val) (fun i hi => ?_) (fun i _ j _ h => Fin.ext h) fun n hn => ?_
  · rw [Finset.mem_filter] at hi ⊢
    exact ⟨Finset.mem_range.2 i.isLt, hi.2⟩
  · rw [Finset.mem_filter, Finset.mem_range] at hn
    exact ⟨⟨n, hn.1⟩, by rw [Finset.mem_filter]; exact ⟨Finset.mem_univ _, hn.2⟩, rfl⟩

theorem real_zero : (FloatOps.sitofp (F := Ideal) .f32 (BitVec.ofNat 32 0) : EReal) = 0 := by
  show (((BitVec.ofNat 32 0).toInt : ℝ) : EReal) = 0
  rw [show (BitVec.ofNat 32 0).toInt = 0 from by decide]
  simp

theorem real_one : (FloatOps.sitofp (F := Ideal) .f32 (BitVec.ofNat 32 1) : EReal) = 1 := by
  show (((BitVec.ofNat 32 1).toInt : ℝ) : EReal) = 1
  rw [show (BitVec.ofNat 32 1).toInt = 1 from by decide]
  simp

variable [Cert.KernelIdeal.Facts₀] [Cert.ReferenceIdeal.Facts]

theorem result_at (b : Fin 32) (c : Fin 2048) :
    Cert.KernelIdeal.Model.stored Ideal (ix2 b c) = Cert.ReferenceIdeal.RefModel.result Ideal (ix2 b c) := by
  obtain ⟨σ, hm, P, hP, hb⟩ := Mask.maskBit_at b
  have hinj : Function.Injective fun i : Fin 2048 => (h1 b.val i.val).toNat := fun i j h =>
    Fin.ext (Lanes.first_distinct b i.isLt j.isLt (BitVec.eq_of_toNat_eq h))
  have hσ : (σ : Fin 2048 → Fin 2048) = RefSort.first b :=
    same_order (fun i => (h1 b.val i.val).toNat) hinj σ (RefSort.first b) σ.bijective (RefSort.source_bijective _) hm (RefSort.source_monotone _)
  have hs (j : Fin 2048) := first_below (fun i => (h2 b.val i.val).toNat) (RefSort.second b) (RefSort.source_bijective _)
    (RefSort.source_monotone _) P 307 ((below_fin b.val P).trans hP) j
  obtain ⟨i, rfl⟩ := σ.surjective c
  show FloatOps.sitofp .f32 (Cert.KernelIdeal.Model.maskBit (ix2 b (σ i))) = _
  rw [hb]
  unfold Mask.kept
  obtain ⟨j, hj⟩ := (RefSort.source_bijective (h2 b.val)).2 i
  have hj : RefSort.second b j = i := hj
  have hs := hs j
  rw [hj] at hs
  by_cases h : P ≤ (h2 b.val i.val).toNat
  · rw [if_pos h, RefSort.result_unnamed b (σ i)]
    · exact real_one
    · intro k hk
      rw [← hσ] at hk
      have e : RefSort.second b (RefSort.wide k) = RefSort.second b j := (σ.injective hk).trans hj.symm
      have e := congrArg Fin.val ((RefSort.source_bijective (h2 b.val)).1 e)
      have : j.val < 307 := by rw [← e]; exact k.isLt
      exact absurd (hs.1 this) (Nat.not_lt.2 h)
  · rw [if_neg h, RefSort.result_named b (σ i) ⟨j.val, hs.2 (Nat.lt_of_not_le h)⟩]
    · exact real_zero
    · rw [← hσ]
      exact congrArg σ hj

theorem result : Cert.KernelIdeal.Model.stored Ideal = Cert.ReferenceIdeal.RefModel.result Ideal :=
  funext fun j => by rw [eq_ix2 j]; exact result_at _ _

end Cert.Equal
-- ==== Proof.lean ====
module

public import proofs.«01_k».proof.Defs
public import proofs.«01_k».proof.Proof.KernelBits
public import proofs.«01_k».proof.Proof.KernelRun
public import proofs.«01_k».proof.Proof.RefValue
public import proofs.«01_k».proof.Proof.Equal

/-!
# The claim
-/

@[expose] public section

noncomputable section

namespace Cert.Proof

open Idealize.ShloMosaic Idealize.SL.Sem

/-- The three programs run, leave their argument as it was and end with every semaphore at zero, and the kernel's
    result is the reference's. -/
theorem claim : Cert.Claim :=
  ⟨Cert.Kernel.Gen.facts, Cert.KernelIdeal.Gen.facts, Cert.ReferenceIdeal.Gen.facts,
    fun m ρ _ => Cert.Kernel.Run.frame m ρ,
    fun m ρ _ => Cert.KernelIdeal.Run.frame m ρ,
    fun m ρ _ => Cert.ReferenceIdeal.RefRun.frame m ρ, trivial,
    fun m g m' g' _ _ => ⟨fun _ => Cert.KernelIdeal.Model.stored Ideal, Cert.KernelIdeal.Run.value m g,
      Equal.result.symm ▸ Cert.ReferenceIdeal.RefRun.value m' g'⟩⟩

end Cert.Proof

end
